-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 1024, 4, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x1024x4x64 : S_.BroadcastsInDim S2x1024x4x64 (![] : Fin 0 → Fin S2x1024x4x64.rank)
  reducesTo_S2x1024x4x64_S_d0_1_2_3 : S2x1024x4x64.ReducesTo [0, 1, 2, 3] S_

variable [Facts]

def fn {F : FTy → Type} [FloatOps F] (main_arg0 : FVec F S2x1024x512 .f32) (main_arg1 : FVec F S512x256 .f32) (main_arg2 : FVec F S2x1024x4x64 .f32) (main_arg3 : FVec F S2x1024x4x64 .f32) (main_arg4 : FVec F S256x512 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x1024x4x64 .f32 := Host.absf main_arg2
  let main_cst_2 : FVec F S_ .f32 := constant S_ .f32 0x7F800000#32
  let main_v10 : FVec F S2x1024x4x64 .f32 := broadcastInDim S2x1024x4x64 ![] bcast_S_S2x1024x4x64 main_cst_2
  let main_v11 : IVec S2x1024x4x64 1 := cmpf .olt main_v9 main_v10
  let main_c_3 : IVec S_ 1 := constantI S_ 1 1#1
  let main_v12 : IVec S_ 1 := (fun x v => Host.reduce IntOp.andi x v reducesTo_S2x1024x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x2x4x128x64 : Shape := ⟨5, ![2, 2, 4, 128, 64]⟩
abbrev S7x2x4x128x64 : Shape := ⟨5, ![7, 2, 4, 128, 64]⟩
abbrev S7 : Shape := ⟨1, ![7]⟩
abbrev S_ : Shape := ⟨0, ![]⟩
abbrev S1x128x1x64 : Shape := ⟨4, ![1, 128, 1, 64]⟩
abbrev S128x64 : Shape := ⟨2, ![128, 64]⟩
abbrev S1x1x1x128x64 : Shape := ⟨5, ![1, 1, 1, 128, 64]⟩
abbrev S1 : Shape := ⟨1, ![1]⟩
abbrev S1x2x4x128x64 : Shape := ⟨5, ![1, 2, 4, 128, 64]⟩
abbrev S2x4x128x64 : Shape := ⟨4, ![2, 4, 128, 64]⟩
abbrev S1x128x512 : Shape := ⟨3, ![1, 128, 512]⟩
abbrev S128x512 : Shape := ⟨2, ![128, 512]⟩
abbrev S128x256 : Shape := ⟨2, ![128, 256]⟩
abbrev S128x4x64 : Shape := ⟨3, ![128, 4, 64]⟩
abbrev S4x128x64 : Shape := ⟨3, ![4, 128, 64]⟩
abbrev S1x4x128x64 : Shape := ⟨4, ![1, 4, 128, 64]⟩
abbrev S1x1x4x128x64 : Shape := ⟨5, ![1, 1, 4, 128, 64]⟩
abbrev S4x128x128 : Shape := ⟨3, ![4, 128, 128]⟩
abbrev S128x128 : Shape := ⟨2, ![128, 128]⟩
abbrev S1x128x128 : Shape := ⟨3, ![1, 128, 128]⟩
abbrev S4x128 : Shape := ⟨2, ![4, 128]⟩
abbrev S4x128x1 : Shape := ⟨3, ![4, 128, 1]⟩
abbrev S1x128x64 : Shape := ⟨3, ![1, 128, 64]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S2x2x4x128x64, .f32⟩
  | .local _ .vmem, ⟨7, _⟩ => ⟨S7x2x4x128x64, .f32⟩
  | .local _ .vmem, ⟨8, _⟩ => ⟨S7x2x4x128x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c2_i32_2 : BitVec 32 := 2#32
  let c2_i32 : BitVec 32 := 2#32
  let v7 : BitVec 32 := Scalar.remsi v3 c2_i32
  let v8 : BitVec 32 := Scalar.muli c2_i32_2 v7
  let v9 : BitVec 32 := Scalar.subi v6 v8
  let v13 : BitVec 32 := Scalar.addi v4 v9
  let c1_i32_8 : BitVec 32 := 1#32
  let v25 : BitVec 32 := Scalar.muli v13 c1_i32_8
  let v26 : BitVec 32 := Scalar.addi c0_i32 v25
  v26.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v14 : BitVec 32 := Scalar.addi v4 v10
  let c1_i32_10 : BitVec 32 := 1#32
  let v27 : BitVec 32 := Scalar.muli v14 c1_i32_10
  let v28 : BitVec 32 := Scalar.addi c0_i32_11 v27
  v28.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v15 : BitVec 32 := Scalar.addi v2 c4_i32_5
  let c8_i32_6 : BitVec 32 := 8#32
  let v16 : BitVec 32 := Scalar.remsi v15 c8_i32_6
  let c1_i32_13 : BitVec 32 := 1#32
  let v29 : BitVec 32 := Scalar.muli v16 c1_i32_13
  let v30 : BitVec 32 := Scalar.addi c0_i32_14 v29
  v30.toNat
def k0_dev4 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c2_i32_2 : BitVec 32 := 2#32
  let c2_i32 : BitVec 32 := 2#32
  let v7 : BitVec 32 := Scalar.remsi v3 c2_i32
  let v8 : BitVec 32 := Scalar.muli c2_i32_2 v7
  let v9 : BitVec 32 := Scalar.subi v6 v8
  let v13 : BitVec 32 := Scalar.addi v4 v9
  let c1_i32_160 : BitVec 32 := 1#32
  let v111 : BitVec 32 := Scalar.muli v13 c1_i32_160
  let v112 : BitVec 32 := Scalar.addi c0_i32_161 v111
  v112.toNat
def k0_dev5 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v15 : BitVec 32 := Scalar.addi v2 c4_i32_5
  let c8_i32_6 : BitVec 32 := 8#32
  let v16 : BitVec 32 := Scalar.remsi v15 c8_i32_6
  let c1_i32_174 : BitVec 32 := 1#32
  let v121 : BitVec 32 := Scalar.muli v16 c1_i32_174
  let v122 : BitVec 32 := Scalar.addi c0_i32_175 v121
  v122.toNat
def k0_dev6 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v14 : BitVec 32 := Scalar.addi v4 v10
  let c1_i32_188 : BitVec 32 := 1#32
  let v131 : BitVec 32 := Scalar.muli v14 c1_i32_188
  let v132 : BitVec 32 := Scalar.addi c0_i32_189 v131
  v132.toNat
def k0_dev7 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v14 : BitVec 32 := Scalar.addi v4 v10
  let c1_i32_202 : BitVec 32 := 1#32
  let v141 : BitVec 32 := Scalar.muli v14 c1_i32_202
  let v142 : BitVec 32 := Scalar.addi c0_i32_203 v141
  v142.toNat
def k0_dev8 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c2_i32_2 : BitVec 32 := 2#32
  let c2_i32 : BitVec 32 := 2#32
  let v7 : BitVec 32 := Scalar.remsi v3 c2_i32
  let v8 : BitVec 32 := Scalar.muli c2_i32_2 v7
  let v9 : BitVec 32 := Scalar.subi v6 v8
  let v13 : BitVec 32 := Scalar.addi v4 v9
  let c1_i32_216 : BitVec 32 := 1#32
  let v151 : BitVec 32 := Scalar.muli v13 c1_i32_216
  let v152 : BitVec 32 := Scalar.addi c0_i32_217 v151
  v152.toNat
def k0_dev9 (d0 : Dev nD) : Nat :=
  let c0_i32_231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v15 : BitVec 32 := Scalar.addi v2 c4_i32_5
  let c8_i32_6 : BitVec 32 := 8#32
  let v16 : BitVec 32 := Scalar.remsi v15 c8_i32_6
  let c1_i32_230 : BitVec 32 := 1#32
  let v161 : BitVec 32 := Scalar.muli v16 c1_i32_230
  let v162 : BitVec 32 := Scalar.addi c0_i32_231 v161
  v162.toNat
def k0_dev10 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v14 : BitVec 32 := Scalar.addi v4 v10
  let c1_i32_269 : BitVec 32 := 1#32
  let v196 : BitVec 32 := Scalar.muli v14 c1_i32_269
  let v197 : BitVec 32 := Scalar.addi c0_i32_270 v196
  v197.toNat
def k0_dev11 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v15 : BitVec 32 := Scalar.addi v2 c4_i32_5
  let c8_i32_6 : BitVec 32 := 8#32
  let v16 : BitVec 32 := Scalar.remsi v15 c8_i32_6
  let c1_i32_283 : BitVec 32 := 1#32
  let v206 : BitVec 32 := Scalar.muli v16 c1_i32_283
  let v207 : BitVec 32 := Scalar.addi c0_i32_284 v206
  v207.toNat
def k0_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c3_i32 : BitVec 32 := 3#32
  let v10 : BitVec 32 := Scalar.subi c3_i32 v3
  let v14 : BitVec 32 := Scalar.addi v4 v10
  let c1_i32_311 : BitVec 32 := 1#32
  let v224 : BitVec 32 := Scalar.muli v14 c1_i32_311
  let v225 : BitVec 32 := Scalar.addi c0_i32_312 v224
  v225.toNat
def k0_dev13 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c2_i32_2 : BitVec 32 := 2#32
  let c2_i32 : BitVec 32 := 2#32
  let v7 : BitVec 32 := Scalar.remsi v3 c2_i32
  let v8 : BitVec 32 := Scalar.muli c2_i32_2 v7
  let v9 : BitVec 32 := Scalar.subi v6 v8
  let v13 : BitVec 32 := Scalar.addi v4 v9
  let c1_i32_325 : BitVec 32 := 1#32
  let v234 : BitVec 32 := Scalar.muli v13 c1_i32_325
  let v235 : BitVec 32 := Scalar.addi c0_i32_326 v234
  v235.toNat
def k0_dev14 (d0 : Dev nD) : Nat :=
  let c0_i32_353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v15 : BitVec 32 := Scalar.addi v2 c4_i32_5
  let c8_i32_6 : BitVec 32 := 8#32
  let v16 : BitVec 32 := Scalar.remsi v15 c8_i32_6
  let c1_i32_352 : BitVec 32 := 1#32
  let v252 : BitVec 32 := Scalar.muli v16 c1_i32_352
  let v253 : BitVec 32 := Scalar.addi c0_i32_353 v252
  v253.toNat
def k0_dev15 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c2_i32_2 : BitVec 32 := 2#32
  let c2_i32 : BitVec 32 := 2#32
  let v7 : BitVec 32 := Scalar.remsi v3 c2_i32
  let v8 : BitVec 32 := Scalar.muli c2_i32_2 v7
  let v9 : BitVec 32 := Scalar.subi v6 v8
  let v13 : BitVec 32 := Scalar.addi v4 v9
  let c1_i32_380 : BitVec 32 := 1#32
  let v270 : BitVec 32 := Scalar.muli v13 c1_i32_380
  let v271 : BitVec 32 := Scalar.addi c0_i32_381 v270
  v271.toNat
def k0_dev16 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v15 : BitVec 32 := Scalar.addi v2 c4_i32_5
  let c8_i32_6 : BitVec 32 := 8#32
  let v16 : BitVec 32 := Scalar.remsi v15 c8_i32_6
  let c1_i32_714 : BitVec 32 := 1#32
  let v1056 : BitVec 32 := Scalar.muli v16 c1_i32_714
  let v1057 : BitVec 32 := Scalar.addi c0_i32_715 v1056
  v1057.toNat
def k0_dev17 (d0 : Dev nD) : Nat :=
  let c0_i32_778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v4 : BitVec 32 := Scalar.subi v2 v3
  let c1_i32_1 : BitVec 32 := 1#32
  let v6 : BitVec 32 := Scalar.addi v3 c1_i32_1
  let c2_i32_2 : BitVec 32 := 2#32
  let c2_i32 : BitVec 32 := 2#32
  let v7 : BitVec 32 := Scalar.remsi v3 c2_i32
  let v8 : BitVec 32 := Scalar.muli c2_i32_2 v7
  let v9 : BitVec 32 := Scalar.subi v6 v8
  let v13 : BitVec 32 := Scalar.addi v4 v9
  let c1_i32_777 : BitVec 32 := 1#32
  let v1170 : BitVec 32 := Scalar.muli v13 c1_i32_777
  let v1171 : BitVec 32 := Scalar.addi c0_i32_778 v1170
  v1171.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x256 : Shape := ⟨2, ![512, 256]⟩
abbrev S2x1024x4x64 : Shape := ⟨4, ![2, 1024, 4, 64]⟩
abbrev S256x512 : Shape := ⟨2, ![256, 512]⟩
abbrev S2x1024x256 : Shape := ⟨3, ![2, 1024, 256]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S2x4x1024x1024 : Shape := ⟨4, ![2, 4, 1024, 1024]⟩
abbrev S1x1x1024x1024 : Shape := ⟨4, ![1, 1, 1024, 1024]⟩
abbrev S2x4x1024 : Shape := ⟨3, ![2, 4, 1024]⟩
abbrev S2x4x1024x1 : Shape := ⟨4, ![2, 4, 1024, 1]⟩
abbrev S1x1x1024x1 : Shape := ⟨4, ![1, 1, 1024, 1]⟩
abbrev S2x4x64x1024 : Shape := ⟨4, ![2, 4, 64, 1024]⟩

abbrev nBuf : Space → Nat
  | .hbm => 123
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x256, .f32⟩
  | .hbm, ⟨2, _⟩ => ⟨S2x1024x4x64, .f32⟩
  | .hbm, ⟨3, _⟩ => ⟨S2x1024x4x64, .f32⟩
  | .hbm, ⟨4, _⟩ => ⟨S256x512, .f32⟩
  | .hbm, ⟨5, _⟩ => ⟨S2x1024x256, .f32⟩
  | .hbm, ⟨6, _⟩ => ⟨S2x1024x4x64, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S2x4x1024x1024, .f32⟩
  | .hbm, ⟨85, _⟩ => ⟨S_, .f32⟩
  | .hbm, ⟨86, _⟩ => ⟨S2x4x1024x1024, .f32⟩
  | .hbm, ⟨87, _⟩ => ⟨S2x4x1024x1024, .f32⟩
  | .hbm, ⟨88, _⟩ => ⟨S1x1x1024x1024, .i1⟩
  | .hbm, ⟨89, _⟩ => ⟨S_, .f32⟩
  | .hbm, ⟨90, _⟩ => ⟨S_, .f32⟩
  | .hbm, ⟨91, _⟩ => ⟨S2x4x1024x1024, .i1⟩
  | .hbm, ⟨92, _⟩ => ⟨S2x4x1024x1024, .f32⟩
  | .hbm, ⟨93, _⟩ => ⟨S2x4x1024x1024, .f32⟩
  | .hbm, ⟨94, _⟩ => ⟨S_, .f32⟩
  | .hbm, ⟨95, _⟩ => ⟨S2x4x1024, .f32⟩
  | .hbm, ⟨96, _⟩ => ⟨S2x4x1024x1, .f32⟩
  | .hbm, ⟨97, _⟩ => ⟨S2x4x1024x1024, .f32⟩
  | .hbm, ⟨98, _⟩ => ⟨S2x4x1024x1024, .f32⟩
  | .hbm, ⟨99, _⟩ => ⟨S2x4x1024x1024, .f32⟩
  | .hbm, ⟨100, _⟩ => ⟨S_, .i1⟩
  | .hbm, ⟨101, _⟩ => ⟨S1024, .i1⟩
  | .hbm, ⟨102, _⟩ => ⟨S1x1x1024x1, .i1⟩
  | .hbm, ⟨103, _⟩ => ⟨S_, .f32⟩
  | .hbm, ⟨104, _⟩ => ⟨S2x4x1024, .f32⟩
  | .hbm, ⟨105, _⟩ => ⟨S2x4x1024x1, .f32⟩
  | .hbm, ⟨106, _⟩ => ⟨S_, .f32⟩
  | .hbm, ⟨107, _⟩ => ⟨S_, .f32⟩
  | .hbm, ⟨108, _⟩ => ⟨S2x4x1024x1, .i1⟩
  | .hbm, ⟨109, _⟩ => ⟨S2x4x1024x1, .f32⟩
  | .hbm, ⟨110, _⟩ => ⟨S2x4x1024x1, .f32⟩
  | .hbm, ⟨111, _⟩ => ⟨S2x4x1024x1024, .f32⟩
  | .hbm, ⟨112, _⟩ => ⟨S2x4x1024x1024, .f32⟩
  | .hbm, ⟨113, _⟩ => ⟨S1x1x1024x1, .i1⟩
  | .hbm, ⟨114, _⟩ => ⟨S_, .f32⟩
  | .hbm, ⟨115, _⟩ => ⟨S_, .f32⟩
  | .hbm, ⟨116, _⟩ => ⟨S2x4x1024x1024, .i1⟩
  | .hbm, ⟨117, _⟩ => ⟨S2x4x1024x1024, .f32⟩
  | .hbm, ⟨118, _⟩ => ⟨S2x4x1024x1024, .f32⟩
  | .hbm, ⟨119, _⟩ => ⟨S2x4x64x1024, .f32⟩
  | .hbm, ⟨120, _⟩ => ⟨S2x1024x4x64, .f32⟩
  | .hbm, ⟨121, _⟩ => ⟨S2x1024x256, .f32⟩
  | .hbm, ⟨122, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Net.lean ====
/-
# The network of the kernel

Eight devices; device `c` talks to three neighbours, which differ from it in a fixed pattern of bits. Two halves of
every device's keys and values travel: half `b` (the batch) goes through the receive buffer `b`. Each half is sent
seven times, so that every device receives the half of each of the seven others once.
This module states who sends what where, and what every buffer holds after it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdx

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## Neighbours and tables -/

/-- The neighbour of device `c` along axis `a`: `c` with the axis's bits flipped. -/
def nb (a : Fin 3) (c : Dev nD) : Dev nD := (![![1, 0, 3, 2, 5, 4, 7, 6], ![3, 2, 1, 0, 7, 6, 5, 4], ![4, 5, 6, 7, 0, 1, 2, 3]] : Fin 3 → Fin 8 → Fin 8) a c

theorem nb_nb (a : Fin 3) (c : Dev nD) : nb a (nb a c) = c := by revert a c; decide
theorem nb_ne (a : Fin 3) (c : Dev nD) : nb a c ≠ c := by revert a c; decide
theorem nb_inj {a a' : Fin 3} {c : Dev nD} (h : nb a c = nb a' c) : a = a' := by revert a a' c; decide

/-- Along one axis the devices pair off. -/
def nbEquiv (a : Fin 3) : Dev nD ≃ Dev nD := ⟨nb a, nb a, nb_nb a, nb_nb a⟩

/-- The axis of send `i` of half `b`. -/
def ax (b : Fin 2) (i : Fin 7) : Fin 3 := (![![0, 1, 2, 1, 2, 2, 2], ![2, 1, 0, 1, 0, 0, 0]] : Fin 2 → Fin 7 → Fin 3) b i
/-- The slot send `i` lands in. -/
def sg (i : Fin 7) : Fin 7 := (![0, 1, 3, 2, 4, 5, 6] : Fin 7 → Fin 7) i
theorem sg_sg (i : Fin 7) : sg (sg i) = i := by revert i; decide
/-- Whose half `b` is in slot `j` of device `c` at the end. -/
def org (b : Fin 2) (j : Fin 7) (c : Dev nD) : Dev nD :=
  (![![fun c => nb 0 c, fun c => nb 1 c, fun c => nb 0 (nb 1 c), fun c => nb 2 c, fun c => nb 2 (nb 0 c), fun c => nb 2 (nb 1 c), fun c => nb 2 (nb 0 (nb 1 c))],
     ![fun c => nb 2 c, fun c => nb 1 c, fun c => nb 2 (nb 1 c), fun c => nb 0 c, fun c => nb 0 (nb 2 c), fun c => nb 0 (nb 1 c), fun c => nb 0 (nb 2 (nb 1 c))]]
    : Fin 2 → Fin 7 → Dev nD → Dev nD) b j c
/-- Whose half send `i` of device `c` carries: its own for the first three, a received one for the others. -/
def sorg (b : Fin 2) (i : Fin 7) (c : Dev nD) : Dev nD :=
  (![fun c => c, fun c => c, fun c => c, fun c => org b 0 c, fun c => org b 0 c, fun c => org b 1 c, fun c => org b 2 c] : Fin 7 → Dev nD → Dev nD) i c

set_option maxRecDepth 4000 in
/-- What is sent is what the receiving slot is to hold. -/
theorem org_send (b : Fin 2) (i : Fin 7) (c : Dev nD) : org b (sg i) (nb (ax b i) c) = sorg b i c := by revert b i c; decide

/-! ## Memrefs and semaphores -/

abbrev mM : Memref sig .tc .vmem S2x2x4x128x64 .f32 := Memref.whole cc0_scratch0
/-- The receive buffer of half `b`. -/
abbrev rM (b : Fin 2) : Memref sig .tc .vmem S7x2x4x128x64 .f32 := match b with | 0 => Memref.whole cc0_scratch1 | 1 => Memref.whole cc0_scratch2

theorem inb_slot (j : Fin 7) : ∀ a, (![j.val, 0, 0, 0, 0] : Fin 5 → Nat) a + S1x2x4x128x64.size a ≤ S7x2x4x128x64.size a := by revert j; decide
theorem inb_half (b : Fin 2) : ∀ a, (![b.val, 0, 0, 0, 0] : Fin 5 → Nat) a + S1x2x4x128x64.size a ≤ S2x2x4x128x64.size a := by revert b; decide

abbrev slotRect (j : Fin 7) : Rect S7x2x4x128x64 := Rect.unit (s := S7x2x4x128x64) ![j.val, 0, 0, 0, 0] S1x2x4x128x64.size (inb_slot j)
abbrev halfRect (b : Fin 2) : Rect S2x2x4x128x64 := Rect.unit (s := S2x2x4x128x64) ![b.val, 0, 0, 0, 0] S1x2x4x128x64.size (inb_half b)

/-- Slot `j` of receive buffer `b`, as the transfers name it. -/
abbrev slot (b : Fin 2) (j : Fin 7) : Memref sig .tc .vmem S2x4x128x64 .f32 :=
  ((rM b).slice (slotRect j) (fun _ => rfl)).squeeze S2x4x128x64 Facts₀.squeezes_S1x2x4x128x64_S2x4x128x64
/-- Half `b` of a device's own keys and values, as the transfers name it. -/
abbrev mslot (b : Fin 2) : Memref sig .tc .vmem S2x4x128x64 .f32 :=
  (mM.slice (halfRect b) (fun _ => rfl)).squeeze S2x4x128x64 Facts₀.squeezes_S1x2x4x128x64_S2x4x128x64
/-- The source of send `i` of half `b`. -/
abbrev srcM (b : Fin 2) (i : Fin 7) : Memref sig .tc .vmem S2x4x128x64 .f32 :=
  match i with | 0 => mslot b | 1 => mslot b | 2 => mslot b | 3 => slot b 0 | 4 => slot b 0 | 5 => slot b 1 | 6 => slot b 2

abbrev barS : Sem sig := (SemArray.scalar (sig.barrier 0 rfl) : Sems sig S_).sem
/-- The semaphore of send `i` of half `b`, and of what lands in slot `j`. -/
def sS (b : Fin 2) (i : Fin 7) : DmaSem sig := ⟨6 + 7 * b.val + i.val, by show _ < 34; omega⟩
def rS (b : Fin 2) (j : Fin 7) : DmaSem sig := ⟨20 + 7 * b.val + j.val, by show _ < 34; omega⟩

abbrev barCell (c : Dev nD) : GSem nD τ sig := ((c : Thread nD τ), .reg barS)
abbrev sCell (b : Fin 2) (i : Fin 7) (c : Dev nD) : GSem nD τ sig := ((c : Thread nD τ), .dma (sS b i))
abbrev rCell (b : Fin 2) (j : Fin 7) (c : Dev nD) : GSem nD τ sig := ((c : Thread nD τ), .dma (rS b j))

/-- What one transfer of a half credits. -/
abbrev N : ℕ := (slot 0 0).view.dmaCredit
theorem N_pos : 0 < N := View.dmaCredit_pos _ (by decide)
theorem slot_credit (b : Fin 2) (j : Fin 7) : (slot b j).view.dmaCredit = N := by
  fin_cases b <;> rfl
theorem mslot_credit (b : Fin 2) : (mslot b).view.dmaCredit = N := rfl

/-! ## Contents -/

section Contents
variable (Kc Vc : Dev nD → (cc0_stg2_0 : Ref sig .tc).ty.Contents (Elt F))

/-- A device's own buffer once filled: at (half, key/value, head, row, column) the key or value of that batch, row,
    head and column. -/
def mineC (c : Dev nD) : (cc0_scratch0 : Ref sig .tc).ty.Contents (Elt F) := fun i =>
  let i : S2x2x4x128x64.Idx := i
  if (i 1).val = 0 then Kc c (ix4 (i 0) (i 3) (i 2) (i 4) : S2x128x4x64.Idx) else Vc c (ix4 (i 0) (i 3) (i 2) (i 4) : S2x128x4x64.Idx)

/-- Receive buffer `b` of device `c` once every half has landed. -/
def recvC (b : Fin 2) (c : Dev nD) : S7x2x4x128x64.Idx → Elt F .f32 := fun i =>
  mineC Kc Vc (org b (i 0) c) (ix5 b (i 1) (i 2) (i 3) (i 4) : S2x2x4x128x64.Idx)

/-- The same at the buffer's own type. -/
def recvB (b : Fin 2) (c : Dev nD) : Buf (Elt F) ((rM b).view.loc (c : Thread nD τ)) :=
  match b with | 0 => recvC Kc Vc 0 c | 1 => recvC Kc Vc 1 c

/-- Half `b` of device `o`, as one transfer carries it. -/
def half (b : Fin 2) (o : Dev nD) : Vec F S2x4x128x64 .f32 := fun x =>
  let z : S1x2x4x128x64.Idx := Shape.reshapeEquiv (Facts₀.squeezes_S1x2x4x128x64_S2x4x128x64 (self := inferInstance)).numel_eq x
  mineC Kc Vc o (ix5 b (z 1) (z 2) (z 3) (z 4) : S2x2x4x128x64.Idx)

omit [FloatOps F] in
theorem emb_slot (j : Fin 7) (z : S1x2x4x128x64.Idx) : (slotRect j).emb z = (ix5 j (z 1) (z 2) (z 3) (z 4) : S7x2x4x128x64.Idx) := by
  funext a
  refine Fin.ext ?_
  rw [Rect.emb_apply]
  have h0 : (z 0).val = 0 := by have := (z 0).isLt; change (z 0).val < 1 at this; omega
  fin_cases a
  · show j.val + 1 * (z 0).val = j.val; omega
  · show 0 + 1 * (z 1).val = (z 1).val; omega
  · show 0 + 1 * (z 2).val = (z 2).val; omega
  · show 0 + 1 * (z 3).val = (z 3).val; omega
  · show 0 + 1 * (z 4).val = (z 4).val; omega

omit [FloatOps F] in
theorem emb_half (j : Fin 2) (z : S1x2x4x128x64.Idx) : (halfRect j).emb z = (ix5 j (z 1) (z 2) (z 3) (z 4) : S2x2x4x128x64.Idx) := by
  funext a
  refine Fin.ext ?_
  rw [Rect.emb_apply]
  have h0 : (z 0).val = 0 := by have := (z 0).isLt; change (z 0).val < 1 at this; omega
  fin_cases a
  · show j.val + 1 * (z 0).val = j.val; omega
  · show 0 + 1 * (z 1).val = (z 1).val; omega
  · show 0 + 1 * (z 2).val = (z 2).val; omega
  · show 0 + 1 * (z 3).val = (z 3).val; omega
  · show 0 + 1 * (z 4).val = (z 4).val; omega

omit [FloatOps F] in
/-- Reading half `b` of a filled buffer. -/
theorem read_mslot (b : Fin 2) (c : Dev nD) : (mslot b).view.read (Elt F) (mineC Kc Vc c) = half Kc Vc b c := by
  funext x
  show mineC Kc Vc c ((halfRect b).emb (Shape.reshapeEquiv _ x)) = _
  rw [emb_half]; rfl

omit [FloatOps F] in
/-- Reading slot `j` of a filled receive buffer. -/
theorem read_slot (b : Fin 2) (j : Fin 7) (c : Dev nD) : (slot b j).view.read (Elt F) (recvB Kc Vc b c) = half Kc Vc b (org b j c) := by
  funext x
  fin_cases b
  · show recvC Kc Vc 0 c ((slotRect j).emb (Shape.reshapeEquiv _ x)) = _
    rw [emb_slot]; rfl
  · show recvC Kc Vc 1 c ((slotRect j).emb (Shape.reshapeEquiv _ x)) = _
    rw [emb_slot]; rfl

/-- The source of send `i` at the time of the send. -/
def srcB (b : Fin 2) (i : Fin 7) (c : Dev nD) : Buf (Elt F) ((srcM b i).view.loc (c : Thread nD τ)) :=
  match i with
  | 0 => mineC Kc Vc c | 1 => mineC Kc Vc c | 2 => mineC Kc Vc c
  | 3 => recvB Kc Vc b c | 4 => recvB Kc Vc b c | 5 => recvB Kc Vc b c | 6 => recvB Kc Vc b c

omit [FloatOps F] in
theorem read_src (b : Fin 2) (i : Fin 7) (c : Dev nD) : (srcM b i).view.read (Elt F) (srcB Kc Vc b i c) = half Kc Vc b (sorg b i c) := by
  fin_cases i
  · exact read_mslot Kc Vc b c
  · exact read_mslot Kc Vc b c
  · exact read_mslot Kc Vc b c
  · exact read_slot Kc Vc b 0 c
  · exact read_slot Kc Vc b 0 c
  · exact read_slot Kc Vc b 1 c
  · exact read_slot Kc Vc b 2 c
end Contents

/-- Writing what a view reads of `f` makes the view's elements `f`'s. -/
theorem write_read_eq {κ} {sp} {s : Shape} {e : EltTy} (v : View sig κ sp s e) (f fd : v.ty.Contents (Elt F)) (w : s.Idx → Elt F e)
    (h : v.read (Elt F) f = w) : ∀ i ∈ v.set, v.write (Elt F) fd w Finset.univ i = f i := by
  intro i hi
  obtain ⟨x, -, rfl⟩ := Finset.mem_map.mp hi
  rw [View.write_emb_of_mem _ _ (Finset.mem_univ x), ← h, View.read_apply, cast_cast, cast_eq]

end Cert.KProof
-- ==== Proof.Schedule.lean ====
/-
# The schedule

Which semaphore announces what. A device's barrier semaphore is signalled by its three neighbours: the neighbour along
axis `a` hands over the slots of its own receive buffers that this device will write. A send semaphore gives the source
back; a receive semaphore gives the slot, holding the half that landed.
-/
module

public import proofs.«01_k».proof.Proof.Net

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- What the devices are given: each one's block of every argument. -/
structure Inp (F : FTy → Type) where
  x : Dev nD → (cc0_stg0_0 : Ref sig .tc).ty.Contents (Elt F)
  wq : Dev nD → (cc0_stg1_0 : Ref sig .tc).ty.Contents (Elt F)
  k : Dev nD → (cc0_stg2_0 : Ref sig .tc).ty.Contents (Elt F)
  v : Dev nD → (cc0_stg3_0 : Ref sig .tc).ty.Contents (Elt F)
  wo : Dev nD → (cc0_stg4_0 : Ref sig .tc).ty.Contents (Elt F)

variable (A : Inp F)

/-- (half, send or slot). -/
abbrev P := Fin 2 × Fin 7

/-! ## What is handed over -/

/-- Share `q` of slot `j` of receive buffer `b` of device `c`. -/
def slP (b : Fin 2) (j : Fin 7) (c : Dev nD) (q : PosShare TreeShare) (f : Buf (Elt F) ((rM b).view.loc (c : Thread nD τ))) : sProp 𝕄 :=
  (slot b j).view.loc (c : Thread nD τ) ↦[(slot b j).view.set]{q} f
/-- The same, holding what is to land there. -/
def rP (b : Fin 2) (j : Fin 7) (c : Dev nD) (q : PosShare TreeShare) : sProp 𝕄 := slP b j c q (recvB A.k A.v b c)
/-- Share `q` of half `b` of device `c`'s own buffer, filled. -/
def mP (b : Fin 2) (c : Dev nD) (q : PosShare TreeShare) : sProp 𝕄 :=
  (mslot b).view.loc (c : Thread nD τ) ↦[(mslot b).view.set]{q} mineC A.k A.v c

abbrev qLL : PosShare TreeShare := (fullShare : PosShare TreeShare).left.left
abbrev qLR : PosShare TreeShare := (fullShare : PosShare TreeShare).left.right
abbrev qRL : PosShare TreeShare := (fullShare : PosShare TreeShare).right.left
abbrev qRR : PosShare TreeShare := (fullShare : PosShare TreeShare).right.right
abbrev qL : PosShare TreeShare := (fullShare : PosShare TreeShare).left
abbrev qR : PosShare TreeShare := (fullShare : PosShare TreeShare).right

/-- The source of send `i`, at the share the send takes. -/
def srcP (b : Fin 2) (i : Fin 7) (c : Dev nD) : sProp 𝕄 :=
  match i with
  | 0 => mP A b c qLL | 1 => mP A b c qLR | 2 => mP A b c qRL
  | 3 => rP A b 0 c qLL | 4 => rP A b 0 c qLR | 5 => rP A b 1 c qL | 6 => rP A b 2 c qL
def srcQ (i : Fin 7) : PosShare TreeShare := match i with | 0 => qLL | 1 => qLR | 2 => qRL | 3 => qLL | 4 => qLR | 5 => qL | 6 => qL

omit [FloatOps F] in
theorem srcP_eq (b : Fin 2) (i : Fin 7) (c : Dev nD) :
    srcP A b i c = ((srcM b i).view.loc (c : Thread nD τ) ↦[(srcM b i).view.set]{srcQ i} srcB A.k A.v b i c : sProp 𝕄) := by
  fin_cases i <;> rfl

/-- The slots of device `c` that its neighbour along axis `a` writes. -/
def give (a : Fin 3) (c : Dev nD) : sProp 𝕄 :=
  bigSep (Finset.univ.filter fun bi : P => ax bi.1 bi.2 = a) fun bi => iprop(∃ f, slP bi.1 (sg bi.2) c fullShare f)
/-- What a send writes into, held by the sender. -/
def tgt (b : Fin 2) (i : Fin 7) (c : Dev nD) : sProp 𝕄 := iprop(∃ f, slP b (sg i) (nb (ax b i) c) fullShare f)

def dmaPay (s : DmaSem sig) (c : Dev nD) : sProp 𝕄 :=
  if s.val < 6 then iprop(emp)
  else if s.val < 20 then srcP A (Fin.ofNat 2 ((s.val - 6) / 7)) (Fin.ofNat 7 ((s.val - 6) % 7)) c
  else rP A (Fin.ofNat 2 ((s.val - 20) / 7)) (Fin.ofNat 7 ((s.val - 20) % 7)) c fullShare

omit [FloatOps F] in
theorem dmaPay_s (b : Fin 2) (i : Fin 7) (c : Dev nD) : dmaPay A (sS b i) c = srcP A b i c := by
  unfold dmaPay
  have h1 : ¬ (sS b i).val < 6 := by show ¬ (6 + 7 * b.val + i.val < 6); omega
  have h2 : (sS b i).val < 20 := by show 6 + 7 * b.val + i.val < 20; omega
  have h3 : Fin.ofNat 2 (((sS b i).val - 6) / 7) = b := by revert b i; decide
  have h4 : Fin.ofNat 7 (((sS b i).val - 6) % 7) = i := by revert b i; decide
  rw [if_neg h1, if_pos h2, h3, h4]
omit [FloatOps F] in
theorem dmaPay_r (b : Fin 2) (j : Fin 7) (c : Dev nD) : dmaPay A (rS b j) c = rP A b j c fullShare := by
  unfold dmaPay
  have h1 : ¬ (rS b j).val < 6 := by show ¬ (20 + 7 * b.val + j.val < 6); omega
  have h2 : ¬ (rS b j).val < 20 := by show ¬ (20 + 7 * b.val + j.val < 20); omega
  have h3 : Fin.ofNat 2 (((rS b j).val - 20) / 7) = b := by revert b j; decide
  have h4 : Fin.ofNat 7 (((rS b j).val - 20) % 7) = j := by revert b j; decide
  rw [if_neg h1, if_neg h2, h3, h4]

omit [FloatOps F] in
instance slP_storable (b j c q f) : BI.Storable (upEmb : UEmb _ 𝕄) (slP (F := F) b j c q f) := by unfold slP; infer_instance
omit [FloatOps F] in
instance rP_storable (b j c q) : BI.Storable (upEmb : UEmb _ 𝕄) (rP A b j c q) := by unfold rP; infer_instance
omit [FloatOps F] in
instance mP_storable (b c q) : BI.Storable (upEmb : UEmb _ 𝕄) (mP A b c q) := by unfold mP; infer_instance
omit [FloatOps F] in
instance srcP_storable (b i c) : BI.Storable (upEmb : UEmb _ 𝕄) (srcP A b i c) := by rw [srcP_eq]; infer_instance
omit [FloatOps F] in
instance give_storable (a c) : BI.Storable (upEmb : UEmb _ 𝕄) (give (F := F) a c) := by unfold give; infer_instance
omit [FloatOps F] in
instance dmaPay_storable (s c) : BI.Storable (upEmb : UEmb _ 𝕄) (dmaPay A s c) := by
  unfold dmaPay; (repeat' split) <;> infer_instance

/-- One round. A barrier semaphore expects one unit from each axis; a send or receive semaphore one transfer. -/
def Rd : Rounds.Schedule (GSem nD τ sig) (Fin 3) 𝕄 where
  duties g r := if r = 0 ∧ g.1.2 = .tc then (match g.2 with | .reg _ => Finset.univ | .dma s => if 6 ≤ s.val then {0} else ∅) else ∅
  unitless _ := False
  amount g _ _ := match g.2 with | .reg _ => 1 | .dma _ => N
  payload g _ d := match g.2 with | .reg _ => give d (nb d g.1.1) | .dma s => dmaPay A s g.1.1
  amount_pos g _ _ _ := by
    rcases g with ⟨t, s | s⟩
    · exact Nat.one_pos
    · exact N_pos

instance Rd_storable (g : GSem nD τ sig) (r : ℕ) (d : Fin 3) : BI.Storable (upEmb : UEmb _ 𝕄) ((Rd A).payload g r d) := by
  rcases g with ⟨t, s | s⟩
  · exact give_storable d (nb d t.1)
  · exact dmaPay_storable A s t.1

section Sched
variable (b : Fin 2) (i : Fin 7) (c : Dev nD)

omit [FloatOps F] in
theorem duties_bar : (Rd A).duties (barCell c) 0 = Finset.univ := by dsimp only [Rd]; exact if_pos ⟨rfl, rfl⟩
omit [FloatOps F] in
theorem duties_s : (Rd A).duties (sCell b i c) 0 = {0} := by
  dsimp only [Rd]; rw [if_pos ⟨rfl, rfl⟩]; exact if_pos (by show 6 ≤ 6 + 7 * b.val + i.val; omega)
omit [FloatOps F] in
theorem duties_r : (Rd A).duties (rCell b i c) 0 = {0} := by
  dsimp only [Rd]; rw [if_pos ⟨rfl, rfl⟩]; exact if_pos (by show 6 ≤ 20 + 7 * b.val + i.val; omega)
omit [FloatOps F] in
theorem duties_later (g : GSem nD τ sig) : ∀ r, 1 ≤ r → (Rd A).duties g r = ∅ :=
  fun r hr => by dsimp only [Rd]; exact if_neg fun h => by omega

omit [FloatOps F] in
theorem expect_bar : (Rd A).expect (barCell c) 0 = 3 := by
  unfold Schedule.expect Schedule.amountOf
  rw [duties_bar]; rfl
omit [FloatOps F] in
theorem expect_s : (Rd A).expect (sCell b i c) 0 = N := by
  unfold Schedule.expect Schedule.amountOf; rw [duties_s, Finset.sum_singleton]; rfl
omit [FloatOps F] in
theorem expect_r : (Rd A).expect (rCell b i c) 0 = N := by
  unfold Schedule.expect Schedule.amountOf; rw [duties_r, Finset.sum_singleton]; rfl

omit [FloatOps F] in
theorem payload_bar (a : Fin 3) : (Rd A).payload (barCell c) 0 a = give a (nb a c) := rfl
omit [FloatOps F] in
theorem payload_s (d : Fin 3) : (Rd A).payload (sCell b i c) 0 d = srcP A b i c := dmaPay_s A b i c
omit [FloatOps F] in
theorem payload_r (d : Fin 3) : (Rd A).payload (rCell b i c) 0 d = rP A b i c fullShare := dmaPay_r A b i c

omit [FloatOps F] in
theorem rest_s : bigSep ((Rd A).duties (sCell b i c) 0 \ ∅) (fun d => (Rd A).payload (sCell b i c) 0 d) = srcP A b i c := by
  rw [Finset.sdiff_empty, duties_s, bigSep_singleton, payload_s]
omit [FloatOps F] in
theorem rest_r : bigSep ((Rd A).duties (rCell b i c) 0 \ ∅) (fun d => (Rd A).payload (rCell b i c) 0 d) = rP A b i c fullShare := by
  rw [Finset.sdiff_empty, duties_r, bigSep_singleton, payload_r]

omit [FloatOps F] in
/-- Everything the three neighbours hand over is everything the sends write into. -/
theorem rest_bar : bigSep ((Rd A).duties (barCell c) 0 \ ∅) (fun d => (Rd A).payload (barCell c) 0 d)
    = bigSep Finset.univ fun bi : P => (tgt bi.1 bi.2 c : sProp 𝕄) := by
  rw [Finset.sdiff_empty, duties_bar, bigSep_fiberwise Finset.univ (fun bi : P => ax bi.1 bi.2),
    show (Finset.univ.image fun bi : P => ax bi.1 bi.2) = (Finset.univ : Finset (Fin 3)) by decide]
  refine bigSep_congr fun a _ => ?_
  rw [payload_bar]
  unfold give
  refine bigSep_congr fun bi hbi => ?_
  rw [← (Finset.mem_filter.mp hbi).2]; rfl

omit [FloatOps F] in
/-- A device's slots, dealt by axis. -/
theorem give_all : (bigSep Finset.univ fun bj : P => (iprop(∃ f, slP bj.1 bj.2 c fullShare f) : sProp 𝕄))
    = iprop(give 0 c ∗ give 1 c ∗ give 2 c) := by
  rw [bigSep_univ_equiv (Equiv.prodCongr (Equiv.refl (Fin 2)) (⟨sg, sg, sg_sg, sg_sg⟩ : Fin 7 ≃ Fin 7)) (fun bj : P => (iprop(∃ f, slP bj.1 bj.2 c fullShare f) : sProp 𝕄)),
    bigSep_fiberwise Finset.univ (fun bi : P => ax bi.1 bi.2),
    show (Finset.univ.image fun bi : P => ax bi.1 bi.2) = (Finset.univ : Finset (Fin 3)) by decide,
    bigSep_univ_eq_bigSepL [0, 1, 2] (by decide) (by decide)]
  rfl

end Sched

/-! ## What each core owes; the levels -/

/-- What a device owes while the sends in the list are still to come. -/
def Osum (c : Dev nD) : List P → CellTallies nD τ sig Unit
  | [] => 0
  | bi :: l => Osum c l + tallyAt (rCell bi.1 (sg bi.2) (nb (ax bi.1 bi.2) c)) () N

/-- The sends in program order. -/
def sends : List P := [(0, 0), (1, 0), (0, 1), (1, 1), (1, 2), (0, 2), (0, 3), (0, 4), (1, 3), (1, 4), (0, 5), (1, 5), (0, 6), (1, 6)]

def O₁ (c : Dev nD) : CellTallies nD τ sig Unit := Osum c sends + tallyAt (barCell (nb 2 c)) () 1
def O₂ (c : Dev nD) : CellTallies nD τ sig Unit := O₁ c + tallyAt (barCell (nb 1 c)) () 1
def O₀ (c : Dev nD) : CellTallies nD τ sig Unit := O₂ c + tallyAt (barCell (nb 0 c)) () 1

def L (g : GSem nD τ sig) : Finset Unit := if g.1.2 = .tc then {()} else ∅
/-- The level of a slot: what lands there was sent after waiting for lower levels only. -/
def slv (j : Fin 7) : ℕ := (![2, 2, 3, 2, 3, 3, 4] : Fin 7 → ℕ) j
def lv (g : GSem nD τ sig) (_ : Unit) : ℕ := match g.2 with | .reg _ => 1 | .dma s => if s.val < 20 then 0 else slv (Fin.ofNat 7 ((s.val - 20) % 7))

theorem lv_r (b : Fin 2) (j : Fin 7) (c : Dev nD) : lv (rCell b j c) () = slv j := by
  show (if (rS b j).val < 20 then 0 else slv (Fin.ofNat 7 (((rS b j).val - 20) % 7))) = _
  revert b j; decide
theorem L_of_ne (g : GSem nD τ sig) (h : g.1.2 ≠ .tc) : L g = ∅ := if_neg h
theorem L_tc (c : Dev nD) (sm : SemLoc sig) : L ((c : Thread nD τ), sm) = {()} := if_pos rfl

theorem Osum_pos {c : Dev nD} {l : List P} {g : GSem nD τ sig} {u : Unit} (h : 0 < Osum c l g u) :
    ∃ bi ∈ l, g = rCell bi.1 (sg bi.2) (nb (ax bi.1 bi.2) c) := by
  induction l with
  | nil => exact absurd h (Nat.lt_irrefl 0)
  | cons bi l ih =>
    unfold Osum at h
    rw [Pi.add_apply, Finsupp.add_apply, tallyAt_apply] at h
    by_cases hg : g = rCell bi.1 (sg bi.2) (nb (ax bi.1 bi.2) c)
    · exact ⟨bi, List.mem_cons_self, hg⟩
    · rw [if_neg (fun h' => hg h'.1), Nat.add_zero] at h
      obtain ⟨x, hx, e⟩ := ih h
      exact ⟨x, List.mem_cons_of_mem _ hx, e⟩

theorem add_pos_cases {D : CellTallies nD τ sig Unit} {g g' : GSem nD τ sig} {u : Unit} (h : 0 < (D + tallyAt g' () 1) g u) : 0 < D g u ∨ g = g' := by
  rw [Pi.add_apply, Finsupp.add_apply, tallyAt_apply] at h
  by_cases hg : g = g'
  · exact .inr hg
  · rw [if_neg (fun h' => hg h'.1), Nat.add_zero] at h; exact .inl h

theorem O₀_pos {c : Dev nD} {g : GSem nD τ sig} {u : Unit} (h : 0 < O₀ c g u) :
    (∃ bi ∈ sends, g = rCell bi.1 (sg bi.2) (nb (ax bi.1 bi.2) c)) ∨ ∃ a, g = barCell (nb a c) := by
  rcases add_pos_cases (D := O₂ c) h with h | h
  · rcases add_pos_cases (D := O₁ c) h with h | h
    · rcases add_pos_cases (D := Osum c sends) h with h | h
      · exact .inl (Osum_pos h)
      · exact .inr ⟨2, h⟩
    · exact .inr ⟨1, h⟩
  · exact .inr ⟨0, h⟩

omit [FloatOps F] in
/-- A core may wait on a cell below every slot it still has to fill. -/
theorem mayWait_of (c : Dev nD) (sm : SemLoc sig) (l : List P) (n : ℕ) (hn : lv ((c : Thread nD τ), sm) () = n) (h : ∀ bi ∈ l, n < slv (sg bi.2)) :
    (levAts L lv : sProp 𝕄) ⊢ MayWait (c : Thread nD τ) sm () (Osum c l) :=
  MayOwe.of_cut (L := L) (lev := lv) n (fun p hp => by rw [Finset.mem_singleton.mp hp, L_tc]; exact Finset.mem_singleton_self _)
    (fun g u hg => by obtain ⟨bi, -, rfl⟩ := Osum_pos hg; exact Finset.mem_singleton_self _)
    (fun p hp => by rw [Finset.mem_singleton.mp hp]; exact le_of_eq hn)
    (fun g u hg => by obtain ⟨bi, hb, rfl⟩ := Osum_pos hg; rw [lv_r]; exact h bi hb)

omit [FloatOps F] in
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨bi, -, rfl⟩ | ⟨a, rfl⟩ <;> exact Finset.mem_singleton_self _)
      (fun p hp => by rw [Finset.mem_singleton.mp hp]; exact le_of_eq (if_pos hq))
      (fun g u hg => by
        rcases O₀_pos hg with ⟨bi, -, rfl⟩ | ⟨a, rfl⟩
        · rw [lv_r]; generalize sg bi.2 = j; revert j; decide
        · exact Nat.one_pos)
  · rw [MayWait_zero]; iintro -; iempintro

end Cert.KProof
-- ==== Proof.Ops.lean ====
/-
# The steps of the protocol

One rule for every send, one for every wait on a receive semaphore, one for every wait on a send semaphore: each stated
once, for every half and every slot.
-/
module

public import proofs.«01_k».proof.Proof.Schedule

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F)

abbrev 𝒱₀ : Variants := Variants.none

/-- A device's semaphores: the barrier, the sends', the receives'. -/
abbrev CK := Unit ⊕ (P ⊕ P)
abbrev csem : CK → SemLoc sig
  | .inl _ => .reg barS
  | .inr (.inl p) => .dma (sS p.1 p.2)
  | .inr (.inr p) => .dma (rS p.1 p.2)
abbrev kcell (ck : Dev nD × CK) : GSem nD τ sig := ((ck.1 : Thread nD τ), csem ck.2)
abbrev kB : CK := .inl ()
abbrev kS (b : Fin 2) (i : Fin 7) : CK := .inr (.inl (b, i))
abbrev kR (b : Fin 2) (j : Fin 7) : CK := .inr (.inr (b, j))

/-- Every cell's invariant, and that every cell has begun its round. -/
def records (K : Dev nD × CK → ℕ) : sProp 𝕄 :=
  iprop((bigSep Finset.univ fun ck : Dev nD × CK => cellInv ER (Rd A) (K ck) (kcell ck))
    ∗ bigSep Finset.univ fun ck : Dev nD × CK => reached ER (kcell ck) 0)
instance records_persistent (K : Dev nD × CK → ℕ) : BI.Persistent (records A K) := by unfold records; infer_instance

def Ctx (K : Dev nD × CK → ℕ) : sProp 𝕄 := iprop(records A K ∗ levAts L lv)
instance Ctx_persistent (K : Dev nD × CK → ℕ) : BI.Persistent (Ctx A K) := by unfold Ctx; infer_instance

variable (K : Dev nD × CK → ℕ)

omit [FloatOps F] in
theorem inv_at (ck : Dev nD × CK) :
    (bigSep Finset.univ fun ck : Dev nD × CK => (cellInv ER (Rd A) (K ck) (kcell ck) : sProp 𝕄)) ⊢ cellInv ER (Rd A) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

omit [FloatOps F] in
theorem ctx_inv (ck : Dev nD × CK) : Ctx A K ⊢ cellInv ER (Rd A) (K ck) (kcell ck) := by
  unfold Ctx records
  iintro ⟨⟨#H, -⟩, -⟩
  iapply (inv_at A K ck); iexact H
omit [FloatOps F] in
theorem ctx_reached (ck : Dev nD × CK) : Ctx A K ⊢ reached ER (kcell ck) 0 := by
  unfold Ctx records
  iintro ⟨⟨-, #H⟩, -⟩
  iapply (reached_at (F := F) ck); iexact H
omit [FloatOps F] in
theorem ctx_lev : Ctx A K ⊢ levAts L lv := by
  unfold Ctx; iintro ⟨-, #H⟩; iexact H

/-- What core `c` owes while the listed sends are to come. -/
def ow (c : Dev nD) (l : List P) : sProp 𝕄 := iprop(∃ W, owes (c : Thread nD τ) (Osum c l) W)
/-- What a send spends. -/
def sTick (b : Fin 2) (i : Fin 7) (c : Dev nD) : sProp 𝕄 :=
  iprop(atPos ER (sCell b i c) 0 ∅ 0 ∗ dutyTok ER (sCell b i c) 0 (0 : Fin 3) ∗ dutyTok ER (rCell b (sg i) (nb (ax b i) c)) 0 (0 : Fin 3))
/-- What waiting for a landing spends. -/
def rTick (b : Fin 2) (j : Fin 7) (c : Dev nD) : sProp 𝕄 :=
  iprop(atPos ER (rCell b j c) 0 ∅ 0 ∗ cred (tallyAt (rCell b j c) () N))
/-- A send under way. -/
def fly (b : Fin 2) (i : Fin 7) (c : Dev nD) : sProp 𝕄 :=
  iprop(atPos ER (sCell b i c) 0 ∅ 0 ∗ cred (tallyAt (sCell b i c) () N))

theorem land (b : Fin 2) (i : Fin 7) (c : Dev nD) (fd : Buf (Elt F) ((rM b).view.loc (nb (ax b i) c : Thread nD τ))) :
    ((slot b (sg i)).view.loc (nb (ax b i) c : Thread nD τ) ↦[(slot b (sg i)).view.set]{fullShare}
        ((slot b (sg i)).view.write (Elt F) fd ((srcM b i).view.read (Elt F) (srcB A.k A.v b i c)) Finset.univ) : sProp 𝕄)
      = rP A b (sg i) (nb (ax b i) c) fullShare := by
  unfold rP slP
  refine pointsTo_congr (write_read_eq (slot b (sg i)).view (recvB A.k A.v b (nb (ax b i) c)) fd _ ?_)
  rw [read_src, read_slot, org_send]

/-- Send `i` of half `b`. -/
theorem wp_snd (b : Fin 2) (i : Fin 7) (c : Dev nD) (l : List P) (n : Dev nD) (hn : n = nb (ax b i) c)
    (ss : DmaSem sig) (hss : ss = sS b i) (rs : DmaSem sig) (hrs : rs = rS b (sg i))
    {hsc : (slot b (sg i) : Memref sig (Dev.tc n : Thread nD τ).2.kind .vmem S2x4x128x64 .f32).view.ref.isScScratch = false}
    {hsrc : (srcM b i).view.WordExact} {hdst : (slot b (sg i) : Memref sig (Dev.tc n : Thread nD τ).2.kind .vmem S2x4x128x64 .f32).view.WordExact}
    {hsem : DmaTarget.Typed .vmem (.dma rs) (.remote (Dev.tc n : Thread nD τ) (slot b (sg i)) (.dma ss) hsc)}
    {α : Type} {Q : α → sProp 𝕄} {k : PUnit → Prog (TpuEff nD τ sig (Elt F) Λ₀ .tc) α} :
    iprop(Ctx A K ∗ srcP A b i c ∗ tgt b i c ∗ ow c ((b, i) :: l) ∗ sTick b i c)
      ⊢ iprop(((fly b i c ∗ ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (srcM b i) (.remote (Dev.tc n : Thread nD τ) (slot b (sg i)) (.dma ss) hsc) (.dma rs) hsrc hdst hsem) k) Q) := by
  subst hn; subst hss; subst hrs
  unfold tgt ow sTick fly
  iintro ⟨#HC, Hs, ⟨%f, Ht⟩, ⟨%W, HO⟩, Hat, Hts, Htr⟩ Hk
  ihave Hs' := (Entails.of_eq (srcP_eq A b i c)) $$ Hs
  unfold slP
  iapply (Rounds.wp_send_pointsTo 𝒱₀ ER (Rd A) (c : Thread nD τ) none (κ₁ := K (c, kS b i)) (κ₂ := K (nb (ax b i) c, kR b (sg i)))
    (c' := (nb (ax b i) c : Thread nD τ)) (src := srcM b i) (dst := slot b (sg i)) (sS := .dma (sS b i)) (sem := .dma (rS b (sg i))) (q := srcQ i) (fs := srcB A.k A.v b i c)
    (r₁ := 0) (r₂ := 0) (d₁ := 0) (d₂ := 0) (fd := f)
    (by rw [duties_s]; exact Finset.mem_singleton_self _) (by rw [duties_r]; exact Finset.mem_singleton_self _)
    () () N (slot_credit b (sg i)) (by rfl) (by rfl) (Osum c l) (by rfl) (W := W)
    (by rw [payload_s, srcP_eq]) (by rw [payload_r, land])) $$ [Hs' Ht HO Hts Htr]
  · isplitr; · iapply (ctx_inv A K (c, kS b i)); iexact HC
    isplitr; · iapply (ctx_inv A K (nb (ax b i) c, kR b (sg i))); iexact HC
    isplitl [Hs']; · iexact Hs'
    isplitl [Ht]; · iexact Ht
    isplitl [HO]; · iexact HO
    isplitl [Hts]; · iexact Hts
    isplitr; · iapply (ctx_reached A K (c, kS b i)); iexact HC
    isplitl [Htr]; · iexact Htr
    iapply (ctx_reached A K (nb (ax b i) c, kR b (sg i))); iexact HC
  iintro ⟨Hc, HO⟩
  iapply Hk
  isplitl [Hat Hc]
  · isplitl [Hat] <;> iassumption
  iexists W; iexact HO

/-- The wait for what lands in slot `j` of buffer `b`; its semaphore is closed. -/
theorem wp_rwait (b : Fin 2) (j : Fin 7) (c : Dev nD) (l : List P) (hl : ∀ bi ∈ l, slv j < slv (sg bi.2))
    (rs : DmaSem sig) (hrs : rs = rS b j)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop(Ctx A K ∗ rTick b j c ∗ ow c l)
      ⊢ iprop(((rP A b j c fullShare ∗ semVal (rCell b j c) 0 ∗ ow c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 rs src dst hsrc hdst) k) Q) := by
  subst hrs
  unfold ow rTick
  iintro ⟨#HC, ⟨Hat, Hc⟩, ⟨%W, HO⟩⟩ Hk
  ihave #Hlev := (ctx_lev A K) $$ HC
  iapply (Rounds.wp_wait_rest_token 𝒱₀ ER (Rd A) (c : Thread nD τ) none (κ := K (c, kR b j))
      (wpE_waitDma2_eq 𝒱₀ (c : Thread nD τ) none Set.univ) (Set.mem_univ _) () (O := Osum c l) (W := W) (R := 0) (m := 0) (T := ∅)
      (by rw [Nat.zero_add, expect_r, hN])) $$ [Hc HO Hat]
  · isplitr; · iapply (ctx_inv A K (c, kR b j)); iexact HC
    isplitl [Hc]; · rw [hN]; iexact Hc
    isplitl [HO]; · iexact HO
    isplitr; · iapply (mayWait_of c _ l (slv j) (lv_r b j c) hl); iexact Hlev
    iexact Hat
  iintro ⟨HO, Hat, -, Hpay⟩
  ihave Hp := (Entails.of_eq (rest_r A b j c)) $$ Hpay
  imod (Rounds.cell_close ER (Rd A) (Set.mem_univ (K (c, kR b j))) (fun h => h) (R := 0 + 1) (duties_later A (rCell b j c))) $$ [Hat] with Hz
  · isplitr; · iapply (ctx_inv A K (c, kR b j)); iexact HC
    iexact Hat
  iapply Hk
  isplitl [Hp]; · iexact Hp
  isplitl [Hz]; · iexact Hz
  iexists _; iexact HO

/-- The wait for the source of send `i` of half `b`; its semaphore is closed. -/
theorem wp_swait (b : Fin 2) (i : Fin 7) (c : Dev nD) (ss : DmaSem sig) (hss : ss = sS b i)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α} :
    iprop(Ctx A K ∗ fly b i c ∗ ow c [])
      ⊢ iprop(((srcP A b i c ∗ semVal (sCell b i c) 0 ∗ ow c []) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 ss src dst hsrc hdst) k) Q) := by
  subst hss
  unfold ow fly
  iintro ⟨#HC, ⟨Hat, Hc⟩, ⟨%W, HO⟩⟩ Hk
  iapply (Rounds.wp_wait_rest_token 𝒱₀ ER (Rd A) (c : Thread nD τ) none (κ := K (c, kS b i))
      (wpE_waitDma2_eq 𝒱₀ (c : Thread nD τ) none Set.univ) (Set.mem_univ _) () (O := Osum c []) (W := W) (R := 0) (m := 0) (T := ∅)
      (by rw [Nat.zero_add, expect_s, hN])) $$ [Hc HO Hat]
  · isplitr; · iapply (ctx_inv A K (c, kS b i)); iexact HC
    isplitl [Hc]; · rw [hN]; iexact Hc
    isplitl [HO]; · iexact HO
    isplitr; · unfold Osum; rw [MayWait_zero]; iempintro
    iexact Hat
  iintro ⟨HO, Hat, -, Hpay⟩
  ihave Hp := (Entails.of_eq (rest_s A b i c)) $$ Hpay
  imod (Rounds.cell_close ER (Rd A) (Set.mem_univ (K (c, kS b i))) (fun h => h) (R := 0 + 1) (duties_later A (sCell b i c))) $$ [Hat] with Hz
  · isplitr; · iapply (ctx_inv A K (c, kS b i)); iexact HC
    iexact Hat
  iapply Hk
  isplitl [Hp]; · iexact Hp
  isplitl [Hz]; · iexact Hz
  iexists _; iexact HO

end Cert.KProof
-- ==== Proof.Steps.lean ====
/-
# Loads from the shared buffers, shares, and device numbers

A chunk is loaded from a share of the half or slot that holds it; slots that are forwarded are split into shares, the rest
stays with the core to be read; and the device numbers of the sends are the neighbours'.
-/
module

public import proofs.«01_k».proof.Proof.Ops

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F)

/-! ## Loads -/

theorem mslot_set (b : Fin 2) : (mslot b).view.set = (halfRect b).set.map mM.view.emb :=
  (View.set_reshape _ _).trans (View.set_slice mM.view (halfRect b))
theorem slot_set (b : Fin 2) (j : Fin 7) : (slot b j).view.set = (slotRect j).set.map (rM b).view.emb :=
  (View.set_reshape _ _).trans (View.set_slice (rM b).view (slotRect j))

/-- A load of part of a half of the own buffer. -/
theorem wp_ldm (b : Fin 2) (c : Dev nD) (q : PosShare TreeShare) (r : LoadRect S2x2x4x128x64) (hr : r.set ⊆ (halfRect b).set)
    {hl : mM.view.LoadsAt r} {α : Type} {Q : α → sProp 𝕄} {k : (r.shape.Idx → Elt F .f32) → Prog (TpuEff nD τ sig (Elt F) Λ₀ .tc) α} :
    mP A b c q
      ⊢ iprop((mP A b c q -∗ wp frame (wpE (defs₀ (F := F)) 𝒱₀ (c : Thread nD τ) none) Set.univ (k (mM.view.readAt (Elt F) r (mineC A.k A.v c))) Q)
          -∗ wp frame (wpE (defs₀ (F := F)) 𝒱₀ (c : Thread nD τ) none) Set.univ (.op (.load mM r hl) k) Q) :=
  wp_load 𝒱₀ (c : Thread nD τ) none Set.univ (m := mM) (r := r) (S := (mslot b).view.set) (q := q) (f := mineC A.k A.v c)
    (by rw [mslot_set]; exact Finset.map_subset_map.mpr hr)

/-- A load of part of a slot of a receive buffer. -/
theorem wp_ldr (b : Fin 2) (j : Fin 7) (c : Dev nD) (q : PosShare TreeShare) (r : LoadRect S7x2x4x128x64) (hr : r.set ⊆ (slotRect j).set)
    {hl : (rM b).view.LoadsAt r} {α : Type} {Q : α → sProp 𝕄} {k : (r.shape.Idx → Elt F .f32) → Prog (TpuEff nD τ sig (Elt F) Λ₀ .tc) α} :
    rP A b j c q
      ⊢ iprop((rP A b j c q -∗ wp frame (wpE (defs₀ (F := F)) 𝒱₀ (c : Thread nD τ) none) Set.univ (k ((rM b).view.readAt (Elt F) r (recvB A.k A.v b c))) Q)
          -∗ wp frame (wpE (defs₀ (F := F)) 𝒱₀ (c : Thread nD τ) none) Set.univ (.op (.load (rM b) r hl) k) Q) :=
  wp_load 𝒱₀ (c : Thread nD τ) none Set.univ (m := rM b) (r := r) (S := (slot b j).view.set) (q := q) (f := recvB A.k A.v b c)
    (by rw [slot_set]; exact Finset.map_subset_map.mpr hr)

/-! ## Stores -/

/-- A store into the own buffer, held whole. -/
theorem wp_stm (c : Dev nD) (f : (cc0_scratch0 : Ref sig .tc).ty.Contents (Elt F)) (r : Rect S2x2x4x128x64) (w : r.shape.Idx → Elt F .f32)
    {hx : (mM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    ((((c : Dev nD) : Thread nD τ).loc cc0_scratch0) ↦{fullShare} f : sProp 𝕄)
      ⊢ iprop((((((c : Dev nD) : Thread nD τ).loc cc0_scratch0) ↦{fullShare} (mM.access r).write (Elt F) f w Finset.univ)
            -∗ wp frame (wpE (defs₀ (F := F)) 𝒱₀ (c : Thread nD τ) none) Set.univ (k ⟨⟩) Q)
          -∗ wp frame (wpE (defs₀ (F := F)) 𝒱₀ (c : Thread nD τ) none) Set.univ (.op (.store mM r w Finset.univ hx hm) k) Q) :=
  wp_store 𝒱₀ (c : Thread nD τ) none Set.univ (m := mM) (r := r) (Mk := Finset.univ) (S := Finset.univ) (f := f) (Finset.subset_univ _)

/-- A store into the output block, held whole. -/
theorem wp_sto (c : Dev nD) (f : (cc0_stg5_0 : Ref sig .tc).ty.Contents (Elt F)) (r : Rect S2x128x512) (w : r.shape.Idx → Elt F .f32)
    {hx : ((Memref.whole cc0_stg5_0 : Memref sig .tc .vmem S2x128x512 .f32).access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    ((((c : Dev nD) : Thread nD τ).loc cc0_stg5_0) ↦{fullShare} f : sProp 𝕄)
      ⊢ iprop((((((c : Dev nD) : Thread nD τ).loc cc0_stg5_0) ↦{fullShare}
              ((Memref.whole cc0_stg5_0 : Memref sig .tc .vmem S2x128x512 .f32).access r).write (Elt F) f w Finset.univ)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_stg5_0 : Memref sig .tc .vmem S2x128x512 .f32) r w Finset.univ hx hm) k) Q) :=
  wp_store 𝒱₀ (c : Thread nD τ) none Set.univ (m := Memref.whole cc0_stg5_0) (r := r) (Mk := Finset.univ) (S := Finset.univ) (f := f) (Finset.subset_univ _)

/-! ## Shares -/

omit [FloatOps F] in
theorem rP_halves (b : Fin 2) (j : Fin 7) (c : Dev nD) : rP A b j c fullShare ⊣⊢ iprop(rP A b j c qL ∗ rP A b j c qR) := by
  unfold rP slP; exact pointsTo_share (PosShare.mem_left_op_right fullShare)
omit [FloatOps F] in
theorem rP_quarters (b : Fin 2) (j : Fin 7) (c : Dev nD) : rP A b j c qL ⊣⊢ iprop(rP A b j c qLL ∗ rP A b j c qLR) := by
  unfold rP slP; exact pointsTo_share (PosShare.mem_left_op_right qL)
omit [FloatOps F] in
theorem mP_halves (b : Fin 2) (c : Dev nD) : mP A b c fullShare ⊣⊢ iprop(mP A b c qL ∗ mP A b c qR) := by
  unfold mP; exact pointsTo_share (PosShare.mem_left_op_right fullShare)
omit [FloatOps F] in
theorem mP_ql (b : Fin 2) (c : Dev nD) : mP A b c qL ⊣⊢ iprop(mP A b c qLL ∗ mP A b c qLR) := by
  unfold mP; exact pointsTo_share (PosShare.mem_left_op_right qL)
omit [FloatOps F] in
theorem mP_qr (b : Fin 2) (c : Dev nD) : mP A b c qR ⊣⊢ iprop(mP A b c qRL ∗ mP A b c qRR) := by
  unfold mP; exact pointsTo_share (PosShare.mem_left_op_right qR)

omit [FloatOps F] in
/-- Slot 0: two shares for the two sends that forward it, one to be read. -/
theorem rP_split3 (b : Fin 2) (j : Fin 7) (c : Dev nD) : rP A b j c fullShare ⊢ iprop(rP A b j c qLL ∗ rP A b j c qLR ∗ rP A b j c qR) := by
  iintro H
  ihave H := (rP_halves A b j c).1 $$ H
  icases H with ⟨H, HR⟩
  ihave H := (rP_quarters A b j c).1 $$ H
  icases H with ⟨H1, H2⟩
  isplitl [H1]; · iexact H1
  isplitl [H2]; · iexact H2
  iexact HR
omit [FloatOps F] in
theorem rP_join3 (b : Fin 2) (j : Fin 7) (c : Dev nD) : iprop(rP A b j c qLL ∗ rP A b j c qLR ∗ rP A b j c qR) ⊢ rP A b j c fullShare := by
  iintro ⟨H1, H2, HR⟩
  iapply (rP_halves A b j c).2
  isplitr [HR]
  · iapply (rP_quarters A b j c).2; isplitl [H1] <;> iassumption
  iexact HR
omit [FloatOps F] in
/-- A half of the own buffer: a share for each of the three sends that carry it, one to be read. -/
theorem mP_split4 (b : Fin 2) (c : Dev nD) : mP A b c fullShare ⊢ iprop(mP A b c qLL ∗ mP A b c qLR ∗ mP A b c qRL ∗ mP A b c qRR) := by
  iintro H
  ihave H := (mP_halves A b c).1 $$ H
  icases H with ⟨H, HR⟩
  ihave H := (mP_ql A b c).1 $$ H
  icases H with ⟨H1, H2⟩
  ihave HR := (mP_qr A b c).1 $$ HR
  icases HR with ⟨H3, H4⟩
  isplitl [H1]; · iexact H1
  isplitl [H2]; · iexact H2
  isplitl [H3]; · iexact H3
  iexact H4
omit [FloatOps F] in
theorem mP_join4 (b : Fin 2) (c : Dev nD) : iprop(mP A b c qLL ∗ mP A b c qLR ∗ mP A b c qRL ∗ mP A b c qRR) ⊢ mP A b c fullShare := by
  iintro ⟨H1, H2, H3, H4⟩
  iapply (mP_halves A b c).2
  isplitl [H1 H2]
  · iapply (mP_ql A b c).2; isplitl [H1] <;> iassumption
  iapply (mP_qr A b c).2; isplitl [H3] <;> iassumption

/-! ## The staged blocks, the own buffer, the output block -/

abbrev inX (c : Dev nD) : sProp 𝕄 := (((c : Dev nD) : Thread nD τ).loc cc0_stg0_0) ↦{fullShare} A.x c
abbrev inWq (c : Dev nD) : sProp 𝕄 := (((c : Dev nD) : Thread nD τ).loc cc0_stg1_0) ↦{fullShare} A.wq c
abbrev inK (c : Dev nD) : sProp 𝕄 := (((c : Dev nD) : Thread nD τ).loc cc0_stg2_0) ↦{fullShare} A.k c
abbrev inV (c : Dev nD) : sProp 𝕄 := (((c : Dev nD) : Thread nD τ).loc cc0_stg3_0) ↦{fullShare} A.v c
abbrev inWo (c : Dev nD) : sProp 𝕄 := (((c : Dev nD) : Thread nD τ).loc cc0_stg4_0) ↦{fullShare} A.wo c
abbrev minePts (c : Dev nD) (f : (cc0_scratch0 : Ref sig .tc).ty.Contents (Elt F)) : sProp 𝕄 := (((c : Dev nD) : Thread nD τ).loc cc0_scratch0) ↦{fullShare} f
abbrev outPts (c : Dev nD) (f : (cc0_stg5_0 : Ref sig .tc).ty.Contents (Elt F)) : sProp 𝕄 := (((c : Dev nD) : Thread nD τ).loc cc0_stg5_0) ↦{fullShare} f

/-! ## Device numbers -/

theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel
theorem dev4_eq (c : Dev nD) : (⟨k0_dev4 c, k0_dev4_lt c⟩ : Dev nD) = nb (ax 0 0) c := by revert c; decide +kernel
theorem dev5_eq (c : Dev nD) : (⟨k0_dev5 c, k0_dev5_lt c⟩ : Dev nD) = nb (ax 1 0) c := by revert c; decide +kernel
theorem dev6_eq (c : Dev nD) : (⟨k0_dev6 c, k0_dev6_lt c⟩ : Dev nD) = nb (ax 0 1) c := by revert c; decide +kernel
theorem dev7_eq (c : Dev nD) : (⟨k0_dev7 c, k0_dev7_lt c⟩ : Dev nD) = nb (ax 1 1) c := by revert c; decide +kernel
theorem dev8_eq (c : Dev nD) : (⟨k0_dev8 c, k0_dev8_lt c⟩ : Dev nD) = nb (ax 1 2) c := by revert c; decide +kernel
theorem dev9_eq (c : Dev nD) : (⟨k0_dev9 c, k0_dev9_lt c⟩ : Dev nD) = nb (ax 0 2) c := by revert c; decide +kernel
theorem dev10_eq (c : Dev nD) : (⟨k0_dev10 c, k0_dev10_lt c⟩ : Dev nD) = nb (ax 0 3) c := by revert c; decide +kernel
theorem dev11_eq (c : Dev nD) : (⟨k0_dev11 c, k0_dev11_lt c⟩ : Dev nD) = nb (ax 0 4) c := by revert c; decide +kernel
theorem dev12_eq (c : Dev nD) : (⟨k0_dev12 c, k0_dev12_lt c⟩ : Dev nD) = nb (ax 1 3) c := by revert c; decide +kernel
theorem dev13_eq (c : Dev nD) : (⟨k0_dev13 c, k0_dev13_lt c⟩ : Dev nD) = nb (ax 1 4) c := by revert c; decide +kernel
theorem dev14_eq (c : Dev nD) : (⟨k0_dev14 c, k0_dev14_lt c⟩ : Dev nD) = nb (ax 0 5) c := by revert c; decide +kernel
theorem dev15_eq (c : Dev nD) : (⟨k0_dev15 c, k0_dev15_lt c⟩ : Dev nD) = nb (ax 1 5) c := by revert c; decide +kernel
theorem dev16_eq (c : Dev nD) : (⟨k0_dev16 c, k0_dev16_lt c⟩ : Dev nD) = nb (ax 0 6) c := by revert c; decide +kernel
theorem dev17_eq (c : Dev nD) : (⟨k0_dev17 c, k0_dev17_lt c⟩ : Dev nD) = nb (ax 1 6) c := by revert c; decide +kernel

end Cert.KProof
-- ==== Proof.Vals.lean ====
/-
# The values the kernel computes

One definition per value that travels between the parts of the kernel, over what each device was given: a load is a read of
what the buffer is known to hold, everything else is the kernel's own payload of the values before it.
-/
module

public import proofs.«01_k».proof.Proof.Ops

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

namespace V

/-! ## The values, in program order -/

def v0 (A : Inp F) (c : Dev nD) : BitVec 32 := Dev.word c
def v1 (A : Inp F) (c : Dev nD) : BitVec 32 := Scalar.divsi (V.v0 A c) 1#32
def v2 (A : Inp F) (c : Dev nD) : BitVec 32 := Scalar.remsi (V.v1 A c) 8#32
def v3 (A : Inp F) (c : Dev nD) : BitVec 32 := Scalar.remsi (V.v2 A c) 4#32
def v6 (A : Inp F) (c : Dev nD) : BitVec 32 := Scalar.addi (V.v3 A c) 1#32
def v7 (A : Inp F) (c : Dev nD) : BitVec 32 := Scalar.remsi (V.v3 A c) 2#32
def v8 (A : Inp F) (c : Dev nD) : BitVec 32 := Scalar.muli 2#32 (V.v7 A c)
def v9 (A : Inp F) (c : Dev nD) : BitVec 32 := Scalar.subi (V.v6 A c) (V.v8 A c)
def v4 (A : Inp F) (c : Dev nD) : BitVec 32 := Scalar.subi (V.v2 A c) (V.v3 A c)
def v13 (A : Inp F) (c : Dev nD) : BitVec 32 := Scalar.addi (V.v4 A c) (V.v9 A c)
def v10 (A : Inp F) (c : Dev nD) : BitVec 32 := Scalar.subi 3#32 (V.v3 A c)
def v14 (A : Inp F) (c : Dev nD) : BitVec 32 := Scalar.addi (V.v4 A c) (V.v10 A c)
def v15 (A : Inp F) (c : Dev nD) : BitVec 32 := Scalar.addi (V.v2 A c) 4#32
def v16 (A : Inp F) (c : Dev nD) : BitVec 32 := Scalar.remsi (V.v15 A c) 8#32
def v17 (A : Inp F) (c : Dev nD) : BitVec 32 := Scalar.addi (V.v4 A c) (V.v9 A c)
def v18 (A : Inp F) (c : Dev nD) : BitVec 32 := Scalar.addi (V.v4 A c) (V.v10 A c)
def v11 (A : Inp F) (c : Dev nD) : BitVec 32 := Scalar.addi (V.v3 A c) 2#32
def v12 (A : Inp F) (c : Dev nD) : BitVec 32 := Scalar.remsi (V.v11 A c) 4#32
def v19 (A : Inp F) (c : Dev nD) : BitVec 32 := Scalar.addi (V.v4 A c) (V.v12 A c)
def v5 (A : Inp F) (c : Dev nD) : BitVec 32 := Scalar.subi 4#32 (V.v4 A c)
def v20 (A : Inp F) (c : Dev nD) : BitVec 32 := Scalar.addi (V.v5 A c) (V.v3 A c)
def v21 (A : Inp F) (c : Dev nD) : BitVec 32 := Scalar.addi (V.v5 A c) (V.v9 A c)
def v22 (A : Inp F) (c : Dev nD) : BitVec 32 := Scalar.addi (V.v5 A c) (V.v10 A c)
def v23 (A : Inp F) (c : Dev nD) : BitVec 32 := Scalar.addi (V.v5 A c) (V.v12 A c)
def v31 (A : Inp F) (c : Dev nD) : Vec F S1x128x1x64 .f32 := (Memref.whole cc0_stg2_0).view.readAt (Elt F) (Rect.unit (s := S2x128x4x64) ![0, 0, 0, 0] S1x128x1x64.size inb_S2x128x4x64_S1x128x1x64_0_0_0_0).toLoadRect (A.k c)
def v36 (A : Inp F) (c : Dev nD) : Vec F S1x128x1x64 .f32 := (Memref.whole cc0_stg3_0).view.readAt (Elt F) (Rect.unit (s := S2x128x4x64) ![0, 0, 0, 0] S1x128x1x64.size inb_S2x128x4x64_S1x128x1x64_0_0_0_0).toLoadRect (A.v c)
def v41 (A : Inp F) (c : Dev nD) : Vec F S1x128x1x64 .f32 := (Memref.whole cc0_stg2_0).view.readAt (Elt F) (Rect.unit (s := S2x128x4x64) ![0, 0, 1, 0] S1x128x1x64.size inb_S2x128x4x64_S1x128x1x64_0_0_1_0).toLoadRect (A.k c)
def v46 (A : Inp F) (c : Dev nD) : Vec F S1x128x1x64 .f32 := (Memref.whole cc0_stg3_0).view.readAt (Elt F) (Rect.unit (s := S2x128x4x64) ![0, 0, 1, 0] S1x128x1x64.size inb_S2x128x4x64_S1x128x1x64_0_0_1_0).toLoadRect (A.v c)
def v51 (A : Inp F) (c : Dev nD) : Vec F S1x128x1x64 .f32 := (Memref.whole cc0_stg2_0).view.readAt (Elt F) (Rect.unit (s := S2x128x4x64) ![0, 0, 2, 0] S1x128x1x64.size inb_S2x128x4x64_S1x128x1x64_0_0_2_0).toLoadRect (A.k c)
def v56 (A : Inp F) (c : Dev nD) : Vec F S1x128x1x64 .f32 := (Memref.whole cc0_stg3_0).view.readAt (Elt F) (Rect.unit (s := S2x128x4x64) ![0, 0, 2, 0] S1x128x1x64.size inb_S2x128x4x64_S1x128x1x64_0_0_2_0).toLoadRect (A.v c)
def v61 (A : Inp F) (c : Dev nD) : Vec F S1x128x1x64 .f32 := (Memref.whole cc0_stg2_0).view.readAt (Elt F) (Rect.unit (s := S2x128x4x64) ![0, 0, 3, 0] S1x128x1x64.size inb_S2x128x4x64_S1x128x1x64_0_0_3_0).toLoadRect (A.k c)
def v66 (A : Inp F) (c : Dev nD) : Vec F S1x128x1x64 .f32 := (Memref.whole cc0_stg3_0).view.readAt (Elt F) (Rect.unit (s := S2x128x4x64) ![0, 0, 3, 0] S1x128x1x64.size inb_S2x128x4x64_S1x128x1x64_0_0_3_0).toLoadRect (A.v c)
def v71 (A : Inp F) (c : Dev nD) : Vec F S1x128x1x64 .f32 := (Memref.whole cc0_stg2_0).view.readAt (Elt F) (Rect.unit (s := S2x128x4x64) ![1, 0, 0, 0] S1x128x1x64.size inb_S2x128x4x64_S1x128x1x64_1_0_0_0).toLoadRect (A.k c)
def v76 (A : Inp F) (c : Dev nD) : Vec F S1x128x1x64 .f32 := (Memref.whole cc0_stg3_0).view.readAt (Elt F) (Rect.unit (s := S2x128x4x64) ![1, 0, 0, 0] S1x128x1x64.size inb_S2x128x4x64_S1x128x1x64_1_0_0_0).toLoadRect (A.v c)
def v81 (A : Inp F) (c : Dev nD) : Vec F S1x128x1x64 .f32 := (Memref.whole cc0_stg2_0).view.readAt (Elt F) (Rect.unit (s := S2x128x4x64) ![1, 0, 1, 0] S1x128x1x64.size inb_S2x128x4x64_S1x128x1x64_1_0_1_0).toLoadRect (A.k c)
def v86 (A : Inp F) (c : Dev nD) : Vec F S1x128x1x64 .f32 := (Memref.whole cc0_stg3_0).view.readAt (Elt F) (Rect.unit (s := S2x128x4x64) ![1, 0, 1, 0] S1x128x1x64.size inb_S2x128x4x64_S1x128x1x64_1_0_1_0).toLoadRect (A.v c)
def v91 (A : Inp F) (c : Dev nD) : Vec F S1x128x1x64 .f32 := (Memref.whole cc0_stg2_0).view.readAt (Elt F) (Rect.unit (s := S2x128x4x64) ![1, 0, 2, 0] S1x128x1x64.size inb_S2x128x4x64_S1x128x1x64_1_0_2_0).toLoadRect (A.k c)
def v96 (A : Inp F) (c : Dev nD) : Vec F S1x128x1x64 .f32 := (Memref.whole cc0_stg3_0).view.readAt (Elt F) (Rect.unit (s := S2x128x4x64) ![1, 0, 2, 0] S1x128x1x64.size inb_S2x128x4x64_S1x128x1x64_1_0_2_0).toLoadRect (A.v c)
def v101 (A : Inp F) (c : Dev nD) : Vec F S1x128x1x64 .f32 := (Memref.whole cc0_stg2_0).view.readAt (Elt F) (Rect.unit (s := S2x128x4x64) ![1, 0, 3, 0] S1x128x1x64.size inb_S2x128x4x64_S1x128x1x64_1_0_3_0).toLoadRect (A.k c)
def v106 (A : Inp F) (c : Dev nD) : Vec F S1x128x1x64 .f32 := (Memref.whole cc0_stg3_0).view.readAt (Elt F) (Rect.unit (s := S2x128x4x64) ![1, 0, 3, 0] S1x128x1x64.size inb_S2x128x4x64_S1x128x1x64_1_0_3_0).toLoadRect (A.v c)
def v180 (A : Inp F) (c : Dev nD) : Vec F S512x256 .f32 := (Memref.whole cc0_stg1_0).view.readAt (Elt F) (Rect.unit (s := S512x256) ![0, 0] S512x256.size inb_S512x256_S512x256_0_0).toLoadRect (A.wq c)
def v171 (A : Inp F) (c : Dev nD) : Vec F S1x128x512 .f32 := (Memref.whole cc0_stg0_0).view.readAt (Elt F) (Rect.unit (s := S2x128x512) ![0, 0, 0] S1x128x512.size inb_S2x128x512_S1x128x512_0_0_0).toLoadRect (A.x c)
def v173 (A : Inp F) (c : Dev nD) : Vec F S512x256 .f32 := (Memref.whole cc0_stg1_0).view.readAt (Elt F) (Rect.unit (s := S512x256) ![0, 0] S512x256.size inb_S512x256_S512x256_0_0).toLoadRect (A.wq c)
def v178 (A : Inp F) (c : Dev nD) : Vec F S1x128x512 .f32 := (Memref.whole cc0_stg0_0).view.readAt (Elt F) (Rect.unit (s := S2x128x512) ![1, 0, 0] S1x128x512.size inb_S2x128x512_S1x128x512_1_0_0).toLoadRect (A.x c)
def v187 (A : Inp F) (c : Dev nD) : FVec F S2x4x128x64 .f32 := k0_pay17 (V.v171 A c) (V.v173 A c) (V.v178 A c) (V.v180 A c)
def v282 (A : Inp F) (c : Dev nD) : Vec F S1x1x4x128x64 .f32 := (Memref.whole cc0_scratch0).view.readAt (Elt F) (Rect.unit (s := S2x2x4x128x64) ![0, 0, 0, 0, 0] S1x1x4x128x64.size inb_S2x2x4x128x64_S1x1x4x128x64_0_0_0_0_0).toLoadRect (mineC A.k A.v c)
def v286 (A : Inp F) (c : Dev nD) : FVec F S4x128x128 .f32 := k0_pay18 (V.v187 A c) (V.v282 A c)
def v314 (A : Inp F) (c : Dev nD) : IVec S128x128 32 := k0_pay19 (V.v2 A c)
def v315 (A : Inp F) (c : Dev nD) : BitVec 32 := Scalar.muli (V.v2 A c) 2#32
def v316 (A : Inp F) (c : Dev nD) : IVec S128x128 32 := iota .tc S128x128 32 [1] iota_S128x128_d1_w32
def c64_i32_405 (A : Inp F) (c : Dev nD) : BitVec 32 := 64#32
def v318 (A : Inp F) (c : Dev nD) : IVec S128x128 32 := k0_pay20
def v321 (A : Inp F) (c : Dev nD) : IVec S128x128 32 := k0_pay21
def v359 (A : Inp F) (c : Dev nD) : FVec F S4x128x1 .f32 := k0_pay23 (V.v286 A c) (V.v314 A c) (V.v315 A c) (V.v316 A c) (V.c64_i32_405 A c) (V.v318 A c) (V.v321 A c)
def v362 (A : Inp F) (c : Dev nD) : FVec F S4x128x128 .f32 := k0_pay24 (V.v286 A c) (V.v314 A c) (V.v315 A c) (V.v316 A c) (V.c64_i32_405 A c) (V.v318 A c) (V.v321 A c)
def v364 (A : Inp F) (c : Dev nD) : FVec F S4x128x1 .f32 := k0_pay25 (V.v286 A c) (V.v314 A c) (V.v315 A c) (V.v316 A c) (V.c64_i32_405 A c) (V.v318 A c) (V.v321 A c)
def v365 (A : Inp F) (c : Dev nD) : Vec F S1x1x4x128x64 .f32 := (Memref.whole cc0_scratch0).view.readAt (Elt F) (Rect.unit (s := S2x2x4x128x64) ![0, 1, 0, 0, 0] S1x1x4x128x64.size inb_S2x2x4x128x64_S1x1x4x128x64_0_1_0_0_0).toLoadRect (mineC A.k A.v c)
def v367 (A : Inp F) (c : Dev nD) : FVec F S4x128x64 .f32 := k0_pay26 (V.v362 A c) (V.v365 A c)
def v370 (A : Inp F) (c : Dev nD) : Vec F S1x1x4x128x64 .f32 := (Memref.whole cc0_scratch0).view.readAt (Elt F) (Rect.unit (s := S2x2x4x128x64) ![1, 0, 0, 0, 0] S1x1x4x128x64.size inb_S2x2x4x128x64_S1x1x4x128x64_1_0_0_0_0).toLoadRect (mineC A.k A.v c)
def v374 (A : Inp F) (c : Dev nD) : FVec F S4x128x128 .f32 := k0_pay27 (V.v187 A c) (V.v370 A c)
def v402 (A : Inp F) (c : Dev nD) : IVec S128x128 32 := k0_pay28 (V.v2 A c)
def v403 (A : Inp F) (c : Dev nD) : BitVec 32 := Scalar.muli (V.v2 A c) 2#32
def v404 (A : Inp F) (c : Dev nD) : IVec S128x128 32 := iota .tc S128x128 32 [1] iota_S128x128_d1_w32
def c64_i32_440 (A : Inp F) (c : Dev nD) : BitVec 32 := 64#32
def v406 (A : Inp F) (c : Dev nD) : IVec S128x128 32 := k0_pay29
def c0_i32_441 (A : Inp F) (c : Dev nD) : BitVec 32 := 0#32
def v447 (A : Inp F) (c : Dev nD) : FVec F S4x128x1 .f32 := k0_pay31 (V.v374 A c) (V.v402 A c) (V.v403 A c) (V.v404 A c) (V.c64_i32_440 A c) (V.v406 A c) (V.c0_i32_441 A c)
def v450 (A : Inp F) (c : Dev nD) : FVec F S4x128x128 .f32 := k0_pay32 (V.v374 A c) (V.v402 A c) (V.v403 A c) (V.v404 A c) (V.c64_i32_440 A c) (V.v406 A c) (V.c0_i32_441 A c)
def v452 (A : Inp F) (c : Dev nD) : FVec F S4x128x1 .f32 := k0_pay33 (V.v374 A c) (V.v402 A c) (V.v403 A c) (V.v404 A c) (V.c64_i32_440 A c) (V.v406 A c) (V.c0_i32_441 A c)
def v453 (A : Inp F) (c : Dev nD) : Vec F S1x1x4x128x64 .f32 := (Memref.whole cc0_scratch0).view.readAt (Elt F) (Rect.unit (s := S2x2x4x128x64) ![1, 1, 0, 0, 0] S1x1x4x128x64.size inb_S2x2x4x128x64_S1x1x4x128x64_1_1_0_0_0).toLoadRect (mineC A.k A.v c)
def v455 (A : Inp F) (c : Dev nD) : FVec F S4x128x64 .f32 := k0_pay34 (V.v450 A c) (V.v453 A c)
def v458 (A : Inp F) (c : Dev nD) : Vec F S1x1x4x128x64 .f32 := (Memref.whole cc0_scratch1).view.readAt (Elt F) (Rect.unit (s := S7x2x4x128x64) ![0, 0, 0, 0, 0] S1x1x4x128x64.size inb_S7x2x4x128x64_S1x1x4x128x64_0_0_0_0_0).toLoadRect (recvB A.k A.v 0 c)
def v462 (A : Inp F) (c : Dev nD) : FVec F S4x128x128 .f32 := k0_pay35 (V.v187 A c) (V.v458 A c)
def v490 (A : Inp F) (c : Dev nD) : IVec S128x128 32 := k0_pay36 (V.v2 A c)
def v491 (A : Inp F) (c : Dev nD) : BitVec 32 := Scalar.muli (V.v17 A c) 2#32
def v492 (A : Inp F) (c : Dev nD) : IVec S128x128 32 := iota .tc S128x128 32 [1] iota_S128x128_d1_w32
def c64_i32_475 (A : Inp F) (c : Dev nD) : BitVec 32 := 64#32
def v536 (A : Inp F) (c : Dev nD) : FVec F S4x128x1 .f32 := k0_pay38 (V.v359 A c) (V.v462 A c) (V.v490 A c) (V.v491 A c) (V.v492 A c) (V.c64_i32_475 A c)
def v539 (A : Inp F) (c : Dev nD) : FVec F S4x128x128 .f32 := k0_pay39 (V.v359 A c) (V.v462 A c) (V.v490 A c) (V.v491 A c) (V.v492 A c) (V.c64_i32_475 A c)
def v541 (A : Inp F) (c : Dev nD) : FVec F S4x128x1 .f32 := k0_pay40 (V.v359 A c) (V.v462 A c) (V.v490 A c) (V.v491 A c) (V.v492 A c) (V.c64_i32_475 A c)
def v545 (A : Inp F) (c : Dev nD) : FVec F S4x128x1 .f32 := k0_pay41 (V.v364 A c) (V.v539 A c) (V.v541 A c)
def v548 (A : Inp F) (c : Dev nD) : Vec F S1x1x4x128x64 .f32 := (Memref.whole cc0_scratch1).view.readAt (Elt F) (Rect.unit (s := S7x2x4x128x64) ![0, 1, 0, 0, 0] S1x1x4x128x64.size inb_S7x2x4x128x64_S1x1x4x128x64_0_1_0_0_0).toLoadRect (recvB A.k A.v 0 c)
def v551 (A : Inp F) (c : Dev nD) : FVec F S4x128x64 .f32 := k0_pay42 (V.v367 A c) (V.v539 A c) (V.v541 A c) (V.v548 A c)
def v554 (A : Inp F) (c : Dev nD) : Vec F S1x1x4x128x64 .f32 := (Memref.whole cc0_scratch2).view.readAt (Elt F) (Rect.unit (s := S7x2x4x128x64) ![0, 0, 0, 0, 0] S1x1x4x128x64.size inb_S7x2x4x128x64_S1x1x4x128x64_0_0_0_0_0).toLoadRect (recvB A.k A.v 1 c)
def v558 (A : Inp F) (c : Dev nD) : FVec F S4x128x128 .f32 := k0_pay43 (V.v187 A c) (V.v554 A c)
def v559 (A : Inp F) (c : Dev nD) : BitVec 32 := Scalar.muli (V.v2 A c) 2#32
def v562 (A : Inp F) (c : Dev nD) : IVec S128x128 32 := k0_pay44
def v576 (A : Inp F) (c : Dev nD) : IVec S128x128 1 := k0_pay45
def v580 (A : Inp F) (c : Dev nD) : IVec S128x128 1 := k0_pay46
def cst_520 (A : Inp F) (c : Dev nD) : F .f32 := Scalar.ofBits .f32 0xCE6E6B28#32
def v627 (A : Inp F) (c : Dev nD) : IVec S4x128x128 1 := k0_pay47 (V.v20 A c) (V.v559 A c) (V.v562 A c) (V.v576 A c) (V.v580 A c)
def v632 (A : Inp F) (c : Dev nD) : FVec F S4x128x1 .f32 := k0_pay49 (V.v447 A c) (V.v558 A c) (V.cst_520 A c) (V.v627 A c)
def v641 (A : Inp F) (c : Dev nD) : FVec F S4x128x1 .f32 := k0_pay52 (V.v447 A c) (V.v452 A c) (V.v558 A c) (V.cst_520 A c) (V.v627 A c)
def v644 (A : Inp F) (c : Dev nD) : Vec F S1x1x4x128x64 .f32 := (Memref.whole cc0_scratch2).view.readAt (Elt F) (Rect.unit (s := S7x2x4x128x64) ![0, 1, 0, 0, 0] S1x1x4x128x64.size inb_S7x2x4x128x64_S1x1x4x128x64_0_1_0_0_0).toLoadRect (recvB A.k A.v 1 c)
def v647 (A : Inp F) (c : Dev nD) : FVec F S4x128x64 .f32 := k0_pay53 (V.v447 A c) (V.v455 A c) (V.v558 A c) (V.cst_520 A c) (V.v627 A c) (V.v644 A c)
def v650 (A : Inp F) (c : Dev nD) : Vec F S1x1x4x128x64 .f32 := (Memref.whole cc0_scratch1).view.readAt (Elt F) (Rect.unit (s := S7x2x4x128x64) ![1, 0, 0, 0, 0] S1x1x4x128x64.size inb_S7x2x4x128x64_S1x1x4x128x64_1_0_0_0_0).toLoadRect (recvB A.k A.v 0 c)
def v654 (A : Inp F) (c : Dev nD) : FVec F S4x128x128 .f32 := k0_pay54 (V.v187 A c) (V.v650 A c)
def v655 (A : Inp F) (c : Dev nD) : BitVec 32 := Scalar.muli (V.v2 A c) 2#32
def v656 (A : Inp F) (c : Dev nD) : IVec S128x128 32 := iota .tc S128x128 32 [0] iota_S128x128_d0_w32
def c64_i32_537 (A : Inp F) (c : Dev nD) : BitVec 32 := 64#32
def v658 (A : Inp F) (c : Dev nD) : IVec S128x128 32 := k0_pay55
def v665 (A : Inp F) (c : Dev nD) : IVec S128x128 32 := k0_pay56
def v666 (A : Inp F) (c : Dev nD) : BitVec 1 := Scalar.cmpi .sgt 64#32 0#32
def v667 (A : Inp F) (c : Dev nD) : BitVec 32 := Scalar.extui (V.v666 A c)
def v714 (A : Inp F) (c : Dev nD) : IVec S128x128 1 := k0_pay59 (V.v18 A c) (V.v655 A c) (V.v656 A c) (V.c64_i32_537 A c) (V.v658 A c) (V.v665 A c) (V.v667 A c)
def v715 (A : Inp F) (c : Dev nD) : IVec S128x128 32 := k0_pay60 (V.v18 A c) (V.v655 A c) (V.v656 A c) (V.c64_i32_537 A c) (V.v658 A c) (V.v665 A c) (V.v667 A c)
def v728 (A : Inp F) (c : Dev nD) : FVec F S4x128x1 .f32 := k0_pay62 (V.v536 A c) (V.v654 A c) (V.v714 A c) (V.v715 A c)
def v737 (A : Inp F) (c : Dev nD) : FVec F S4x128x1 .f32 := k0_pay65 (V.v536 A c) (V.v545 A c) (V.v654 A c) (V.v714 A c) (V.v715 A c)
def v740 (A : Inp F) (c : Dev nD) : Vec F S1x1x4x128x64 .f32 := (Memref.whole cc0_scratch1).view.readAt (Elt F) (Rect.unit (s := S7x2x4x128x64) ![1, 1, 0, 0, 0] S1x1x4x128x64.size inb_S7x2x4x128x64_S1x1x4x128x64_1_1_0_0_0).toLoadRect (recvB A.k A.v 0 c)
def v743 (A : Inp F) (c : Dev nD) : FVec F S4x128x64 .f32 := k0_pay66 (V.v536 A c) (V.v551 A c) (V.v654 A c) (V.v714 A c) (V.v715 A c) (V.v740 A c)
def v746 (A : Inp F) (c : Dev nD) : Vec F S1x1x4x128x64 .f32 := (Memref.whole cc0_scratch2).view.readAt (Elt F) (Rect.unit (s := S7x2x4x128x64) ![1, 0, 0, 0, 0] S1x1x4x128x64.size inb_S7x2x4x128x64_S1x1x4x128x64_1_0_0_0_0).toLoadRect (recvB A.k A.v 1 c)
def v750 (A : Inp F) (c : Dev nD) : FVec F S4x128x128 .f32 := k0_pay67 (V.v187 A c) (V.v746 A c)
def v751 (A : Inp F) (c : Dev nD) : BitVec 32 := Scalar.muli (V.v2 A c) 2#32
def v752 (A : Inp F) (c : Dev nD) : IVec S128x128 32 := iota .tc S128x128 32 [0] iota_S128x128_d0_w32
def c64_i32_572 (A : Inp F) (c : Dev nD) : BitVec 32 := 64#32
def v754 (A : Inp F) (c : Dev nD) : IVec S128x128 32 := k0_pay68
def c0_i32_573 (A : Inp F) (c : Dev nD) : BitVec 32 := 0#32
def v778 (A : Inp F) (c : Dev nD) : IVec S128x128 32 := k0_pay69 (V.v751 A c) (V.v752 A c) (V.c64_i32_572 A c) (V.v754 A c) (V.c0_i32_573 A c)
def v779 (A : Inp F) (c : Dev nD) : BitVec 32 := Scalar.muli (V.v18 A c) 2#32
def v782 (A : Inp F) (c : Dev nD) : IVec S128x128 32 := k0_pay70
def v801 (A : Inp F) (c : Dev nD) : IVec S128x128 1 := k0_pay71
def c1_i32_586 (A : Inp F) (c : Dev nD) : BitVec 32 := 1#32
def v824 (A : Inp F) (c : Dev nD) : FVec F S4x128x1 .f32 := k0_pay73 (V.v632 A c) (V.v750 A c) (V.v778 A c) (V.v779 A c) (V.v782 A c) (V.v801 A c) (V.c1_i32_586 A c)
def v833 (A : Inp F) (c : Dev nD) : FVec F S4x128x1 .f32 := k0_pay76 (V.v632 A c) (V.v641 A c) (V.v750 A c) (V.v778 A c) (V.v779 A c) (V.v782 A c) (V.v801 A c) (V.c1_i32_586 A c)
def v836 (A : Inp F) (c : Dev nD) : Vec F S1x1x4x128x64 .f32 := (Memref.whole cc0_scratch2).view.readAt (Elt F) (Rect.unit (s := S7x2x4x128x64) ![1, 1, 0, 0, 0] S1x1x4x128x64.size inb_S7x2x4x128x64_S1x1x4x128x64_1_1_0_0_0).toLoadRect (recvB A.k A.v 1 c)
def v839 (A : Inp F) (c : Dev nD) : FVec F S4x128x64 .f32 := k0_pay77 (V.v632 A c) (V.v647 A c) (V.v750 A c) (V.v778 A c) (V.v779 A c) (V.v782 A c) (V.v801 A c) (V.c1_i32_586 A c) (V.v836 A c)
def v850 (A : Inp F) (c : Dev nD) : Vec F S1x1x4x128x64 .f32 := (Memref.whole cc0_scratch1).view.readAt (Elt F) (Rect.unit (s := S7x2x4x128x64) ![3, 0, 0, 0, 0] S1x1x4x128x64.size inb_S7x2x4x128x64_S1x1x4x128x64_3_0_0_0_0).toLoadRect (recvB A.k A.v 0 c)
def v854 (A : Inp F) (c : Dev nD) : FVec F S4x128x128 .f32 := k0_pay78 (V.v187 A c) (V.v850 A c)
def v855 (A : Inp F) (c : Dev nD) : BitVec 32 := Scalar.muli (V.v2 A c) 2#32
def v858 (A : Inp F) (c : Dev nD) : IVec S128x128 32 := k0_pay79
def v877 (A : Inp F) (c : Dev nD) : IVec S128x128 1 := k0_pay80
def v879 (A : Inp F) (c : Dev nD) : IVec S128x128 32 := k0_pay81
def v925 (A : Inp F) (c : Dev nD) : FVec F S4x128x128 .f32 := k0_pay82 (V.v20 A c) (V.v854 A c) (V.v855 A c) (V.v858 A c) (V.v877 A c) (V.v879 A c)
def v926 (A : Inp F) (c : Dev nD) : FVec F S4x128 .f32 := k0_pay83 (V.v20 A c) (V.v854 A c) (V.v855 A c) (V.v858 A c) (V.v877 A c) (V.v879 A c)
def v928 (A : Inp F) (c : Dev nD) : FVec F S4x128x1 .f32 := k0_pay84 (V.v728 A c) (V.v926 A c)
def v937 (A : Inp F) (c : Dev nD) : FVec F S4x128x1 .f32 := k0_pay87 (V.v728 A c) (V.v737 A c) (V.v925 A c) (V.v926 A c)
def v940 (A : Inp F) (c : Dev nD) : Vec F S1x1x4x128x64 .f32 := (Memref.whole cc0_scratch1).view.readAt (Elt F) (Rect.unit (s := S7x2x4x128x64) ![3, 1, 0, 0, 0] S1x1x4x128x64.size inb_S7x2x4x128x64_S1x1x4x128x64_3_1_0_0_0).toLoadRect (recvB A.k A.v 0 c)
def v943 (A : Inp F) (c : Dev nD) : FVec F S4x128x64 .f32 := k0_pay88 (V.v728 A c) (V.v743 A c) (V.v925 A c) (V.v926 A c) (V.v940 A c)
def v954 (A : Inp F) (c : Dev nD) : Vec F S1x1x4x128x64 .f32 := (Memref.whole cc0_scratch2).view.readAt (Elt F) (Rect.unit (s := S7x2x4x128x64) ![3, 0, 0, 0, 0] S1x1x4x128x64.size inb_S7x2x4x128x64_S1x1x4x128x64_3_0_0_0_0).toLoadRect (recvB A.k A.v 1 c)
def v956 (A : Inp F) (c : Dev nD) : FVec F S4x128x128 .f32 := k0_pay89 (V.v187 A c) (V.v954 A c)
def v957 (A : Inp F) (c : Dev nD) : FVec F S4x128x128 .f32 := k0_pay90 (F := F)
def v958 (A : Inp F) (c : Dev nD) : FVec F S4x128x128 .f32 := k0_pay91 (V.v956 A c) (V.v957 A c)
def v986 (A : Inp F) (c : Dev nD) : IVec S128x128 32 := k0_pay92 (V.v2 A c)
def v987 (A : Inp F) (c : Dev nD) : BitVec 32 := Scalar.muli (V.v17 A c) 2#32
def v988 (A : Inp F) (c : Dev nD) : IVec S128x128 32 := iota .tc S128x128 32 [1] iota_S128x128_d1_w32
def c64_i32_678 (A : Inp F) (c : Dev nD) : BitVec 32 := 64#32
def v990 (A : Inp F) (c : Dev nD) : IVec S128x128 32 := k0_pay93
def v997 (A : Inp F) (c : Dev nD) : IVec S128x128 32 := k0_pay94
def v1003 (A : Inp F) (c : Dev nD) : IVec S128x128 32 := k0_pay95
def v1032 (A : Inp F) (c : Dev nD) : FVec F S4x128x1 .f32 := k0_pay97 (V.v824 A c) (V.v958 A c) (V.v986 A c) (V.v987 A c) (V.v988 A c) (V.c64_i32_678 A c) (V.v990 A c) (V.v997 A c) (V.v1003 A c)
def v1041 (A : Inp F) (c : Dev nD) : FVec F S4x128x1 .f32 := k0_pay100 (V.v824 A c) (V.v833 A c) (V.v958 A c) (V.v986 A c) (V.v987 A c) (V.v988 A c) (V.c64_i32_678 A c) (V.v990 A c) (V.v997 A c) (V.v1003 A c)
def v1044 (A : Inp F) (c : Dev nD) : Vec F S1x1x4x128x64 .f32 := (Memref.whole cc0_scratch2).view.readAt (Elt F) (Rect.unit (s := S7x2x4x128x64) ![3, 1, 0, 0, 0] S1x1x4x128x64.size inb_S7x2x4x128x64_S1x1x4x128x64_3_1_0_0_0).toLoadRect (recvB A.k A.v 1 c)
def v1047 (A : Inp F) (c : Dev nD) : FVec F S4x128x64 .f32 := k0_pay101 (V.v824 A c) (V.v839 A c) (V.v958 A c) (V.v986 A c) (V.v987 A c) (V.v988 A c) (V.c64_i32_678 A c) (V.v990 A c) (V.v997 A c) (V.v1003 A c) (V.v1044 A c)
def v1068 (A : Inp F) (c : Dev nD) : Vec F S1x1x4x128x64 .f32 := (Memref.whole cc0_scratch1).view.readAt (Elt F) (Rect.unit (s := S7x2x4x128x64) ![2, 0, 0, 0, 0] S1x1x4x128x64.size inb_S7x2x4x128x64_S1x1x4x128x64_2_0_0_0_0).toLoadRect (recvB A.k A.v 0 c)
def v1072 (A : Inp F) (c : Dev nD) : FVec F S4x128x128 .f32 := k0_pay102 (V.v187 A c) (V.v1068 A c)
def v1100 (A : Inp F) (c : Dev nD) : IVec S128x128 32 := k0_pay103 (V.v2 A c)
def v1101 (A : Inp F) (c : Dev nD) : BitVec 32 := Scalar.muli (V.v19 A c) 2#32
def v1102 (A : Inp F) (c : Dev nD) : IVec S128x128 32 := iota .tc S128x128 32 [1] iota_S128x128_d1_w32
def c64_i32_740 (A : Inp F) (c : Dev nD) : BitVec 32 := 64#32
def v1104 (A : Inp F) (c : Dev nD) : IVec S128x128 32 := k0_pay104
def v1118 (A : Inp F) (c : Dev nD) : IVec S128x128 1 := k0_pay105
def v1146 (A : Inp F) (c : Dev nD) : FVec F S4x128x1 .f32 := k0_pay107 (V.v928 A c) (V.v1072 A c) (V.v1100 A c) (V.v1101 A c) (V.v1102 A c) (V.c64_i32_740 A c) (V.v1104 A c) (V.v1118 A c)
def v1155 (A : Inp F) (c : Dev nD) : FVec F S4x128x1 .f32 := k0_pay110 (V.v928 A c) (V.v937 A c) (V.v1072 A c) (V.v1100 A c) (V.v1101 A c) (V.v1102 A c) (V.c64_i32_740 A c) (V.v1104 A c) (V.v1118 A c)
def v1158 (A : Inp F) (c : Dev nD) : Vec F S1x1x4x128x64 .f32 := (Memref.whole cc0_scratch1).view.readAt (Elt F) (Rect.unit (s := S7x2x4x128x64) ![2, 1, 0, 0, 0] S1x1x4x128x64.size inb_S7x2x4x128x64_S1x1x4x128x64_2_1_0_0_0).toLoadRect (recvB A.k A.v 0 c)
def v1161 (A : Inp F) (c : Dev nD) : FVec F S4x128x64 .f32 := k0_pay111 (V.v928 A c) (V.v943 A c) (V.v1072 A c) (V.v1100 A c) (V.v1101 A c) (V.v1102 A c) (V.c64_i32_740 A c) (V.v1104 A c) (V.v1118 A c) (V.v1158 A c)
def v1182 (A : Inp F) (c : Dev nD) : Vec F S1x1x4x128x64 .f32 := (Memref.whole cc0_scratch2).view.readAt (Elt F) (Rect.unit (s := S7x2x4x128x64) ![2, 0, 0, 0, 0] S1x1x4x128x64.size inb_S7x2x4x128x64_S1x1x4x128x64_2_0_0_0_0).toLoadRect (recvB A.k A.v 1 c)
def v1186 (A : Inp F) (c : Dev nD) : FVec F S4x128x128 .f32 := k0_pay112 (V.v187 A c) (V.v1182 A c)
def c2_i32_794 (A : Inp F) (c : Dev nD) : BitVec 32 := 2#32
def v1214 (A : Inp F) (c : Dev nD) : IVec S128x128 32 := k0_pay113 (V.v2 A c) (V.c2_i32_794 A c)
def v1215 (A : Inp F) (c : Dev nD) : BitVec 32 := Scalar.muli (V.v22 A c) 2#32
def v1216 (A : Inp F) (c : Dev nD) : IVec S128x128 32 := iota .tc S128x128 32 [1] iota_S128x128_d1_w32
def v1218 (A : Inp F) (c : Dev nD) : IVec S128x128 32 := k0_pay114
def v1232 (A : Inp F) (c : Dev nD) : IVec S128x128 1 := k0_pay115
def v1233 (A : Inp F) (c : Dev nD) : IVec S128x128 32 := k0_pay116
def v1260 (A : Inp F) (c : Dev nD) : FVec F S4x128x1 .f32 := k0_pay118 (V.v1032 A c) (V.v1186 A c) (V.v1214 A c) (V.v1215 A c) (V.v1216 A c) (V.v1218 A c) (V.v1232 A c) (V.v1233 A c)
def v1269 (A : Inp F) (c : Dev nD) : FVec F S4x128x1 .f32 := k0_pay121 (V.v1032 A c) (V.v1041 A c) (V.v1186 A c) (V.v1214 A c) (V.v1215 A c) (V.v1216 A c) (V.v1218 A c) (V.v1232 A c) (V.v1233 A c)
def v1272 (A : Inp F) (c : Dev nD) : Vec F S1x1x4x128x64 .f32 := (Memref.whole cc0_scratch2).view.readAt (Elt F) (Rect.unit (s := S7x2x4x128x64) ![2, 1, 0, 0, 0] S1x1x4x128x64.size inb_S7x2x4x128x64_S1x1x4x128x64_2_1_0_0_0).toLoadRect (recvB A.k A.v 1 c)
def v1275 (A : Inp F) (c : Dev nD) : FVec F S4x128x64 .f32 := k0_pay122 (V.v1032 A c) (V.v1047 A c) (V.v1186 A c) (V.v1214 A c) (V.v1215 A c) (V.v1216 A c) (V.v1218 A c) (V.v1232 A c) (V.v1233 A c) (V.v1272 A c)
def v1286 (A : Inp F) (c : Dev nD) : Vec F S1x1x4x128x64 .f32 := (Memref.whole cc0_scratch1).view.readAt (Elt F) (Rect.unit (s := S7x2x4x128x64) ![4, 0, 0, 0, 0] S1x1x4x128x64.size inb_S7x2x4x128x64_S1x1x4x128x64_4_0_0_0_0).toLoadRect (recvB A.k A.v 0 c)
def v1290 (A : Inp F) (c : Dev nD) : FVec F S4x128x128 .f32 := k0_pay123 (V.v187 A c) (V.v1286 A c)
def v1291 (A : Inp F) (c : Dev nD) : BitVec 32 := Scalar.muli (V.v2 A c) 2#32
def v1294 (A : Inp F) (c : Dev nD) : IVec S128x128 32 := k0_pay124
def v1308 (A : Inp F) (c : Dev nD) : IVec S128x128 1 := k0_pay125
def v1310 (A : Inp F) (c : Dev nD) : IVec S128x128 32 := k0_pay126
def c0_i32_848 (A : Inp F) (c : Dev nD) : BitVec 32 := 0#32
def v1357 (A : Inp F) (c : Dev nD) : IVec S1x128x128 1 := k0_pay127 (V.v21 A c) (V.v1291 A c) (V.v1294 A c) (V.v1308 A c) (V.v1310 A c) (V.c0_i32_848 A c)
def cst_861 (A : Inp F) (c : Dev nD) : F .f32 := Scalar.ofBits .f32 0xCE6E6B28#32
def v1364 (A : Inp F) (c : Dev nD) : FVec F S4x128x1 .f32 := k0_pay129 (V.v1146 A c) (V.v1290 A c) (V.v1357 A c) (V.cst_861 A c)
def v1373 (A : Inp F) (c : Dev nD) : FVec F S4x128x1 .f32 := k0_pay132 (V.v1146 A c) (V.v1155 A c) (V.v1290 A c) (V.v1357 A c) (V.cst_861 A c)
def v1376 (A : Inp F) (c : Dev nD) : Vec F S1x1x4x128x64 .f32 := (Memref.whole cc0_scratch1).view.readAt (Elt F) (Rect.unit (s := S7x2x4x128x64) ![4, 1, 0, 0, 0] S1x1x4x128x64.size inb_S7x2x4x128x64_S1x1x4x128x64_4_1_0_0_0).toLoadRect (recvB A.k A.v 0 c)
def v1379 (A : Inp F) (c : Dev nD) : FVec F S4x128x64 .f32 := k0_pay133 (V.v1146 A c) (V.v1161 A c) (V.v1290 A c) (V.v1357 A c) (V.cst_861 A c) (V.v1376 A c)
def v1389 (A : Inp F) (c : Dev nD) : FVec F S4x128x64 .f32 := k0_pay134 (V.v187 A c)
def v1390 (A : Inp F) (c : Dev nD) : Vec F S1x1x4x128x64 .f32 := (Memref.whole cc0_scratch2).view.readAt (Elt F) (Rect.unit (s := S7x2x4x128x64) ![4, 0, 0, 0, 0] S1x1x4x128x64.size inb_S7x2x4x128x64_S1x1x4x128x64_4_0_0_0_0).toLoadRect (recvB A.k A.v 1 c)
def v1394 (A : Inp F) (c : Dev nD) : FVec F S4x128x128 .f32 := k0_pay135 (V.v1389 A c) (V.v1390 A c)
def v1422 (A : Inp F) (c : Dev nD) : IVec S128x128 32 := k0_pay136 (V.v2 A c)
def v1423 (A : Inp F) (c : Dev nD) : BitVec 32 := Scalar.muli (V.v21 A c) 2#32
def v1424 (A : Inp F) (c : Dev nD) : IVec S128x128 32 := iota .tc S128x128 32 [1] iota_S128x128_d1_w32
def c64_i32_900 (A : Inp F) (c : Dev nD) : BitVec 32 := 64#32
def v1426 (A : Inp F) (c : Dev nD) : IVec S128x128 32 := k0_pay137
def v1433 (A : Inp F) (c : Dev nD) : IVec S128x128 32 := k0_pay138
def v1434 (A : Inp F) (c : Dev nD) : BitVec 1 := Scalar.cmpi .sgt 64#32 0#32
def v1468 (A : Inp F) (c : Dev nD) : FVec F S4x128x1 .f32 := k0_pay140 (V.v1260 A c) (V.v1394 A c) (V.v1422 A c) (V.v1423 A c) (V.v1424 A c) (V.c64_i32_900 A c) (V.v1426 A c) (V.v1433 A c) (V.v1434 A c)
def v1471 (A : Inp F) (c : Dev nD) : FVec F S4x128x128 .f32 := k0_pay141 (V.v1260 A c) (V.v1394 A c) (V.v1422 A c) (V.v1423 A c) (V.v1424 A c) (V.c64_i32_900 A c) (V.v1426 A c) (V.v1433 A c) (V.v1434 A c)
def v1477 (A : Inp F) (c : Dev nD) : FVec F S4x128x1 .f32 := k0_pay143 (V.v1260 A c) (V.v1269 A c) (V.v1394 A c) (V.v1422 A c) (V.v1423 A c) (V.v1424 A c) (V.c64_i32_900 A c) (V.v1426 A c) (V.v1433 A c) (V.v1434 A c)
def v1479 (A : Inp F) (c : Dev nD) : FVec F S4x128x64 .f32 := k0_pay144 (V.v1260 A c) (V.v1275 A c) (V.v1394 A c) (V.v1422 A c) (V.v1423 A c) (V.v1424 A c) (V.c64_i32_900 A c) (V.v1426 A c) (V.v1433 A c) (V.v1434 A c)
def v1480 (A : Inp F) (c : Dev nD) : Vec F S1x1x4x128x64 .f32 := (Memref.whole cc0_scratch2).view.readAt (Elt F) (Rect.unit (s := S7x2x4x128x64) ![4, 1, 0, 0, 0] S1x1x4x128x64.size inb_S7x2x4x128x64_S1x1x4x128x64_4_1_0_0_0).toLoadRect (recvB A.k A.v 1 c)
def v1483 (A : Inp F) (c : Dev nD) : FVec F S4x128x64 .f32 := k0_pay145 (V.v1471 A c) (V.v1479 A c) (V.v1480 A c)
def v1494 (A : Inp F) (c : Dev nD) : Vec F S1x1x4x128x64 .f32 := (Memref.whole cc0_scratch1).view.readAt (Elt F) (Rect.unit (s := S7x2x4x128x64) ![5, 0, 0, 0, 0] S1x1x4x128x64.size inb_S7x2x4x128x64_S1x1x4x128x64_5_0_0_0_0).toLoadRect (recvB A.k A.v 0 c)
def v1498 (A : Inp F) (c : Dev nD) : FVec F S4x128x128 .f32 := k0_pay146 (V.v187 A c) (V.v1494 A c)
def v1499 (A : Inp F) (c : Dev nD) : BitVec 32 := Scalar.muli (V.v2 A c) 2#32
def v1500 (A : Inp F) (c : Dev nD) : IVec S128x128 32 := iota .tc S128x128 32 [0] iota_S128x128_d0_w32
def c64_i32_940 (A : Inp F) (c : Dev nD) : BitVec 32 := 64#32
def v1502 (A : Inp F) (c : Dev nD) : IVec S128x128 32 := k0_pay147
def v1509 (A : Inp F) (c : Dev nD) : IVec S128x128 32 := k0_pay148
def v1510 (A : Inp F) (c : Dev nD) : BitVec 1 := Scalar.cmpi .sgt 64#32 0#32
def v1511 (A : Inp F) (c : Dev nD) : BitVec 32 := Scalar.extui (V.v1510 A c)
def c0_i32_944 (A : Inp F) (c : Dev nD) : BitVec 32 := 0#32
def v1558 (A : Inp F) (c : Dev nD) : IVec S128x128 1 := k0_pay151 (V.v22 A c) (V.v1499 A c) (V.v1500 A c) (V.c64_i32_940 A c) (V.v1502 A c) (V.v1509 A c) (V.v1511 A c) (V.c0_i32_944 A c)
def v1559 (A : Inp F) (c : Dev nD) : IVec S128x128 32 := k0_pay152 (V.v22 A c) (V.v1499 A c) (V.v1500 A c) (V.c64_i32_940 A c) (V.v1502 A c) (V.v1509 A c) (V.v1511 A c) (V.c0_i32_944 A c)
def c3_i32_956 (A : Inp F) (c : Dev nD) : BitVec 32 := 3#32
def v1572 (A : Inp F) (c : Dev nD) : FVec F S4x128x1 .f32 := k0_pay154 (V.v1364 A c) (V.v1498 A c) (V.v1558 A c) (V.v1559 A c) (V.c3_i32_956 A c)
def v1581 (A : Inp F) (c : Dev nD) : FVec F S4x128x1 .f32 := k0_pay157 (V.v1364 A c) (V.v1373 A c) (V.v1498 A c) (V.v1558 A c) (V.v1559 A c) (V.c3_i32_956 A c)
def v1584 (A : Inp F) (c : Dev nD) : Vec F S1x1x4x128x64 .f32 := (Memref.whole cc0_scratch1).view.readAt (Elt F) (Rect.unit (s := S7x2x4x128x64) ![5, 1, 0, 0, 0] S1x1x4x128x64.size inb_S7x2x4x128x64_S1x1x4x128x64_5_1_0_0_0).toLoadRect (recvB A.k A.v 0 c)
def v1587 (A : Inp F) (c : Dev nD) : FVec F S4x128x64 .f32 := k0_pay158 (V.v1364 A c) (V.v1379 A c) (V.v1498 A c) (V.v1558 A c) (V.v1559 A c) (V.c3_i32_956 A c) (V.v1584 A c)
def v1598 (A : Inp F) (c : Dev nD) : Vec F S1x1x4x128x64 .f32 := (Memref.whole cc0_scratch2).view.readAt (Elt F) (Rect.unit (s := S7x2x4x128x64) ![5, 0, 0, 0, 0] S1x1x4x128x64.size inb_S7x2x4x128x64_S1x1x4x128x64_5_0_0_0_0).toLoadRect (recvB A.k A.v 1 c)
def v1602 (A : Inp F) (c : Dev nD) : FVec F S4x128x128 .f32 := k0_pay159 (V.v187 A c) (V.v1598 A c)
def v1630 (A : Inp F) (c : Dev nD) : IVec S128x128 32 := k0_pay160 (V.v2 A c)
def v1631 (A : Inp F) (c : Dev nD) : BitVec 32 := Scalar.muli (V.v19 A c) 2#32
def v1632 (A : Inp F) (c : Dev nD) : IVec S128x128 32 := iota .tc S128x128 32 [1] iota_S128x128_d1_w32
def c64_i32_997 (A : Inp F) (c : Dev nD) : BitVec 32 := 64#32
def v1634 (A : Inp F) (c : Dev nD) : IVec S128x128 32 := k0_pay161
def v1636 (A : Inp F) (c : Dev nD) : IVec S128x128 1 := k0_pay162
def v1676 (A : Inp F) (c : Dev nD) : FVec F S4x128x1 .f32 := k0_pay164 (V.v1468 A c) (V.v1602 A c) (V.v1630 A c) (V.v1631 A c) (V.v1632 A c) (V.c64_i32_997 A c) (V.v1634 A c) (V.v1636 A c)
def v1679 (A : Inp F) (c : Dev nD) : FVec F S4x128x128 .f32 := k0_pay165 (V.v1468 A c) (V.v1602 A c) (V.v1630 A c) (V.v1631 A c) (V.v1632 A c) (V.c64_i32_997 A c) (V.v1634 A c) (V.v1636 A c)
def v1681 (A : Inp F) (c : Dev nD) : FVec F S4x128x1 .f32 := k0_pay166 (V.v1468 A c) (V.v1602 A c) (V.v1630 A c) (V.v1631 A c) (V.v1632 A c) (V.c64_i32_997 A c) (V.v1634 A c) (V.v1636 A c)
def v1685 (A : Inp F) (c : Dev nD) : FVec F S4x128x1 .f32 := k0_pay167 (V.v1468 A c) (V.v1477 A c) (V.v1602 A c) (V.v1630 A c) (V.v1631 A c) (V.v1632 A c) (V.c64_i32_997 A c) (V.v1634 A c) (V.v1636 A c)
def v1688 (A : Inp F) (c : Dev nD) : Vec F S1x1x4x128x64 .f32 := (Memref.whole cc0_scratch2).view.readAt (Elt F) (Rect.unit (s := S7x2x4x128x64) ![5, 1, 0, 0, 0] S1x1x4x128x64.size inb_S7x2x4x128x64_S1x1x4x128x64_5_1_0_0_0).toLoadRect (recvB A.k A.v 1 c)
def v1691 (A : Inp F) (c : Dev nD) : FVec F S4x128x64 .f32 := k0_pay168 (V.v1483 A c) (V.v1679 A c) (V.v1681 A c) (V.v1688 A c)
def v1702 (A : Inp F) (c : Dev nD) : Vec F S1x1x4x128x64 .f32 := (Memref.whole cc0_scratch1).view.readAt (Elt F) (Rect.unit (s := S7x2x4x128x64) ![6, 0, 0, 0, 0] S1x1x4x128x64.size inb_S7x2x4x128x64_S1x1x4x128x64_6_0_0_0_0).toLoadRect (recvB A.k A.v 0 c)
def v1706 (A : Inp F) (c : Dev nD) : FVec F S4x128x128 .f32 := k0_pay169 (V.v187 A c) (V.v1702 A c)
def v1707 (A : Inp F) (c : Dev nD) : BitVec 32 := Scalar.muli (V.v2 A c) 2#32
def v1708 (A : Inp F) (c : Dev nD) : IVec S128x128 32 := iota .tc S128x128 32 [0] iota_S128x128_d0_w32
def c64_i32_1037 (A : Inp F) (c : Dev nD) : BitVec 32 := 64#32
def v1710 (A : Inp F) (c : Dev nD) : IVec S128x128 32 := k0_pay170
def v1713 (A : Inp F) (c : Dev nD) : IVec S128x128 32 := k0_pay171
def c0_i32_1039 (A : Inp F) (c : Dev nD) : BitVec 32 := 0#32
def v1734 (A : Inp F) (c : Dev nD) : IVec S128x128 32 := k0_pay172 (V.v1707 A c) (V.v1708 A c) (V.c64_i32_1037 A c) (V.v1710 A c) (V.v1713 A c) (V.c0_i32_1039 A c)
def v1760 (A : Inp F) (c : Dev nD) : IVec S128x128 32 := k0_pay173
def v1761 (A : Inp F) (c : Dev nD) : IVec S128x128 32 := k0_pay174 (V.v23 A c)
def v1789 (A : Inp F) (c : Dev nD) : FVec F S4x128x1 .f32 := k0_pay179 (V.v1572 A c) (V.v1581 A c) (V.v1706 A c) (V.v1734 A c) (V.v1760 A c) (V.v1761 A c)
def v1792 (A : Inp F) (c : Dev nD) : Vec F S1x1x4x128x64 .f32 := (Memref.whole cc0_scratch1).view.readAt (Elt F) (Rect.unit (s := S7x2x4x128x64) ![6, 1, 0, 0, 0] S1x1x4x128x64.size inb_S7x2x4x128x64_S1x1x4x128x64_6_1_0_0_0).toLoadRect (recvB A.k A.v 0 c)
def v1795 (A : Inp F) (c : Dev nD) : FVec F S4x128x64 .f32 := k0_pay180 (V.v1572 A c) (V.v1587 A c) (V.v1706 A c) (V.v1734 A c) (V.v1760 A c) (V.v1761 A c) (V.v1792 A c)
def v1806 (A : Inp F) (c : Dev nD) : Vec F S1x1x4x128x64 .f32 := (Memref.whole cc0_scratch2).view.readAt (Elt F) (Rect.unit (s := S7x2x4x128x64) ![6, 0, 0, 0, 0] S1x1x4x128x64.size inb_S7x2x4x128x64_S1x1x4x128x64_6_0_0_0_0).toLoadRect (recvB A.k A.v 1 c)
def v1810 (A : Inp F) (c : Dev nD) : FVec F S4x128x128 .f32 := k0_pay181 (V.v187 A c) (V.v1806 A c)
def v1838 (A : Inp F) (c : Dev nD) : IVec S128x128 32 := k0_pay182 (V.v2 A c)
def c2_i32_1093 (A : Inp F) (c : Dev nD) : BitVec 32 := 2#32
def v1884 (A : Inp F) (c : Dev nD) : FVec F S4x128x1 .f32 := k0_pay184 (V.v23 A c) (V.v1676 A c) (V.v1810 A c) (V.v1838 A c) (V.c2_i32_1093 A c)
def v1886 (A : Inp F) (c : Dev nD) : FVec F S4x128x128 .f32 := k0_pay185 (V.v23 A c) (V.v1676 A c) (V.v1810 A c) (V.v1838 A c) (V.c2_i32_1093 A c)
def v1900 (A : Inp F) (c : Dev nD) : Vec F S256x512 .f32 := (Memref.whole cc0_stg4_0).view.readAt (Elt F) (Rect.unit (s := S256x512) ![0, 0] S256x512.size inb_S256x512_S256x512_0_0).toLoadRect (A.wo c)
def v1896 (A : Inp F) (c : Dev nD) : Vec F S1x1x4x128x64 .f32 := (Memref.whole cc0_scratch2).view.readAt (Elt F) (Rect.unit (s := S7x2x4x128x64) ![6, 1, 0, 0, 0] S1x1x4x128x64.size inb_S7x2x4x128x64_S1x1x4x128x64_6_1_0_0_0).toLoadRect (recvB A.k A.v 1 c)
def v1928 (A : Inp F) (c : Dev nD) : FVec F S128x512 .f32 := k0_pay188 (V.v1676 A c) (V.v1685 A c) (V.v1691 A c) (V.v1884 A c) (V.v1886 A c) (V.v1896 A c) (V.v1900 A c)

/-! ## The own buffer while it is filled, and the output block while it is stored -/

def m1 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![0, 0, 0, 0, 0] S1x1x1x128x64.size inb_S2x2x4x128x64_S1x1x1x128x64_0_0_0_0_0)).write (Elt F) f (k0_pay1 (V.v31 A c)) Finset.univ
def m2 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![0, 1, 0, 0, 0] S1x1x1x128x64.size inb_S2x2x4x128x64_S1x1x1x128x64_0_1_0_0_0)).write (Elt F) (m1 A c f) (k0_pay2 (V.v36 A c)) Finset.univ
def m3 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![0, 0, 1, 0, 0] S1x1x1x128x64.size inb_S2x2x4x128x64_S1x1x1x128x64_0_0_1_0_0)).write (Elt F) (m2 A c f) (k0_pay3 (V.v41 A c)) Finset.univ
def m4 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![0, 1, 1, 0, 0] S1x1x1x128x64.size inb_S2x2x4x128x64_S1x1x1x128x64_0_1_1_0_0)).write (Elt F) (m3 A c f) (k0_pay4 (V.v46 A c)) Finset.univ
def m5 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![0, 0, 2, 0, 0] S1x1x1x128x64.size inb_S2x2x4x128x64_S1x1x1x128x64_0_0_2_0_0)).write (Elt F) (m4 A c f) (k0_pay5 (V.v51 A c)) Finset.univ
def m6 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![0, 1, 2, 0, 0] S1x1x1x128x64.size inb_S2x2x4x128x64_S1x1x1x128x64_0_1_2_0_0)).write (Elt F) (m5 A c f) (k0_pay6 (V.v56 A c)) Finset.univ
def m7 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![0, 0, 3, 0, 0] S1x1x1x128x64.size inb_S2x2x4x128x64_S1x1x1x128x64_0_0_3_0_0)).write (Elt F) (m6 A c f) (k0_pay7 (V.v61 A c)) Finset.univ
def m8 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![0, 1, 3, 0, 0] S1x1x1x128x64.size inb_S2x2x4x128x64_S1x1x1x128x64_0_1_3_0_0)).write (Elt F) (m7 A c f) (k0_pay8 (V.v66 A c)) Finset.univ
def m9 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![1, 0, 0, 0, 0] S1x1x1x128x64.size inb_S2x2x4x128x64_S1x1x1x128x64_1_0_0_0_0)).write (Elt F) (m8 A c f) (k0_pay9 (V.v71 A c)) Finset.univ
def m10 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![1, 1, 0, 0, 0] S1x1x1x128x64.size inb_S2x2x4x128x64_S1x1x1x128x64_1_1_0_0_0)).write (Elt F) (m9 A c f) (k0_pay10 (V.v76 A c)) Finset.univ
def m11 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![1, 0, 1, 0, 0] S1x1x1x128x64.size inb_S2x2x4x128x64_S1x1x1x128x64_1_0_1_0_0)).write (Elt F) (m10 A c f) (k0_pay11 (V.v81 A c)) Finset.univ
def m12 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![1, 1, 1, 0, 0] S1x1x1x128x64.size inb_S2x2x4x128x64_S1x1x1x128x64_1_1_1_0_0)).write (Elt F) (m11 A c f) (k0_pay12 (V.v86 A c)) Finset.univ
def m13 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![1, 0, 2, 0, 0] S1x1x1x128x64.size inb_S2x2x4x128x64_S1x1x1x128x64_1_0_2_0_0)).write (Elt F) (m12 A c f) (k0_pay13 (V.v91 A c)) Finset.univ
def m14 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![1, 1, 2, 0, 0] S1x1x1x128x64.size inb_S2x2x4x128x64_S1x1x1x128x64_1_1_2_0_0)).write (Elt F) (m13 A c f) (k0_pay14 (V.v96 A c)) Finset.univ
def m15 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![1, 0, 3, 0, 0] S1x1x1x128x64.size inb_S2x2x4x128x64_S1x1x1x128x64_1_0_3_0_0)).write (Elt F) (m14 A c f) (k0_pay15 (V.v101 A c)) Finset.univ
def m16 (A : Inp F) (c : Dev nD) (f : (cc0_scratch0 : Ref sig .tc).ty.Contents (Elt F)) : (cc0_scratch0 : Ref sig .tc).ty.Contents (Elt F) :=
  ((Memref.whole cc0_scratch0).access (Rect.unit (s := S2x2x4x128x64) ![1, 1, 3, 0, 0] S1x1x1x128x64.size inb_S2x2x4x128x64_S1x1x1x128x64_1_1_3_0_0)).write (Elt F) (m15 A c f) (k0_pay16 (V.v106 A c)) Finset.univ
def o1 (A : Inp F) (c : Dev nD) (f : (cc0_stg5_0 : Ref sig .tc).ty.Contents (Elt F)) : (cc0_stg5_0 : Ref sig .tc).ty.Contents (Elt F) :=
  ((Memref.whole cc0_stg5_0).access (Rect.unit (s := S2x128x512) ![0, 0, 0] S1x128x512.size inb_S2x128x512_S1x128x512_0_0_0)).write (Elt F) f (k0_pay187 (V.v1789 A c) (V.v1795 A c) (V.v1900 A c)) Finset.univ
def o2 (A : Inp F) (c : Dev nD) (f : (cc0_stg5_0 : Ref sig .tc).ty.Contents (Elt F)) : (cc0_stg5_0 : Ref sig .tc).ty.Contents (Elt F) :=
  ((Memref.whole cc0_stg5_0).access (Rect.unit (s := S2x128x512) ![1, 0, 0] S1x128x512.size inb_S2x128x512_S1x128x512_1_0_0)).write (Elt F) (o1 A c f) (k0_pay189 (V.v1928 A c)) Finset.univ

end V

end Cert.KProof
-- ==== Proof.PartsA.lean ====
/-
# The parts of the kernel: filling the own buffer and the first twelve sends

Each part of the kernel is run once, at a symbolic device: what it needs, what it leaves, and the values it returns.
-/
module

public import proofs.«01_k».proof.Proof.Steps
public import proofs.«01_k».proof.Proof.Vals

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F) (K : Dev nD × CK → ℕ)

/-- Part 2 of the kernel: a store into the own buffer. -/
theorem part2 (c : Dev nD) (f : (cc0_scratch0 : Ref sig .tc).ty.Contents (Elt F)) (Kt : _ → sProp 𝕄) :
    iprop(inK A c ∗ minePts c f ∗ inV A c ∗ ((inK A c ∗ minePts c (V.m4 A c f) ∗ inV A c) -∗ Kt ⟨⟩))
      ⊢ wp frame (wpE (defs₀ (F := F)) 𝒱₀ (c : Thread nD τ) none) Set.univ
          (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Kt := by
  rw [k0_part2_eq_skeleton]; unfold k0_part2_skel
  simp only [Prog.lift, Prog.bind_op, Prog.bind_ret, Prog.pure_eq_ret]
  simp only [V.v31, V.v36, V.v41, V.v46, V.m1, V.m2, V.m3, V.m4]
  iintro ⟨Hi2, Hm, Hi3, Hk⟩
  iapply (wp_load 𝒱₀ (c : Thread nD τ) none Set.univ (m := (Memref.whole cc0_stg2_0)) (Finset.subset_univ _)) $$ Hi2; iintro Hi2
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg3_0)) (Finset.subset_univ _)) $$ Hi3; iintro Hi3
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg2_0)) (Finset.subset_univ _)) $$ Hi2; iintro Hi2
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg3_0)) (Finset.subset_univ _)) $$ Hi3; iintro Hi3
  iapply (wp_load 𝒱₀ (c : Thread nD τ) none Set.univ (m := (Memref.whole cc0_scratch0)) (Finset.subset_univ _)) $$ Hm; iintro Hm
  iapply (wp_stm c _ _ _) $$ Hm; iintro Hm
  rw [wp_ret]; imodintro
  iapply Hk
  isplitl [Hi2]; · iexact Hi2
  isplitl [Hm]; · iexact Hm
  iexact Hi3

/-- Part 3 of the kernel: a store into the own buffer. -/
theorem part3 (c : Dev nD) (f : (cc0_scratch0 : Ref sig .tc).ty.Contents (Elt F)) (Kt : _ → sProp 𝕄) :
    iprop(inK A c ∗ minePts c (V.m4 A c f) ∗ inV A c ∗ ((inK A c ∗ minePts c (V.m8 A c f) ∗ inV A c) -∗ Kt ⟨⟩))
      ⊢ wp frame (wpE (defs₀ (F := F)) 𝒱₀ (c : Thread nD τ) none) Set.univ
          (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Kt := by
  rw [k0_part3_eq_skeleton]; unfold k0_part3_skel
  simp only [Prog.lift, Prog.bind_op, Prog.bind_ret, Prog.pure_eq_ret]
  simp only [V.v51, V.v56, V.v61, V.v66, V.m5, V.m6, V.m7, V.m8]
  iintro ⟨Hi2, Hm, Hi3, Hk⟩
  iapply (wp_load 𝒱₀ (c : Thread nD τ) none Set.univ (m := (Memref.whole cc0_stg2_0)) (Finset.subset_univ _)) $$ Hi2; iintro Hi2
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg3_0)) (Finset.subset_univ _)) $$ Hi3; iintro Hi3
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg2_0)) (Finset.subset_univ _)) $$ Hi2; iintro Hi2
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg3_0)) (Finset.subset_univ _)) $$ Hi3; iintro Hi3
  iapply (wp_load 𝒱₀ (c : Thread nD τ) none Set.univ (m := (Memref.whole cc0_scratch0)) (Finset.subset_univ _)) $$ Hm; iintro Hm
  iapply (wp_stm c _ _ _) $$ Hm; iintro Hm
  rw [wp_ret]; imodintro
  iapply Hk
  isplitl [Hi2]; · iexact Hi2
  isplitl [Hm]; · iexact Hm
  iexact Hi3

/-- Part 4 of the kernel: a store into the own buffer. -/
theorem part4 (c : Dev nD) (f : (cc0_scratch0 : Ref sig .tc).ty.Contents (Elt F)) (Kt : _ → sProp 𝕄) :
    iprop(inK A c ∗ minePts c (V.m8 A c f) ∗ inV A c ∗ ((inK A c ∗ minePts c (V.m12 A c f) ∗ inV A c) -∗ Kt ⟨⟩))
      ⊢ wp frame (wpE (defs₀ (F := F)) 𝒱₀ (c : Thread nD τ) none) Set.univ
          (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Kt := by
  rw [k0_part4_eq_skeleton]; unfold k0_part4_skel
  simp only [Prog.lift, Prog.bind_op, Prog.bind_ret, Prog.pure_eq_ret]
  simp only [V.v71, V.v76, V.v81, V.v86, V.m9, V.m10, V.m11, V.m12]
  iintro ⟨Hi2, Hm, Hi3, Hk⟩
  iapply (wp_load 𝒱₀ (c : Thread nD τ) none Set.univ (m := (Memref.whole cc0_stg2_0)) (Finset.subset_univ _)) $$ Hi2; iintro Hi2
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg3_0)) (Finset.subset_univ _)) $$ Hi3; iintro Hi3
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg2_0)) (Finset.subset_univ _)) $$ Hi2; iintro Hi2
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg3_0)) (Finset.subset_univ _)) $$ Hi3; iintro Hi3
  iapply (wp_load 𝒱₀ (c : Thread nD τ) none Set.univ (m := (Memref.whole cc0_scratch0)) (Finset.subset_univ _)) $$ Hm; iintro Hm
  iapply (wp_stm c _ _ _) $$ Hm; iintro Hm
  rw [wp_ret]; imodintro
  iapply Hk
  isplitl [Hi2]; · iexact Hi2
  isplitl [Hm]; · iexact Hm
  iexact Hi3

/-- Part 5 of the kernel: a store into the own buffer. -/
theorem part5 (c : Dev nD) (f : (cc0_scratch0 : Ref sig .tc).ty.Contents (Elt F)) (Kt : _ → sProp 𝕄) :
    iprop(inK A c ∗ minePts c (V.m12 A c f) ∗ inV A c ∗ ((inK A c ∗ minePts c (V.m16 A c f) ∗ inV A c) -∗ Kt ⟨⟩))
      ⊢ wp frame (wpE (defs₀ (F := F)) 𝒱₀ (c : Thread nD τ) none) Set.univ
          (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Kt := by
  rw [k0_part5_eq_skeleton]; unfold k0_part5_skel
  simp only [Prog.lift, Prog.bind_op, Prog.bind_ret, Prog.pure_eq_ret]
  simp only [V.v91, V.v96, V.v101, V.v106, V.m13, V.m14, V.m15, V.m16]
  iintro ⟨Hi2, Hm, Hi3, Hk⟩
  iapply (wp_load 𝒱₀ (c : Thread nD τ) none Set.univ (m := (Memref.whole cc0_stg2_0)) (Finset.subset_univ _)) $$ Hi2; iintro Hi2
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg3_0)) (Finset.subset_univ _)) $$ Hi3; iintro Hi3
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg2_0)) (Finset.subset_univ _)) $$ Hi2; iintro Hi2
  iapply (wp_load 𝒱₀ (c : Thread nD τ) none Set.univ (m := (Memref.whole cc0_scratch0)) (Finset.subset_univ _)) $$ Hm; iintro Hm
  iapply (wp_stm c _ _ _) $$ Hm; iintro Hm
  iapply (wp_load 𝒱₀ (c : Thread nD τ) none Set.univ (m := (Memref.whole cc0_stg3_0)) (Finset.subset_univ _)) $$ Hi3; iintro Hi3
  iapply (wp_load 𝒱₀ (c : Thread nD τ) none Set.univ (m := (Memref.whole cc0_scratch0)) (Finset.subset_univ _)) $$ Hm; iintro Hm
  iapply (wp_stm c _ _ _) $$ Hm; iintro Hm
  rw [wp_ret]; imodintro
  iapply Hk
  isplitl [Hi2]; · iexact Hi2
  isplitl [Hm]; · iexact Hm
  iexact Hi3

/-- Part 6 of the kernel: send 0 of half 0; send 0 of half 1. -/
theorem part6 (c : Dev nD) (l : List P) (Kt : _ → sProp 𝕄) :
    iprop(Ctx A K ∗ ow c ((0, 0) :: (1, 0) :: l) ∗ mP A 0 c qLL ∗ tgt 0 0 c ∗ sTick 0 0 c ∗ mP A 1 c qLL ∗ tgt 1 0 c ∗ sTick 1 0 c ∗ ((fly 0 0 c ∗ fly 1 0 c ∗ ow c l) -∗ Kt ⟨⟩))
      ⊢ wp frame (wpE (defs₀ (F := F)) 𝒱₀ (c : Thread nD τ) none) Set.univ
          (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v13 A c) (V.v14 A c) (V.v16 A c)) Kt := by
  rw [k0_part6_eq_skeleton]; unfold k0_part6_skel
  simp only [Prog.lift, Prog.bind_op, Prog.bind_ret, Prog.pure_eq_ret]
  iintro ⟨#HC, HO, Hm0qLL, HT00, HS00, Hm1qLL, HT10, HS10, Hk⟩
  ihave Hm0qLL := (Entails.of_eq (show mP A 0 c qLL = srcP A 0 0 c from rfl)) $$ Hm0qLL
  iapply (wp_snd A K 0 0 c ((1, 0) :: l) _ (dev4_eq c) _ (by rfl) _ (by rfl)) $$ [Hm0qLL HT00 HO HS00]
  · isplitr; · iexact HC
    isplitl [Hm0qLL]; · iexact Hm0qLL
    isplitl [HT00]; · iexact HT00
    isplitl [HO]; · iexact HO
    iexact HS00
  iintro ⟨HF00, HO⟩
  ihave Hm1qLL := (Entails.of_eq (show mP A 1 c qLL = srcP A 1 0 c from rfl)) $$ Hm1qLL
  iapply (wp_snd A K 1 0 c l _ (dev5_eq c) _ (by rfl) _ (by rfl)) $$ [Hm1qLL HT10 HO HS10]
  · isplitr; · iexact HC
    isplitl [Hm1qLL]; · iexact Hm1qLL
    isplitl [HT10]; · iexact HT10
    isplitl [HO]; · iexact HO
    iexact HS10
  iintro ⟨HF10, HO⟩
  rw [wp_ret]; imodintro
  iapply Hk
  isplitl [HF00]; · iexact HF00
  isplitl [HF10]; · iexact HF10
  iexact HO

/-- Part 7 of the kernel: send 1 of half 0; send 1 of half 1. -/
theorem part7 (c : Dev nD) (l : List P) (Kt : _ → sProp 𝕄) :
    iprop(Ctx A K ∗ ow c ((0, 1) :: (1, 1) :: l) ∗ mP A 0 c qLR ∗ tgt 0 1 c ∗ sTick 0 1 c ∗ mP A 1 c qLR ∗ tgt 1 1 c ∗ sTick 1 1 c ∗ ((fly 0 1 c ∗ fly 1 1 c ∗ ow c l) -∗ Kt ⟨⟩))
      ⊢ wp frame (wpE (defs₀ (F := F)) 𝒱₀ (c : Thread nD τ) none) Set.univ
          (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v13 A c) (V.v14 A c)) Kt := by
  rw [k0_part7_eq_skeleton]; unfold k0_part7_skel
  simp only [Prog.lift, Prog.bind_op, Prog.bind_ret, Prog.pure_eq_ret]
  iintro ⟨#HC, HO, Hm0qLR, HT01, HS01, Hm1qLR, HT11, HS11, Hk⟩
  ihave Hm0qLR := (Entails.of_eq (show mP A 0 c qLR = srcP A 0 1 c from rfl)) $$ Hm0qLR
  iapply (wp_snd A K 0 1 c ((1, 1) :: l) _ (dev6_eq c) _ (by rfl) _ (by rfl)) $$ [Hm0qLR HT01 HO HS01]
  · isplitr; · iexact HC
    isplitl [Hm0qLR]; · iexact Hm0qLR
    isplitl [HT01]; · iexact HT01
    isplitl [HO]; · iexact HO
    iexact HS01
  iintro ⟨HF01, HO⟩
  ihave Hm1qLR := (Entails.of_eq (show mP A 1 c qLR = srcP A 1 1 c from rfl)) $$ Hm1qLR
  iapply (wp_snd A K 1 1 c l _ (dev7_eq c) _ (by rfl) _ (by rfl)) $$ [Hm1qLR HT11 HO HS11]
  · isplitr; · iexact HC
    isplitl [Hm1qLR]; · iexact Hm1qLR
    isplitl [HT11]; · iexact HT11
    isplitl [HO]; · iexact HO
    iexact HS11
  iintro ⟨HF11, HO⟩
  rw [wp_ret]; imodintro
  iapply Hk
  isplitl [HF01]; · iexact HF01
  isplitl [HF11]; · iexact HF11
  iexact HO

/-- Part 8 of the kernel: send 2 of half 1; send 2 of half 0. -/
theorem part8 (c : Dev nD) (l : List P) (Kt : _ → sProp 𝕄) :
    iprop(Ctx A K ∗ ow c ((1, 2) :: (0, 2) :: l) ∗ mP A 1 c qRL ∗ tgt 1 2 c ∗ sTick 1 2 c ∗ mP A 0 c qRL ∗ tgt 0 2 c ∗ sTick 0 2 c ∗ inX A c ∗ inWq A c ∗ ((fly 1 2 c ∗ fly 0 2 c ∗ ow c l ∗ inX A c ∗ inWq A c) -∗ Kt (V.v187 A c)))
      ⊢ wp frame (wpE (defs₀ (F := F)) 𝒱₀ (c : Thread nD τ) none) Set.univ
          (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v16 A c)) Kt := by
  rw [k0_part8_eq_skeleton]; unfold k0_part8_skel
  simp only [Prog.lift, Prog.bind_op, Prog.bind_ret, Prog.pure_eq_ret]
  simp only [V.v178, V.v180, V.v173, V.v171, V.v187]
  iintro ⟨#HC, HO, Hm1qRL, HT12, HS12, Hm0qRL, HT02, HS02, Hi0, Hi1, Hk⟩
  ihave Hm1qRL := (Entails.of_eq (show mP A 1 c qRL = srcP A 1 2 c from rfl)) $$ Hm1qRL
  iapply (wp_snd A K 1 2 c ((0, 2) :: l) _ (dev8_eq c) _ (by rfl) _ (by rfl)) $$ [Hm1qRL HT12 HO HS12]
  · isplitr; · iexact HC
    isplitl [Hm1qRL]; · iexact Hm1qRL
    isplitl [HT12]; · iexact HT12
    isplitl [HO]; · iexact HO
    iexact HS12
  iintro ⟨HF12, HO⟩
  ihave Hm0qRL := (Entails.of_eq (show mP A 0 c qRL = srcP A 0 2 c from rfl)) $$ Hm0qRL
  iapply (wp_snd A K 0 2 c l _ (dev9_eq c) _ (by rfl) _ (by rfl)) $$ [Hm0qRL HT02 HO HS02]
  · isplitr; · iexact HC
    isplitl [Hm0qRL]; · iexact Hm0qRL
    isplitl [HT02]; · iexact HT02
    isplitl [HO]; · iexact HO
    iexact HS02
  iintro ⟨HF02, HO⟩
  iapply (wp_load 𝒱₀ (c : Thread nD τ) none Set.univ (m := (Memref.whole cc0_stg0_0)) (Finset.subset_univ _)) $$ Hi0; iintro Hi0
  iapply (wp_load 𝒱₀ (c : Thread nD τ) none Set.univ (m := (Memref.whole cc0_stg1_0)) (Finset.subset_univ _)) $$ Hi1; iintro Hi1
  iapply (wp_load 𝒱₀ (c : Thread nD τ) none Set.univ (m := (Memref.whole cc0_stg0_0)) (Finset.subset_univ _)) $$ Hi0; iintro Hi0
  iapply (wp_load 𝒱₀ (c : Thread nD τ) none Set.univ (m := (Memref.whole cc0_stg1_0)) (Finset.subset_univ _)) $$ Hi1; iintro Hi1
  rw [wp_ret]; imodintro
  iapply Hk
  isplitl [HF12]; · iexact HF12
  isplitl [HF02]; · iexact HF02
  isplitl [HO]; · iexact HO
  isplitl [Hi0]; · iexact Hi0
  iexact Hi1

/-- Part 9 of the kernel: what lands in slot 0 of half 0 is waited for; send 3 of half 0. -/
theorem part9 (c : Dev nD) (l : List P) (hl00 : ∀ bi ∈ ((0, 3) :: l), slv 0 < slv (sg bi.2)) (Kt : _ → sProp 𝕄) :
    iprop(Ctx A K ∗ ow c ((0, 3) :: l) ∗ rTick 0 0 c ∗ tgt 0 3 c ∗ sTick 0 3 c ∗ ((semVal (rCell 0 0 c) 0 ∗ rP A 0 0 c qLR ∗ rP A 0 0 c qR ∗ fly 0 3 c ∗ ow c l) -∗ Kt ⟨⟩))
      ⊢ wp frame (wpE (defs₀ (F := F)) 𝒱₀ (c : Thread nD τ) none) Set.univ
          (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v13 A c) (V.v14 A c) (V.v16 A c)) Kt := by
  rw [k0_part9_eq_skeleton]; unfold k0_part9_skel
  simp only [Prog.lift, Prog.bind_op, Prog.bind_ret, Prog.pure_eq_ret]
  iintro ⟨#HC, HO, HR00, HT03, HS03, Hk⟩
  iapply (wp_rwait A K 0 0 c _ hl00 _ (by rfl) (by rfl)) $$ [HR00 HO]
  · isplitr; · iexact HC
    isplitl [HR00]; · iexact HR00
    iexact HO
  iintro ⟨Hr00F, HZr00, HO⟩
  ihave Hr := (rP_split3 A 0 0 c) $$ Hr00F
  icases Hr with ⟨Hr00qLL, Hr00qLR, Hr00qR⟩
  ihave Hr00qLL := (Entails.of_eq (show rP A 0 0 c qLL = srcP A 0 3 c from rfl)) $$ Hr00qLL
  iapply (wp_snd A K 0 3 c l _ (dev10_eq c) _ (by rfl) _ (by rfl)) $$ [Hr00qLL HT03 HO HS03]
  · isplitr; · iexact HC
    isplitl [Hr00qLL]; · iexact Hr00qLL
    isplitl [HT03]; · iexact HT03
    isplitl [HO]; · iexact HO
    iexact HS03
  iintro ⟨HF03, HO⟩
  rw [wp_ret]; imodintro
  iapply Hk
  isplitl [HZr00]; · iexact HZr00
  isplitl [Hr00qLR]; · iexact Hr00qLR
  isplitl [Hr00qR]; · iexact Hr00qR
  isplitl [HF03]; · iexact HF03
  iexact HO

/-- Part 10 of the kernel: send 4 of half 0; what lands in slot 0 of half 1 is waited for; send 3 of half 1. -/
theorem part10 (c : Dev nD) (l : List P) (hl10 : ∀ bi ∈ ((1, 3) :: l), slv 0 < slv (sg bi.2)) (Kt : _ → sProp 𝕄) :
    iprop(Ctx A K ∗ ow c ((0, 4) :: (1, 3) :: l) ∗ rP A 0 0 c qLR ∗ tgt 0 4 c ∗ sTick 0 4 c ∗ rTick 1 0 c ∗ tgt 1 3 c ∗ sTick 1 3 c ∗ ((fly 0 4 c ∗ semVal (rCell 1 0 c) 0 ∗ rP A 1 0 c qLR ∗ rP A 1 0 c qR ∗ fly 1 3 c ∗ ow c l) -∗ Kt ⟨⟩))
      ⊢ wp frame (wpE (defs₀ (F := F)) 𝒱₀ (c : Thread nD τ) none) Set.univ
          (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v13 A c) (V.v14 A c)) Kt := by
  rw [k0_part10_eq_skeleton]; unfold k0_part10_skel
  simp only [Prog.lift, Prog.bind_op, Prog.bind_ret, Prog.pure_eq_ret]
  iintro ⟨#HC, HO, Hr00qLR, HT04, HS04, HR10, HT13, HS13, Hk⟩
  ihave Hr00qLR := (Entails.of_eq (show rP A 0 0 c qLR = srcP A 0 4 c from rfl)) $$ Hr00qLR
  iapply (wp_snd A K 0 4 c ((1, 3) :: l) _ (dev11_eq c) _ (by rfl) _ (by rfl)) $$ [Hr00qLR HT04 HO HS04]
  · isplitr; · iexact HC
    isplitl [Hr00qLR]; · iexact Hr00qLR
    isplitl [HT04]; · iexact HT04
    isplitl [HO]; · iexact HO
    iexact HS04
  iintro ⟨HF04, HO⟩
  iapply (wp_rwait A K 1 0 c _ hl10 _ (by rfl) (by rfl)) $$ [HR10 HO]
  · isplitr; · iexact HC
    isplitl [HR10]; · iexact HR10
    iexact HO
  iintro ⟨Hr10F, HZr10, HO⟩
  ihave Hr := (rP_split3 A 1 0 c) $$ Hr10F
  icases Hr with ⟨Hr10qLL, Hr10qLR, Hr10qR⟩
  ihave Hr10qLL := (Entails.of_eq (show rP A 1 0 c qLL = srcP A 1 3 c from rfl)) $$ Hr10qLL
  iapply (wp_snd A K 1 3 c l _ (dev12_eq c) _ (by rfl) _ (by rfl)) $$ [Hr10qLL HT13 HO HS13]
  · isplitr; · iexact HC
    isplitl [Hr10qLL]; · iexact Hr10qLL
    isplitl [HT13]; · iexact HT13
    isplitl [HO]; · iexact HO
    iexact HS13
  iintro ⟨HF13, HO⟩
  rw [wp_ret]; imodintro
  iapply Hk
  isplitl [HF04]; · iexact HF04
  isplitl [HZr10]; · iexact HZr10
  isplitl [Hr10qLR]; · iexact Hr10qLR
  isplitl [Hr10qR]; · iexact Hr10qR
  isplitl [HF13]; · iexact HF13
  iexact HO

/-- Part 11 of the kernel: send 4 of half 1; what lands in slot 1 of half 0 is waited for. -/
theorem part11 (c : Dev nD) (l : List P) (hl01 : ∀ bi ∈ l, slv 1 < slv (sg bi.2)) (Kt : _ → sProp 𝕄) :
    iprop(Ctx A K ∗ ow c ((1, 4) :: l) ∗ rP A 1 0 c qLR ∗ tgt 1 4 c ∗ sTick 1 4 c ∗ rTick 0 1 c ∗ ((fly 1 4 c ∗ ow c l ∗ semVal (rCell 0 1 c) 0 ∗ rP A 0 1 c qL ∗ rP A 0 1 c qR) -∗ Kt ⟨⟩))
      ⊢ wp frame (wpE (defs₀ (F := F)) 𝒱₀ (c : Thread nD τ) none) Set.univ
          (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v13 A c) (V.v16 A c)) Kt := by
  rw [k0_part11_eq_skeleton]; unfold k0_part11_skel
  simp only [Prog.lift, Prog.bind_op, Prog.bind_ret, Prog.pure_eq_ret]
  iintro ⟨#HC, HO, Hr10qLR, HT14, HS14, HR01, Hk⟩
  ihave Hr10qLR := (Entails.of_eq (show rP A 1 0 c qLR = srcP A 1 4 c from rfl)) $$ Hr10qLR
  iapply (wp_snd A K 1 4 c l _ (dev13_eq c) _ (by rfl) _ (by rfl)) $$ [Hr10qLR HT14 HO HS14]
  · isplitr; · iexact HC
    isplitl [Hr10qLR]; · iexact Hr10qLR
    isplitl [HT14]; · iexact HT14
    isplitl [HO]; · iexact HO
    iexact HS14
  iintro ⟨HF14, HO⟩
  iapply (wp_rwait A K 0 1 c _ hl01 _ (by rfl) (by rfl)) $$ [HR01 HO]
  · isplitr; · iexact HC
    isplitl [HR01]; · iexact HR01
    iexact HO
  iintro ⟨Hr01F, HZr01, HO⟩
  ihave Hr := (rP_halves A 0 1 c).1 $$ Hr01F
  icases Hr with ⟨Hr01qL, Hr01qR⟩
  rw [wp_ret]; imodintro
  iapply Hk
  isplitl [HF14]; · iexact HF14
  isplitl [HO]; · iexact HO
  isplitl [HZr01]; · iexact HZr01
  isplitl [Hr01qL]; · iexact Hr01qL
  iexact Hr01qR

/-- Part 12 of the kernel: send 5 of half 0; what lands in slot 1 of half 1 is waited for; send 5 of half 1. -/
theorem part12 (c : Dev nD) (l : List P) (hl11 : ∀ bi ∈ ((1, 5) :: l), slv 1 < slv (sg bi.2)) (Kt : _ → sProp 𝕄) :
    iprop(Ctx A K ∗ ow c ((0, 5) :: (1, 5) :: l) ∗ rP A 0 1 c qL ∗ tgt 0 5 c ∗ sTick 0 5 c ∗ rTick 1 1 c ∗ tgt 1 5 c ∗ sTick 1 5 c ∗ ((fly 0 5 c ∗ semVal (rCell 1 1 c) 0 ∗ rP A 1 1 c qR ∗ fly 1 5 c ∗ ow c l) -∗ Kt ⟨⟩))
      ⊢ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v13 A c)) Kt := by
  rw [k0_part12_eq_skeleton]; unfold k0_part12_skel
  simp only [Prog.lift, Prog.bind_op, Prog.bind_ret, Prog.pure_eq_ret]
  iintro ⟨#HC, HO, Hr01qL, HT05, HS05, HR11, HT15, HS15, Hk⟩
  ihave Hr01qL := (Entails.of_eq (show rP A 0 1 c qL = srcP A 0 5 c from rfl)) $$ Hr01qL
  iapply (wp_snd A K 0 5 c ((1, 5) :: l) _ (dev14_eq c) _ (by rfl) _ (by rfl)) $$ [Hr01qL HT05 HO HS05]
  · isplitr; · iexact HC
    isplitl [Hr01qL]; · iexact Hr01qL
    isplitl [HT05]; · iexact HT05
    isplitl [HO]; · iexact HO
    iexact HS05
  iintro ⟨HF05, HO⟩
  iapply (wp_rwait A K 1 1 c _ hl11 _ (by rfl) (by rfl)) $$ [HR11 HO]
  · isplitr; · iexact HC
    isplitl [HR11]; · iexact HR11
    iexact HO
  iintro ⟨Hr11F, HZr11, HO⟩
  ihave Hr := (rP_halves A 1 1 c).1 $$ Hr11F
  icases Hr with ⟨Hr11qL, Hr11qR⟩
  ihave Hr11qL := (Entails.of_eq (show rP A 1 1 c qL = srcP A 1 5 c from rfl)) $$ Hr11qL
  iapply (wp_snd A K 1 5 c l _ (dev15_eq c) _ (by rfl) _ (by rfl)) $$ [Hr11qL HT15 HO HS15]
  · isplitr; · iexact HC
    isplitl [Hr11qL]; · iexact Hr11qL
    isplitl [HT15]; · iexact HT15
    isplitl [HO]; · iexact HO
    iexact HS15
  iintro ⟨HF15, HO⟩
  rw [wp_ret]; imodintro
  iapply Hk
  isplitl [HF05]; · iexact HF05
  isplitl [HZr11]; · iexact HZr11
  isplitl [Hr11qR]; · iexact Hr11qR
  isplitl [HF15]; · iexact HF15
  iexact HO

end Cert.KProof
-- ==== Proof.PartsB.lean ====
/-
# The parts of the kernel: the updates up to the fourth received chunk

Each part of the kernel is run once, at a symbolic device: what it needs, what it leaves, and the values it returns.
-/
module

public import proofs.«01_k».proof.Proof.Steps
public import proofs.«01_k».proof.Proof.Vals

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F) (K : Dev nD × CK → ℕ)

/-- Part 13 of the kernel: a chunk of the own half 0 is read. -/
theorem part13 (c : Dev nD) (Kt : _ → sProp 𝕄) :
    iprop(mP A 0 c qRR ∗ ((mP A 0 c qRR) -∗ Kt ⟨(V.v286 A c), (V.v314 A c), (V.v315 A c), (V.v316 A c), (V.c64_i32_405 A c), (V.v318 A c), (V.v321 A c)⟩))
      ⊢ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v187 A c)) Kt := by
  rw [k0_part13_eq_skeleton]; unfold k0_part13_skel
  simp only [Prog.lift, Prog.bind_op, Prog.bind_ret, Prog.pure_eq_ret]
  simp only [V.v282, V.v286, V.v314, V.v315, V.v316, V.c64_i32_405, V.v318, V.v321]
  iintro ⟨Hm0qRR, Hk⟩
  iapply (wp_ldm A 0 c qRR _ (Rect.set_subset_of_span _ _ (fun _ => rfl) (by decide))) $$ Hm0qRR; iintro Hm0qRR
  rw [wp_ret]; imodintro
  iapply Hk
  iexact Hm0qRR

/-- Part 14 of the kernel: a chunk of the own half 0 is read. -/
theorem part14 (c : Dev nD) (Kt : _ → sProp 𝕄) :
    iprop(mP A 0 c qRR ∗ ((mP A 0 c qRR) -∗ Kt ⟨(V.v359 A c), (V.v362 A c), (V.v364 A c), (V.v365 A c)⟩))
      ⊢ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v286 A c) (V.v314 A c) (V.v315 A c) (V.v316 A c) (V.c64_i32_405 A c) (V.v318 A c) (V.v321 A c)) Kt := by
  rw [k0_part14_eq_skeleton]; unfold k0_part14_skel
  simp only [Prog.lift, Prog.bind_op, Prog.bind_ret, Prog.pure_eq_ret]
  simp only [V.v359, V.v362, V.v364, V.v365]
  iintro ⟨Hm0qRR, Hk⟩
  iapply (wp_ldm A 0 c qRR _ (Rect.set_subset_of_span _ _ (fun _ => rfl) (by decide))) $$ Hm0qRR; iintro Hm0qRR
  rw [wp_ret]; imodintro
  iapply Hk
  iexact Hm0qRR

/-- Part 15 of the kernel: a chunk of the own half 1 is read. -/
theorem part15 (c : Dev nD) (Kt : _ → sProp 𝕄) :
    iprop(mP A 1 c qRR ∗ ((mP A 1 c qRR) -∗ Kt ⟨(V.v367 A c), (V.v374 A c), (V.v402 A c), (V.v403 A c), (V.v404 A c), (V.c64_i32_440 A c), (V.v406 A c), (V.c0_i32_441 A c)⟩))
      ⊢ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v187 A c) (V.v362 A c) (V.v365 A c)) Kt := by
  rw [k0_part15_eq_skeleton]; unfold k0_part15_skel
  simp only [Prog.lift, Prog.bind_op, Prog.bind_ret, Prog.pure_eq_ret]
  simp only [V.v367, V.v370, V.v374, V.v402, V.v403, V.v404, V.c64_i32_440, V.v406, V.c0_i32_441]
  iintro ⟨Hm1qRR, Hk⟩
  iapply (wp_ldm A 1 c qRR _ (Rect.set_subset_of_span _ _ (fun _ => rfl) (by decide))) $$ Hm1qRR; iintro Hm1qRR
  rw [wp_ret]; imodintro
  iapply Hk
  iexact Hm1qRR

/-- Part 16 of the kernel: values only. -/
theorem part16 (c : Dev nD) (Kt : _ → sProp 𝕄) :
    iprop(Kt ⟨(V.v447 A c), (V.v450 A c), (V.v452 A c)⟩)
      ⊢ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v374 A c) (V.v402 A c) (V.v403 A c) (V.v404 A c) (V.c64_i32_440 A c) (V.v406 A c) (V.c0_i32_441 A c)) Kt := by
  rw [k0_part16_eq_skeleton]; unfold k0_part16_skel
  simp only [Prog.lift, Prog.bind_op, Prog.bind_ret, Prog.pure_eq_ret]
  simp only [V.v447, V.v450, V.v452]
  iintro Hk
  rw [wp_ret]; imodintro
  iexact Hk

/-- Part 17 of the kernel: a chunk of the own half 1 is read; a chunk of slot 0 of half 0 is read. -/
theorem part17 (c : Dev nD) (Kt : _ → sProp 𝕄) :
    iprop(mP A 1 c qRR ∗ rP A 0 0 c qR ∗ ((mP A 1 c qRR ∗ rP A 0 0 c qR) -∗ Kt ⟨(V.v455 A c), (V.v462 A c), (V.v490 A c), (V.v491 A c), (V.v492 A c), (V.c64_i32_475 A c)⟩))
      ⊢ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v17 A c) (V.v187 A c) (V.v450 A c)) Kt := by
  rw [k0_part17_eq_skeleton]; unfold k0_part17_skel
  simp only [Prog.lift, Prog.bind_op, Prog.bind_ret, Prog.pure_eq_ret]
  simp only [V.v453, V.v455, V.v458, V.v462, V.v490, V.v491, V.v492, V.c64_i32_475]
  iintro ⟨Hm1qRR, Hr00qR, Hk⟩
  iapply (wp_ldm A 1 c qRR _ (Rect.set_subset_of_span _ _ (fun _ => rfl) (by decide))) $$ Hm1qRR; iintro Hm1qRR
  iapply (wp_ldr A 0 0 c qR _ (Rect.set_subset_of_span _ _ (fun _ => rfl) (by decide))) $$ Hr00qR; iintro Hr00qR
  rw [wp_ret]; imodintro
  iapply Hk
  isplitl [Hm1qRR]; · iexact Hm1qRR
  iexact Hr00qR

/-- Part 18 of the kernel: values only. -/
theorem part18 (c : Dev nD) (Kt : _ → sProp 𝕄) :
    iprop(Kt ⟨(V.v536 A c), (V.v539 A c), (V.v541 A c)⟩)
      ⊢ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v359 A c) (V.v462 A c) (V.v490 A c) (V.v491 A c) (V.v492 A c) (V.c64_i32_475 A c)) Kt := by
  rw [k0_part18_eq_skeleton]; unfold k0_part18_skel
  simp only [Prog.lift, Prog.bind_op, Prog.bind_ret, Prog.pure_eq_ret]
  simp only [V.v536, V.v539, V.v541]
  iintro Hk
  rw [wp_ret]; imodintro
  iexact Hk

/-- Part 19 of the kernel: a chunk of slot 0 of half 0 is read; a chunk of slot 0 of half 1 is read. -/
theorem part19 (c : Dev nD) (Kt : _ → sProp 𝕄) :
    iprop(rP A 0 0 c qR ∗ rP A 1 0 c qR ∗ ((rP A 0 0 c qR ∗ rP A 1 0 c qR) -∗ Kt ⟨(V.v545 A c), (V.v551 A c), (V.v558 A c), (V.v559 A c), (V.v562 A c), (V.v576 A c), (V.v580 A c)⟩))
      ⊢ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v187 A c) (V.v364 A c) (V.v367 A c) (V.v539 A c) (V.v541 A c)) Kt := by
  rw [k0_part19_eq_skeleton]; unfold k0_part19_skel
  simp only [Prog.lift, Prog.bind_op, Prog.bind_ret, Prog.pure_eq_ret]
  simp only [V.v545, V.v548, V.v551, V.v554, V.v558, V.v559, V.v562, V.v576, V.v580]
  iintro ⟨Hr00qR, Hr10qR, Hk⟩
  iapply (wp_ldr A 0 0 c qR _ (Rect.set_subset_of_span _ _ (fun _ => rfl) (by decide))) $$ Hr00qR; iintro Hr00qR
  iapply (wp_ldr A 1 0 c qR _ (Rect.set_subset_of_span _ _ (fun _ => rfl) (by decide))) $$ Hr10qR; iintro Hr10qR
  rw [wp_ret]; imodintro
  iapply Hk
  isplitl [Hr00qR]; · iexact Hr00qR
  iexact Hr10qR

/-- Part 20 of the kernel: values only. -/
theorem part20 (c : Dev nD) (Kt : _ → sProp 𝕄) :
    iprop(Kt ⟨(V.cst_520 A c), (V.v627 A c)⟩)
      ⊢ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v20 A c) (V.v559 A c) (V.v562 A c) (V.v576 A c) (V.v580 A c)) Kt := by
  rw [k0_part20_eq_skeleton]; unfold k0_part20_skel
  simp only [Prog.lift, Prog.bind_op, Prog.bind_ret, Prog.pure_eq_ret]
  simp only [V.cst_520, V.v627]
  iintro Hk
  rw [wp_ret]; imodintro
  iexact Hk

/-- Part 21 of the kernel: a chunk of slot 0 of half 1 is read; a chunk of slot 1 of half 0 is read. -/
theorem part21 (c : Dev nD) (Kt : _ → sProp 𝕄) :
    iprop(rP A 1 0 c qR ∗ rP A 0 1 c qR ∗ ((rP A 1 0 c qR ∗ rP A 0 1 c qR) -∗ Kt ⟨(V.v632 A c), (V.v641 A c), (V.v647 A c), (V.v654 A c), (V.v655 A c), (V.v656 A c), (V.c64_i32_537 A c), (V.v658 A c), (V.v665 A c), (V.v667 A c)⟩))
      ⊢ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v187 A c) (V.v447 A c) (V.v452 A c) (V.v455 A c) (V.v558 A c) (V.cst_520 A c) (V.v627 A c)) Kt := by
  rw [k0_part21_eq_skeleton]; unfold k0_part21_skel
  simp only [Prog.lift, Prog.bind_op, Prog.bind_ret, Prog.pure_eq_ret]
  simp only [V.v632, V.v641, V.v644, V.v647, V.v650, V.v654, V.v655, V.v656, V.c64_i32_537, V.v658, V.v665, V.v666, V.v667]
  iintro ⟨Hr10qR, Hr01qR, Hk⟩
  iapply (wp_ldr A 1 0 c qR _ (Rect.set_subset_of_span _ _ (fun _ => rfl) (by decide))) $$ Hr10qR; iintro Hr10qR
  iapply (wp_ldr A 0 1 c qR _ (Rect.set_subset_of_span _ _ (fun _ => rfl) (by decide))) $$ Hr01qR; iintro Hr01qR
  rw [wp_ret]; imodintro
  iapply Hk
  isplitl [Hr10qR]; · iexact Hr10qR
  iexact Hr01qR

/-- Part 22 of the kernel: values only. -/
theorem part22 (c : Dev nD) (Kt : _ → sProp 𝕄) :
    iprop(Kt ⟨(V.v714 A c), (V.v715 A c)⟩)
      ⊢ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v18 A c) (V.v655 A c) (V.v656 A c) (V.c64_i32_537 A c) (V.v658 A c) (V.v665 A c) (V.v667 A c)) Kt := by
  rw [k0_part22_eq_skeleton]; unfold k0_part22_skel
  simp only [Prog.lift, Prog.bind_op, Prog.bind_ret, Prog.pure_eq_ret]
  simp only [V.v714, V.v715]
  iintro Hk
  rw [wp_ret]; imodintro
  iexact Hk

/-- Part 23 of the kernel: a chunk of slot 1 of half 0 is read; a chunk of slot 1 of half 1 is read. -/
theorem part23 (c : Dev nD) (Kt : _ → sProp 𝕄) :
    iprop(rP A 0 1 c qR ∗ rP A 1 1 c qR ∗ ((rP A 0 1 c qR ∗ rP A 1 1 c qR) -∗ Kt ⟨(V.v728 A c), (V.v737 A c), (V.v743 A c), (V.v750 A c), (V.v751 A c), (V.v752 A c), (V.c64_i32_572 A c), (V.v754 A c), (V.c0_i32_573 A c)⟩))
      ⊢ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v187 A c) (V.v536 A c) (V.v545 A c) (V.v551 A c) (V.v654 A c) (V.v714 A c) (V.v715 A c)) Kt := by
  rw [k0_part23_eq_skeleton]; unfold k0_part23_skel
  simp only [Prog.lift, Prog.bind_op, Prog.bind_ret, Prog.pure_eq_ret]
  simp only [V.v728, V.v737, V.v740, V.v743, V.v746, V.v750, V.v751, V.v752, V.c64_i32_572, V.v754, V.c0_i32_573]
  iintro ⟨Hr01qR, Hr11qR, Hk⟩
  iapply (wp_ldr A 0 1 c qR _ (Rect.set_subset_of_span _ _ (fun _ => rfl) (by decide))) $$ Hr01qR; iintro Hr01qR
  iapply (wp_ldr A 1 1 c qR _ (Rect.set_subset_of_span _ _ (fun _ => rfl) (by decide))) $$ Hr11qR; iintro Hr11qR
  rw [wp_ret]; imodintro
  iapply Hk
  isplitl [Hr01qR]; · iexact Hr01qR
  iexact Hr11qR

/-- Part 24 of the kernel: values only. -/
theorem part24 (c : Dev nD) (Kt : _ → sProp 𝕄) :
    iprop(Kt ⟨(V.v778 A c), (V.v779 A c), (V.v782 A c), (V.v801 A c), (V.c1_i32_586 A c)⟩)
      ⊢ wp frame (wpE (defs₀ (F := F)) 𝒱₀ (c : Thread nD τ) none) Set.univ
          (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v18 A c) (V.v751 A c) (V.v752 A c) (V.c64_i32_572 A c) (V.v754 A c) (V.c0_i32_573 A c)) Kt := by
  rw [k0_part24_eq_skeleton]; unfold k0_part24_skel
  simp only [Prog.lift, Prog.bind_op, Prog.bind_ret, Prog.pure_eq_ret]
  simp only [V.v778, V.v779, V.v782, V.v801, V.c1_i32_586]
  iintro Hk
  rw [wp_ret]; imodintro
  iexact Hk

/-- Part 25 of the kernel: a chunk of slot 1 of half 1 is read. -/
theorem part25 (c : Dev nD) (Kt : _ → sProp 𝕄) :
    iprop(rP A 1 1 c qR ∗ ((rP A 1 1 c qR) -∗ Kt ⟨(V.v824 A c), (V.v833 A c), (V.v839 A c)⟩))
      ⊢ wp frame (wpE (defs₀ (F := F)) 𝒱₀ (c : Thread nD τ) none) Set.univ
          (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v13 A c) (V.v632 A c) (V.v641 A c) (V.v647 A c) (V.v750 A c) (V.v778 A c) (V.v779 A c) (V.v782 A c) (V.v801 A c) (V.c1_i32_586 A c)) Kt := by
  rw [k0_part25_eq_skeleton]; unfold k0_part25_skel
  simp only [Prog.lift, Prog.bind_op, Prog.bind_ret, Prog.pure_eq_ret]
  simp only [V.v824, V.v833, V.v836, V.v839]
  iintro ⟨Hr11qR, Hk⟩
  iapply (wp_ldr A 1 1 c qR _ (Rect.set_subset_of_span _ _ (fun _ => rfl) (by decide))) $$ Hr11qR; iintro Hr11qR
  rw [wp_ret]; imodintro
  iapply Hk
  iexact Hr11qR

/-- Part 26 of the kernel: what lands in slot 3 of half 0 is waited for; a chunk of slot 3 of half 0 is read. -/
theorem part26 (c : Dev nD) (l : List P) (hl03 : ∀ bi ∈ l, slv 3 < slv (sg bi.2)) (Kt : _ → sProp 𝕄) :
    iprop(Ctx A K ∗ ow c l ∗ rTick 0 3 c ∗ ((ow c l ∗ semVal (rCell 0 3 c) 0 ∗ rP A 0 3 c fullShare) -∗ Kt ⟨(V.v854 A c), (V.v855 A c), (V.v858 A c), (V.v877 A c), (V.v879 A c)⟩))
      ⊢ wp frame (wpE (defs₀ (F := F)) 𝒱₀ (c : Thread nD τ) none) Set.univ
          (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v187 A c)) Kt := by
  rw [k0_part26_eq_skeleton]; unfold k0_part26_skel
  simp only [Prog.lift, Prog.bind_op, Prog.bind_ret, Prog.pure_eq_ret]
  simp only [V.v850, V.v854, V.v855, V.v858, V.v877, V.v879]
  iintro ⟨#HC, HO, HR03, Hk⟩
  iapply (wp_rwait A K 0 3 c _ hl03 _ (by rfl) (by rfl)) $$ [HR03 HO]
  · isplitr; · iexact HC
    isplitl [HR03]; · iexact HR03
    iexact HO
  iintro ⟨Hr03F, HZr03, HO⟩
  iapply (wp_ldr A 0 3 c fullShare _ (Rect.set_subset_of_span _ _ (fun _ => rfl) (by decide))) $$ Hr03F; iintro Hr03F
  rw [wp_ret]; imodintro
  iapply Hk
  isplitl [HO]; · iexact HO
  isplitl [HZr03]; · iexact HZr03
  iexact Hr03F

/-- Part 27 of the kernel: values only. -/
theorem part27 (c : Dev nD) (Kt : _ → sProp 𝕄) :
    iprop(Kt ⟨(V.v925 A c), (V.v926 A c)⟩)
      ⊢ wp frame (wpE (defs₀ (F := F)) 𝒱₀ (c : Thread nD τ) none) Set.univ
          (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v20 A c) (V.v854 A c) (V.v855 A c) (V.v858 A c) (V.v877 A c) (V.v879 A c)) Kt := by
  rw [k0_part27_eq_skeleton]; unfold k0_part27_skel
  simp only [Prog.lift, Prog.bind_op, Prog.bind_ret, Prog.pure_eq_ret]
  simp only [V.v925, V.v926]
  iintro Hk
  rw [wp_ret]; imodintro
  iexact Hk

/-- Part 28 of the kernel: a chunk of slot 3 of half 0 is read; what lands in slot 3 of half 1 is waited for; a chunk of slot 3 of half 1 is read. -/
theorem part28 (c : Dev nD) (l : List P) (hl13 : ∀ bi ∈ l, slv 3 < slv (sg bi.2)) (Kt : _ → sProp 𝕄) :
    iprop(Ctx A K ∗ ow c l ∗ rP A 0 3 c fullShare ∗ rTick 1 3 c ∗ ((ow c l ∗ rP A 0 3 c fullShare ∗ semVal (rCell 1 3 c) 0 ∗ rP A 1 3 c fullShare) -∗ Kt ⟨(V.v928 A c), (V.v937 A c), (V.v943 A c), (V.v956 A c), (V.v957 A c)⟩))
      ⊢ wp frame (wpE (defs₀ (F := F)) 𝒱₀ (c : Thread nD τ) none) Set.univ
          (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v13 A c) (V.v187 A c) (V.v728 A c) (V.v737 A c) (V.v743 A c) (V.v925 A c) (V.v926 A c)) Kt := by
  rw [k0_part28_eq_skeleton]; unfold k0_part28_skel
  simp only [Prog.lift, Prog.bind_op, Prog.bind_ret, Prog.pure_eq_ret]
  simp only [V.v928, V.v937, V.v940, V.v943, V.v954, V.v956, V.v957]
  iintro ⟨#HC, HO, Hr03F, HR13, Hk⟩
  iapply (wp_ldr A 0 3 c fullShare _ (Rect.set_subset_of_span _ _ (fun _ => rfl) (by decide))) $$ Hr03F; iintro Hr03F
  iapply (wp_rwait A K 1 3 c _ hl13 _ (by rfl) (by rfl)) $$ [HR13 HO]
  · isplitr; · iexact HC
    isplitl [HR13]; · iexact HR13
    iexact HO
  iintro ⟨Hr13F, HZr13, HO⟩
  iapply (wp_ldr A 1 3 c fullShare _ (Rect.set_subset_of_span _ _ (fun _ => rfl) (by decide))) $$ Hr13F; iintro Hr13F
  rw [wp_ret]; imodintro
  iapply Hk
  isplitl [HO]; · iexact HO
  isplitl [Hr03F]; · iexact Hr03F
  isplitl [HZr13]; · iexact HZr13
  iexact Hr13F

/-- Part 29 of the kernel: values only. -/
theorem part29 (c : Dev nD) (Kt : _ → sProp 𝕄) :
    iprop(Kt ⟨(V.v958 A c), (V.v986 A c), (V.v987 A c), (V.v988 A c), (V.c64_i32_678 A c), (V.v990 A c), (V.v997 A c), (V.v1003 A c)⟩)
      ⊢ wp frame (wpE (defs₀ (F := F)) 𝒱₀ (c : Thread nD τ) none) Set.univ
          (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v17 A c) (V.v956 A c) (V.v957 A c)) Kt := by
  rw [k0_part29_eq_skeleton]; unfold k0_part29_skel
  simp only [Prog.lift, Prog.bind_op, Prog.bind_ret, Prog.pure_eq_ret]
  simp only [V.v958, V.v986, V.v987, V.v988, V.c64_i32_678, V.v990, V.v997, V.v1003]
  iintro Hk
  rw [wp_ret]; imodintro
  iexact Hk

/-- Part 30 of the kernel: a chunk of slot 3 of half 1 is read. -/
theorem part30 (c : Dev nD) (Kt : _ → sProp 𝕄) :
    iprop(rP A 1 3 c fullShare ∗ ((rP A 1 3 c fullShare) -∗ Kt ⟨(V.v1032 A c), (V.v1041 A c), (V.v1047 A c)⟩))
      ⊢ wp frame (wpE (defs₀ (F := F)) 𝒱₀ (c : Thread nD τ) none) Set.univ
          (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v824 A c) (V.v833 A c) (V.v839 A c) (V.v958 A c) (V.v986 A c) (V.v987 A c) (V.v988 A c) (V.c64_i32_678 A c) (V.v990 A c) (V.v997 A c) (V.v1003 A c)) Kt := by
  rw [k0_part30_eq_skeleton]; unfold k0_part30_skel
  simp only [Prog.lift, Prog.bind_op, Prog.bind_ret, Prog.pure_eq_ret]
  simp only [V.v1032, V.v1041, V.v1044, V.v1047]
  iintro ⟨Hr13F, Hk⟩
  iapply (wp_ldr A 1 3 c fullShare _ (Rect.set_subset_of_span _ _ (fun _ => rfl) (by decide))) $$ Hr13F; iintro Hr13F
  rw [wp_ret]; imodintro
  iapply Hk
  iexact Hr13F

end Cert.KProof
-- ==== Proof.PartsC.lean ====
/-
# The parts of the kernel: the middle updates and the last two sends

Each part of the kernel is run once, at a symbolic device: what it needs, what it leaves, and the values it returns.
-/
module

public import proofs.«01_k».proof.Proof.Steps
public import proofs.«01_k».proof.Proof.Vals

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F) (K : Dev nD × CK → ℕ)

/-- Part 31 of the kernel: what lands in slot 2 of half 0 is waited for; send 6 of half 0; a chunk of slot 2 of half 0 is read. -/
theorem part31 (c : Dev nD) (l : List P) (hl02 : ∀ bi ∈ ((0, 6) :: l), slv 2 < slv (sg bi.2)) (Kt : _ → sProp 𝕄) :
    iprop(Ctx A K ∗ ow c ((0, 6) :: l) ∗ rTick 0 2 c ∗ tgt 0 6 c ∗ sTick 0 6 c ∗ ((semVal (rCell 0 2 c) 0 ∗ rP A 0 2 c qR ∗ fly 0 6 c ∗ ow c l) -∗ Kt (V.v1072 A c)))
      ⊢ wp frame (wpE (defs₀ (F := F)) 𝒱₀ (c : Thread nD τ) none) Set.univ
          (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v13 A c) (V.v16 A c) (V.v187 A c)) Kt := by
  rw [k0_part31_eq_skeleton]; unfold k0_part31_skel
  simp only [Prog.lift, Prog.bind_op, Prog.bind_ret, Prog.pure_eq_ret]
  simp only [V.v1068, V.v1072]
  iintro ⟨#HC, HO, HR02, HT06, HS06, Hk⟩
  iapply (wp_rwait A K 0 2 c _ hl02 _ (by rfl) (by rfl)) $$ [HR02 HO]
  · isplitr; · iexact HC
    isplitl [HR02]; · iexact HR02
    iexact HO
  iintro ⟨Hr02F, HZr02, HO⟩
  ihave Hr := (rP_halves A 0 2 c).1 $$ Hr02F
  icases Hr with ⟨Hr02qL, Hr02qR⟩
  ihave Hr02qL := (Entails.of_eq (show rP A 0 2 c qL = srcP A 0 6 c from rfl)) $$ Hr02qL
  iapply (wp_snd A K 0 6 c l _ (dev16_eq c) _ (by rfl) _ (by rfl)) $$ [Hr02qL HT06 HO HS06]
  · isplitr; · iexact HC
    isplitl [Hr02qL]; · iexact Hr02qL
    isplitl [HT06]; · iexact HT06
    isplitl [HO]; · iexact HO
    iexact HS06
  iintro ⟨HF06, HO⟩
  iapply (wp_ldr A 0 2 c qR _ (Rect.set_subset_of_span _ _ (fun _ => rfl) (by decide))) $$ Hr02qR; iintro Hr02qR
  rw [wp_ret]; imodintro
  iapply Hk
  isplitl [HZr02]; · iexact HZr02
  isplitl [Hr02qR]; · iexact Hr02qR
  isplitl [HF06]; · iexact HF06
  iexact HO

/-- Part 32 of the kernel: values only. -/
theorem part32 (c : Dev nD) (Kt : _ → sProp 𝕄) :
    iprop(Kt ⟨(V.v1100 A c), (V.v1101 A c), (V.v1102 A c), (V.c64_i32_740 A c), (V.v1104 A c), (V.v1118 A c)⟩)
      ⊢ wp frame (wpE (defs₀ (F := F)) 𝒱₀ (c : Thread nD τ) none) Set.univ
          (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v19 A c)) Kt := by
  rw [k0_part32_eq_skeleton]; unfold k0_part32_skel
  simp only [Prog.lift, Prog.bind_op, Prog.bind_ret, Prog.pure_eq_ret]
  simp only [V.v1100, V.v1101, V.v1102, V.c64_i32_740, V.v1104, V.v1118]
  iintro Hk
  rw [wp_ret]; imodintro
  iexact Hk

/-- Part 33 of the kernel: a chunk of slot 2 of half 0 is read. -/
theorem part33 (c : Dev nD) (Kt : _ → sProp 𝕄) :
    iprop(rP A 0 2 c qR ∗ ((rP A 0 2 c qR) -∗ Kt ⟨(V.v1146 A c), (V.v1155 A c), (V.v1161 A c)⟩))
      ⊢ wp frame (wpE (defs₀ (F := F)) 𝒱₀ (c : Thread nD τ) none) Set.univ
          (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v928 A c) (V.v937 A c) (V.v943 A c) (V.v1072 A c) (V.v1100 A c) (V.v1101 A c) (V.v1102 A c) (V.c64_i32_740 A c) (V.v1104 A c) (V.v1118 A c)) Kt := by
  rw [k0_part33_eq_skeleton]; unfold k0_part33_skel
  simp only [Prog.lift, Prog.bind_op, Prog.bind_ret, Prog.pure_eq_ret]
  simp only [V.v1146, V.v1155, V.v1158, V.v1161]
  iintro ⟨Hr02qR, Hk⟩
  iapply (wp_ldr A 0 2 c qR _ (Rect.set_subset_of_span _ _ (fun _ => rfl) (by decide))) $$ Hr02qR; iintro Hr02qR
  rw [wp_ret]; imodintro
  iapply Hk
  iexact Hr02qR

/-- Part 34 of the kernel: what lands in slot 2 of half 1 is waited for; send 6 of half 1; a chunk of slot 2 of half 1 is read. -/
theorem part34 (c : Dev nD) (l : List P) (hl12 : ∀ bi ∈ ((1, 6) :: l), slv 2 < slv (sg bi.2)) (Kt : _ → sProp 𝕄) :
    iprop(Ctx A K ∗ ow c ((1, 6) :: l) ∗ rTick 1 2 c ∗ tgt 1 6 c ∗ sTick 1 6 c ∗ ((semVal (rCell 1 2 c) 0 ∗ rP A 1 2 c qR ∗ fly 1 6 c ∗ ow c l) -∗ Kt ⟨(V.v1186 A c), (V.c2_i32_794 A c)⟩))
      ⊢ wp frame (wpE (defs₀ (F := F)) 𝒱₀ (c : Thread nD τ) none) Set.univ
          (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c (V.v13 A c) (V.v187 A c)) Kt := by
  rw [k0_part34_eq_skeleton]; unfold k0_part34_skel
  simp only [Prog.lift, Prog.bind_op, Prog.bind_ret, Prog.pure_eq_ret]
  simp only [V.v1182, V.v1186, V.c2_i32_794]
  iintro ⟨#HC, HO, HR12, HT16, HS16, Hk⟩
  iapply (wp_rwait A K 1 2 c _ hl12 _ (by rfl) (by rfl)) $$ [HR12 HO]
  · isplitr; · iexact HC
    isplitl [HR12]; · iexact HR12
    iexact HO
  iintro ⟨Hr12F, HZr12, HO⟩
  ihave Hr := (rP_halves A 1 2 c).1 $$ Hr12F
  icases Hr with ⟨Hr12qL, Hr12qR⟩
  ihave Hr12qL := (Entails.of_eq (show rP A 1 2 c qL = srcP A 1 6 c from rfl)) $$ Hr12qL
  iapply (wp_snd A K 1 6 c l _ (dev17_eq c) _ (by rfl) _ (by rfl)) $$ [Hr12qL HT16 HO HS16]
  · isplitr; · iexact HC
    isplitl [Hr12qL]; · iexact Hr12qL
    isplitl [HT16]; · iexact HT16
    isplitl [HO]; · iexact HO
    iexact HS16
  iintro ⟨HF16, HO⟩
  iapply (wp_ldr A 1 2 c qR _ (Rect.set_subset_of_span _ _ (fun _ => rfl) (by decide))) $$ Hr12qR; iintro Hr12qR
  rw [wp_ret]; imodintro
  iapply Hk
  isplitl [HZr12]; · iexact HZr12
  isplitl [Hr12qR]; · iexact Hr12qR
  isplitl [HF16]; · iexact HF16
  iexact HO

/-- Part 35 of the kernel: values only. -/
theorem part35 (c : Dev nD) (Kt : _ → sProp 𝕄) :
    iprop(Kt ⟨(V.v1214 A c), (V.v1215 A c), (V.v1216 A c), (V.v1218 A c), (V.v1232 A c), (V.v1233 A c)⟩)
      ⊢ wp frame (wpE (defs₀ (F := F)) 𝒱₀ (c : Thread nD τ) none) Set.univ
          (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v22 A c) (V.c2_i32_794 A c)) Kt := by
  rw [k0_part35_eq_skeleton]; unfold k0_part35_skel
  simp only [Prog.lift, Prog.bind_op, Prog.bind_ret, Prog.pure_eq_ret]
  simp only [V.v1214, V.v1215, V.v1216, V.v1218, V.v1232, V.v1233]
  iintro Hk
  rw [wp_ret]; imodintro
  iexact Hk

/-- Part 36 of the kernel: a chunk of slot 2 of half 1 is read. -/
theorem part36 (c : Dev nD) (Kt : _ → sProp 𝕄) :
    iprop(rP A 1 2 c qR ∗ ((rP A 1 2 c qR) -∗ Kt ⟨(V.v1260 A c), (V.v1269 A c), (V.v1275 A c)⟩))
      ⊢ wp frame (wpE (defs₀ (F := F)) 𝒱₀ (c : Thread nD τ) none) Set.univ
          (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v1032 A c) (V.v1041 A c) (V.v1047 A c) (V.v1186 A c) (V.v1214 A c) (V.v1215 A c) (V.v1216 A c) (V.v1218 A c) (V.v1232 A c) (V.v1233 A c)) Kt := by
  rw [k0_part36_eq_skeleton]; unfold k0_part36_skel
  simp only [Prog.lift, Prog.bind_op, Prog.bind_ret, Prog.pure_eq_ret]
  simp only [V.v1260, V.v1269, V.v1272, V.v1275]
  iintro ⟨Hr12qR, Hk⟩
  iapply (wp_ldr A 1 2 c qR _ (Rect.set_subset_of_span _ _ (fun _ => rfl) (by decide))) $$ Hr12qR; iintro Hr12qR
  rw [wp_ret]; imodintro
  iapply Hk
  iexact Hr12qR

/-- Part 37 of the kernel: what lands in slot 4 of half 0 is waited for; a chunk of slot 4 of half 0 is read. -/
theorem part37 (c : Dev nD) (l : List P) (hl04 : ∀ bi ∈ l, slv 4 < slv (sg bi.2)) (Kt : _ → sProp 𝕄) :
    iprop(Ctx A K ∗ ow c l ∗ rTick 0 4 c ∗ ((ow c l ∗ semVal (rCell 0 4 c) 0 ∗ rP A 0 4 c fullShare) -∗ Kt ⟨(V.v1290 A c), (V.v1291 A c), (V.v1294 A c), (V.v1308 A c), (V.v1310 A c), (V.c0_i32_848 A c)⟩))
      ⊢ wp frame (wpE (defs₀ (F := F)) 𝒱₀ (c : Thread nD τ) none) Set.univ
          (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v13 A c) (V.v187 A c)) Kt := by
  rw [k0_part37_eq_skeleton]; unfold k0_part37_skel
  simp only [Prog.lift, Prog.bind_op, Prog.bind_ret, Prog.pure_eq_ret]
  simp only [V.v1286, V.v1290, V.v1291, V.v1294, V.v1308, V.v1310, V.c0_i32_848]
  iintro ⟨#HC, HO, HR04, Hk⟩
  iapply (wp_rwait A K 0 4 c _ hl04 _ (by rfl) (by rfl)) $$ [HR04 HO]
  · isplitr; · iexact HC
    isplitl [HR04]; · iexact HR04
    iexact HO
  iintro ⟨Hr04F, HZr04, HO⟩
  iapply (wp_ldr A 0 4 c fullShare _ (Rect.set_subset_of_span _ _ (fun _ => rfl) (by decide))) $$ Hr04F; iintro Hr04F
  rw [wp_ret]; imodintro
  iapply Hk
  isplitl [HO]; · iexact HO
  isplitl [HZr04]; · iexact HZr04
  iexact Hr04F

/-- Part 38 of the kernel: values only. -/
theorem part38 (c : Dev nD) (Kt : _ → sProp 𝕄) :
    iprop(Kt ⟨(V.v1357 A c), (V.cst_861 A c)⟩)
      ⊢ wp frame (wpE (defs₀ (F := F)) 𝒱₀ (c : Thread nD τ) none) Set.univ
          (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v21 A c) (V.v1291 A c) (V.v1294 A c) (V.v1308 A c) (V.v1310 A c) (V.c0_i32_848 A c)) Kt := by
  rw [k0_part38_eq_skeleton]; unfold k0_part38_skel
  simp only [Prog.lift, Prog.bind_op, Prog.bind_ret, Prog.pure_eq_ret]
  simp only [V.v1357, V.cst_861]
  iintro Hk
  rw [wp_ret]; imodintro
  iexact Hk

/-- Part 39 of the kernel: a chunk of slot 4 of half 0 is read; what lands in slot 4 of half 1 is waited for. -/
theorem part39 (c : Dev nD) (l : List P) (hl14 : ∀ bi ∈ l, slv 4 < slv (sg bi.2)) (Kt : _ → sProp 𝕄) :
    iprop(Ctx A K ∗ ow c l ∗ rP A 0 4 c fullShare ∗ rTick 1 4 c ∗ ((ow c l ∗ rP A 0 4 c fullShare ∗ semVal (rCell 1 4 c) 0 ∗ rP A 1 4 c fullShare) -∗ Kt ⟨(V.v1364 A c), (V.v1373 A c), (V.v1379 A c), (V.v1389 A c)⟩))
      ⊢ wp frame (wpE (defs₀ (F := F)) 𝒱₀ (c : Thread nD τ) none) Set.univ
          (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v13 A c) (V.v187 A c) (V.v1146 A c) (V.v1155 A c) (V.v1161 A c) (V.v1290 A c) (V.v1357 A c) (V.cst_861 A c)) Kt := by
  rw [k0_part39_eq_skeleton]; unfold k0_part39_skel
  simp only [Prog.lift, Prog.bind_op, Prog.bind_ret, Prog.pure_eq_ret]
  simp only [V.v1364, V.v1373, V.v1376, V.v1379, V.v1389]
  iintro ⟨#HC, HO, Hr04F, HR14, Hk⟩
  iapply (wp_ldr A 0 4 c fullShare _ (Rect.set_subset_of_span _ _ (fun _ => rfl) (by decide))) $$ Hr04F; iintro Hr04F
  iapply (wp_rwait A K 1 4 c _ hl14 _ (by rfl) (by rfl)) $$ [HR14 HO]
  · isplitr; · iexact HC
    isplitl [HR14]; · iexact HR14
    iexact HO
  iintro ⟨Hr14F, HZr14, HO⟩
  rw [wp_ret]; imodintro
  iapply Hk
  isplitl [HO]; · iexact HO
  isplitl [Hr04F]; · iexact Hr04F
  isplitl [HZr14]; · iexact HZr14
  iexact Hr14F

/-- Part 40 of the kernel: a chunk of slot 4 of half 1 is read. -/
theorem part40 (c : Dev nD) (Kt : _ → sProp 𝕄) :
    iprop(rP A 1 4 c fullShare ∗ ((rP A 1 4 c fullShare) -∗ Kt ⟨(V.v1394 A c), (V.v1422 A c), (V.v1423 A c), (V.v1424 A c), (V.c64_i32_900 A c), (V.v1426 A c), (V.v1433 A c), (V.v1434 A c)⟩))
      ⊢ wp frame (wpE (defs₀ (F := F)) 𝒱₀ (c : Thread nD τ) none) Set.univ
          (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v21 A c) (V.v1389 A c)) Kt := by
  rw [k0_part40_eq_skeleton]; unfold k0_part40_skel
  simp only [Prog.lift, Prog.bind_op, Prog.bind_ret, Prog.pure_eq_ret]
  simp only [V.v1390, V.v1394, V.v1422, V.v1423, V.v1424, V.c64_i32_900, V.v1426, V.v1433, V.v1434]
  iintro ⟨Hr14F, Hk⟩
  iapply (wp_ldr A 1 4 c fullShare _ (Rect.set_subset_of_span _ _ (fun _ => rfl) (by decide))) $$ Hr14F; iintro Hr14F
  rw [wp_ret]; imodintro
  iapply Hk
  iexact Hr14F

/-- Part 41 of the kernel: a chunk of slot 4 of half 1 is read. -/
theorem part41 (c : Dev nD) (Kt : _ → sProp 𝕄) :
    iprop(rP A 1 4 c fullShare ∗ ((rP A 1 4 c fullShare) -∗ Kt ⟨(V.v1468 A c), (V.v1471 A c), (V.v1477 A c), (V.v1479 A c), (V.v1480 A c)⟩))
      ⊢ wp frame (wpE (defs₀ (F := F)) 𝒱₀ (c : Thread nD τ) none) Set.univ
          (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v1260 A c) (V.v1269 A c) (V.v1275 A c) (V.v1394 A c) (V.v1422 A c) (V.v1423 A c) (V.v1424 A c) (V.c64_i32_900 A c) (V.v1426 A c) (V.v1433 A c) (V.v1434 A c)) Kt := by
  rw [k0_part41_eq_skeleton]; unfold k0_part41_skel
  simp only [Prog.lift, Prog.bind_op, Prog.bind_ret, Prog.pure_eq_ret]
  simp only [V.v1468, V.v1471, V.v1477, V.v1479, V.v1480]
  iintro ⟨Hr14F, Hk⟩
  iapply (wp_ldr A 1 4 c fullShare _ (Rect.set_subset_of_span _ _ (fun _ => rfl) (by decide))) $$ Hr14F; iintro Hr14F
  rw [wp_ret]; imodintro
  iapply Hk
  iexact Hr14F

/-- Part 42 of the kernel: what lands in slot 5 of half 0 is waited for; a chunk of slot 5 of half 0 is read. -/
theorem part42 (c : Dev nD) (l : List P) (hl05 : ∀ bi ∈ l, slv 5 < slv (sg bi.2)) (Kt : _ → sProp 𝕄) :
    iprop(Ctx A K ∗ ow c l ∗ rTick 0 5 c ∗ ((ow c l ∗ semVal (rCell 0 5 c) 0 ∗ rP A 0 5 c fullShare) -∗ Kt ⟨(V.v1483 A c), (V.v1498 A c), (V.v1499 A c), (V.v1500 A c), (V.c64_i32_940 A c), (V.v1502 A c), (V.v1509 A c), (V.v1511 A c), (V.c0_i32_944 A c)⟩))
      ⊢ wp frame (wpE (defs₀ (F := F)) 𝒱₀ (c : Thread nD τ) none) Set.univ
          (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v13 A c) (V.v187 A c) (V.v1471 A c) (V.v1479 A c) (V.v1480 A c)) Kt := by
  rw [k0_part42_eq_skeleton]; unfold k0_part42_skel
  simp only [Prog.lift, Prog.bind_op, Prog.bind_ret, Prog.pure_eq_ret]
  simp only [V.v1483, V.v1494, V.v1498, V.v1499, V.v1500, V.c64_i32_940, V.v1502, V.v1509, V.v1510, V.v1511, V.c0_i32_944]
  iintro ⟨#HC, HO, HR05, Hk⟩
  iapply (wp_rwait A K 0 5 c _ hl05 _ (by rfl) (by rfl)) $$ [HR05 HO]
  · isplitr; · iexact HC
    isplitl [HR05]; · iexact HR05
    iexact HO
  iintro ⟨Hr05F, HZr05, HO⟩
  iapply (wp_ldr A 0 5 c fullShare _ (Rect.set_subset_of_span _ _ (fun _ => rfl) (by decide))) $$ Hr05F; iintro Hr05F
  rw [wp_ret]; imodintro
  iapply Hk
  isplitl [HO]; · iexact HO
  isplitl [HZr05]; · iexact HZr05
  iexact Hr05F

/-- Part 43 of the kernel: values only. -/
theorem part43 (c : Dev nD) (Kt : _ → sProp 𝕄) :
    iprop(Kt ⟨(V.v1558 A c), (V.v1559 A c), (V.c3_i32_956 A c)⟩)
      ⊢ wp frame (wpE (defs₀ (F := F)) 𝒱₀ (c : Thread nD τ) none) Set.univ
          (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v22 A c) (V.v1499 A c) (V.v1500 A c) (V.c64_i32_940 A c) (V.v1502 A c) (V.v1509 A c) (V.v1511 A c) (V.c0_i32_944 A c)) Kt := by
  rw [k0_part43_eq_skeleton]; unfold k0_part43_skel
  simp only [Prog.lift, Prog.bind_op, Prog.bind_ret, Prog.pure_eq_ret]
  simp only [V.v1558, V.v1559, V.c3_i32_956]
  iintro Hk
  rw [wp_ret]; imodintro
  iexact Hk

/-- Part 44 of the kernel: a chunk of slot 5 of half 0 is read. -/
theorem part44 (c : Dev nD) (Kt : _ → sProp 𝕄) :
    iprop(rP A 0 5 c fullShare ∗ ((rP A 0 5 c fullShare) -∗ Kt ⟨(V.v1572 A c), (V.v1581 A c), (V.v1587 A c)⟩))
      ⊢ wp frame (wpE (defs₀ (F := F)) 𝒱₀ (c : Thread nD τ) none) Set.univ
          (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v13 A c) (V.v1364 A c) (V.v1373 A c) (V.v1379 A c) (V.v1498 A c) (V.v1558 A c) (V.v1559 A c) (V.c3_i32_956 A c)) Kt := by
  rw [k0_part44_eq_skeleton]; unfold k0_part44_skel
  simp only [Prog.lift, Prog.bind_op, Prog.bind_ret, Prog.pure_eq_ret]
  simp only [V.v1572, V.v1581, V.v1584, V.v1587]
  iintro ⟨Hr05F, Hk⟩
  iapply (wp_ldr A 0 5 c fullShare _ (Rect.set_subset_of_span _ _ (fun _ => rfl) (by decide))) $$ Hr05F; iintro Hr05F
  rw [wp_ret]; imodintro
  iapply Hk
  iexact Hr05F

/-- Part 45 of the kernel: what lands in slot 5 of half 1 is waited for; a chunk of slot 5 of half 1 is read. -/
theorem part45 (c : Dev nD) (l : List P) (hl15 : ∀ bi ∈ l, slv 5 < slv (sg bi.2)) (Kt : _ → sProp 𝕄) :
    iprop(Ctx A K ∗ ow c l ∗ rTick 1 5 c ∗ ((ow c l ∗ semVal (rCell 1 5 c) 0 ∗ rP A 1 5 c fullShare) -∗ Kt ⟨(V.v1602 A c), (V.v1630 A c), (V.v1631 A c), (V.v1632 A c), (V.c64_i32_997 A c), (V.v1634 A c), (V.v1636 A c)⟩))
      ⊢ wp frame (wpE (defs₀ (F := F)) 𝒱₀ (c : Thread nD τ) none) Set.univ
          (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v19 A c) (V.v187 A c)) Kt := by
  rw [k0_part45_eq_skeleton]; unfold k0_part45_skel
  simp only [Prog.lift, Prog.bind_op, Prog.bind_ret, Prog.pure_eq_ret]
  simp only [V.v1598, V.v1602, V.v1630, V.v1631, V.v1632, V.c64_i32_997, V.v1634, V.v1636]
  iintro ⟨#HC, HO, HR15, Hk⟩
  iapply (wp_rwait A K 1 5 c _ hl15 _ (by rfl) (by rfl)) $$ [HR15 HO]
  · isplitr; · iexact HC
    isplitl [HR15]; · iexact HR15
    iexact HO
  iintro ⟨Hr15F, HZr15, HO⟩
  iapply (wp_ldr A 1 5 c fullShare _ (Rect.set_subset_of_span _ _ (fun _ => rfl) (by decide))) $$ Hr15F; iintro Hr15F
  rw [wp_ret]; imodintro
  iapply Hk
  isplitl [HO]; · iexact HO
  isplitl [HZr15]; · iexact HZr15
  iexact Hr15F

end Cert.KProof
-- ==== Proof.PartsD.lean ====
/-
# The parts of the kernel: the last updates, the stores and the waits for the sends

Each part of the kernel is run once, at a symbolic device: what it needs, what it leaves, and the values it returns.
-/
module

public import proofs.«01_k».proof.Proof.Steps
public import proofs.«01_k».proof.Proof.Vals

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F) (K : Dev nD × CK → ℕ)

/-- Part 46 of the kernel: values only. -/
theorem part46 (c : Dev nD) (Kt : _ → sProp 𝕄) :
    iprop(Kt ⟨(V.v1676 A c), (V.v1679 A c), (V.v1681 A c), (V.v1685 A c)⟩)
      ⊢ wp frame (wpE (defs₀ (F := F)) 𝒱₀ (c : Thread nD τ) none) Set.univ
          (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v1468 A c) (V.v1477 A c) (V.v1602 A c) (V.v1630 A c) (V.v1631 A c) (V.v1632 A c) (V.c64_i32_997 A c) (V.v1634 A c) (V.v1636 A c)) Kt := by
  rw [k0_part46_eq_skeleton]; unfold k0_part46_skel
  simp only [Prog.lift, Prog.bind_op, Prog.bind_ret, Prog.pure_eq_ret]
  simp only [V.v1676, V.v1679, V.v1681, V.v1685]
  iintro Hk
  rw [wp_ret]; imodintro
  iexact Hk

/-- Part 47 of the kernel: a chunk of slot 5 of half 1 is read; what lands in slot 6 of half 0 is waited for; a chunk of slot 6 of half 0 is read. -/
theorem part47 (c : Dev nD) (l : List P) (hl06 : ∀ bi ∈ l, slv 6 < slv (sg bi.2)) (Kt : _ → sProp 𝕄) :
    iprop(Ctx A K ∗ ow c l ∗ rP A 1 5 c fullShare ∗ rTick 0 6 c ∗ ((ow c l ∗ rP A 1 5 c fullShare ∗ semVal (rCell 0 6 c) 0 ∗ rP A 0 6 c fullShare) -∗ Kt ⟨(V.v1691 A c), (V.v1706 A c), (V.v1707 A c), (V.v1708 A c), (V.c64_i32_1037 A c), (V.v1710 A c), (V.v1713 A c), (V.c0_i32_1039 A c)⟩))
      ⊢ wp frame (wpE (defs₀ (F := F)) 𝒱₀ (c : Thread nD τ) none) Set.univ
          (k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v13 A c) (V.v187 A c) (V.v1483 A c) (V.v1679 A c) (V.v1681 A c)) Kt := by
  rw [k0_part47_eq_skeleton]; unfold k0_part47_skel
  simp only [Prog.lift, Prog.bind_op, Prog.bind_ret, Prog.pure_eq_ret]
  simp only [V.v1688, V.v1691, V.v1702, V.v1706, V.v1707, V.v1708, V.c64_i32_1037, V.v1710, V.v1713, V.c0_i32_1039]
  iintro ⟨#HC, HO, Hr15F, HR06, Hk⟩
  iapply (wp_ldr A 1 5 c fullShare _ (Rect.set_subset_of_span _ _ (fun _ => rfl) (by decide))) $$ Hr15F; iintro Hr15F
  iapply (wp_rwait A K 0 6 c _ hl06 _ (by rfl) (by rfl)) $$ [HR06 HO]
  · isplitr; · iexact HC
    isplitl [HR06]; · iexact HR06
    iexact HO
  iintro ⟨Hr06F, HZr06, HO⟩
  iapply (wp_ldr A 0 6 c fullShare _ (Rect.set_subset_of_span _ _ (fun _ => rfl) (by decide))) $$ Hr06F; iintro Hr06F
  rw [wp_ret]; imodintro
  iapply Hk
  isplitl [HO]; · iexact HO
  isplitl [Hr15F]; · iexact Hr15F
  isplitl [HZr06]; · iexact HZr06
  iexact Hr06F

/-- Part 48 of the kernel: values only. -/
theorem part48 (c : Dev nD) (Kt : _ → sProp 𝕄) :
    iprop(Kt ⟨(V.v1734 A c), (V.v1760 A c), (V.v1761 A c)⟩)
      ⊢ wp frame (wpE (defs₀ (F := F)) 𝒱₀ (c : Thread nD τ) none) Set.univ
          (k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v23 A c) (V.v1707 A c) (V.v1708 A c) (V.c64_i32_1037 A c) (V.v1710 A c) (V.v1713 A c) (V.c0_i32_1039 A c)) Kt := by
  rw [k0_part48_eq_skeleton]; unfold k0_part48_skel
  simp only [Prog.lift, Prog.bind_op, Prog.bind_ret, Prog.pure_eq_ret]
  simp only [V.v1734, V.v1760, V.v1761]
  iintro Hk
  rw [wp_ret]; imodintro
  iexact Hk

/-- Part 49 of the kernel: a chunk of slot 6 of half 0 is read. -/
theorem part49 (c : Dev nD) (Kt : _ → sProp 𝕄) :
    iprop(rP A 0 6 c fullShare ∗ ((rP A 0 6 c fullShare) -∗ Kt ⟨(V.v1789 A c), (V.v1795 A c)⟩))
      ⊢ wp frame (wpE (defs₀ (F := F)) 𝒱₀ (c : Thread nD τ) none) Set.univ
          (k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v13 A c) (V.v1572 A c) (V.v1581 A c) (V.v1587 A c) (V.v1706 A c) (V.v1734 A c) (V.v1760 A c) (V.v1761 A c)) Kt := by
  rw [k0_part49_eq_skeleton]; unfold k0_part49_skel
  simp only [Prog.lift, Prog.bind_op, Prog.bind_ret, Prog.pure_eq_ret]
  simp only [V.v1789, V.v1792, V.v1795]
  iintro ⟨Hr06F, Hk⟩
  iapply (wp_ldr A 0 6 c fullShare _ (Rect.set_subset_of_span _ _ (fun _ => rfl) (by decide))) $$ Hr06F; iintro Hr06F
  rw [wp_ret]; imodintro
  iapply Hk
  iexact Hr06F

/-- Part 50 of the kernel: what lands in slot 6 of half 1 is waited for; a chunk of slot 6 of half 1 is read. -/
theorem part50 (c : Dev nD) (l : List P) (hl16 : ∀ bi ∈ l, slv 6 < slv (sg bi.2)) (Kt : _ → sProp 𝕄) :
    iprop(Ctx A K ∗ ow c l ∗ rTick 1 6 c ∗ ((ow c l ∗ semVal (rCell 1 6 c) 0 ∗ rP A 1 6 c fullShare) -∗ Kt ⟨(V.v1810 A c), (V.v1838 A c), (V.c2_i32_1093 A c)⟩))
      ⊢ wp frame (wpE (defs₀ (F := F)) 𝒱₀ (c : Thread nD τ) none) Set.univ
          (k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v2 A c) (V.v187 A c)) Kt := by
  rw [k0_part50_eq_skeleton]; unfold k0_part50_skel
  simp only [Prog.lift, Prog.bind_op, Prog.bind_ret, Prog.pure_eq_ret]
  simp only [V.v1806, V.v1810, V.v1838, V.c2_i32_1093]
  iintro ⟨#HC, HO, HR16, Hk⟩
  iapply (wp_rwait A K 1 6 c _ hl16 _ (by rfl) (by rfl)) $$ [HR16 HO]
  · isplitr; · iexact HC
    isplitl [HR16]; · iexact HR16
    iexact HO
  iintro ⟨Hr16F, HZr16, HO⟩
  iapply (wp_ldr A 1 6 c fullShare _ (Rect.set_subset_of_span _ _ (fun _ => rfl) (by decide))) $$ Hr16F; iintro Hr16F
  rw [wp_ret]; imodintro
  iapply Hk
  isplitl [HO]; · iexact HO
  isplitl [HZr16]; · iexact HZr16
  iexact Hr16F

/-- Part 51 of the kernel: values only. -/
theorem part51 (c : Dev nD) (Kt : _ → sProp 𝕄) :
    iprop(Kt ⟨(V.v1884 A c), (V.v1886 A c)⟩)
      ⊢ wp frame (wpE (defs₀ (F := F)) 𝒱₀ (c : Thread nD τ) none) Set.univ
          (k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v23 A c) (V.v1676 A c) (V.v1810 A c) (V.v1838 A c) (V.c2_i32_1093 A c)) Kt := by
  rw [k0_part51_eq_skeleton]; unfold k0_part51_skel
  simp only [Prog.lift, Prog.bind_op, Prog.bind_ret, Prog.pure_eq_ret]
  simp only [V.v1884, V.v1886]
  iintro Hk
  rw [wp_ret]; imodintro
  iexact Hk

/-- Part 52 of the kernel: a chunk of slot 6 of half 1 is read; a store into the output. -/
theorem part52 (c : Dev nD) (f : (cc0_stg5_0 : Ref sig .tc).ty.Contents (Elt F)) (Kt : _ → sProp 𝕄) :
    iprop(rP A 1 6 c fullShare ∗ inWo A c ∗ outPts c f ∗ ((rP A 1 6 c fullShare ∗ inWo A c ∗ outPts c (V.o1 A c f)) -∗ Kt (V.v1928 A c)))
      ⊢ wp frame (wpE (defs₀ (F := F)) 𝒱₀ (c : Thread nD τ) none) Set.univ
          (k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v1676 A c) (V.v1685 A c) (V.v1691 A c) (V.v1789 A c) (V.v1795 A c) (V.v1884 A c) (V.v1886 A c)) Kt := by
  rw [k0_part52_eq_skeleton]; unfold k0_part52_skel
  simp only [Prog.lift, Prog.bind_op, Prog.bind_ret, Prog.pure_eq_ret]
  simp only [V.v1900, V.v1896, V.v1928, V.o1]
  iintro ⟨Hr16F, Hi4, Ho, Hk⟩
  iapply (wp_ldr A 1 6 c fullShare _ (Rect.set_subset_of_span _ _ (fun _ => rfl) (by decide))) $$ Hr16F; iintro Hr16F
  iapply (wp_load 𝒱₀ (c : Thread nD τ) none Set.univ (m := (Memref.whole cc0_stg4_0)) (Finset.subset_univ _)) $$ Hi4; iintro Hi4
  iapply (wp_load 𝒱₀ (c : Thread nD τ) none Set.univ (m := (Memref.whole cc0_stg5_0)) (Finset.subset_univ _)) $$ Ho; iintro Ho
  iapply (wp_sto c _ _ _) $$ Ho; iintro Ho
  rw [wp_ret]; imodintro
  iapply Hk
  isplitl [Hr16F]; · iexact Hr16F
  isplitl [Hi4]; · iexact Hi4
  iexact Ho

/-- Part 53 of the kernel: a store into the output; send 0 of half 0 is waited for; send 0 of half 1 is waited for. -/
theorem part53 (c : Dev nD) (f : (cc0_stg5_0 : Ref sig .tc).ty.Contents (Elt F)) (Kt : _ → sProp 𝕄) :
    iprop(Ctx A K ∗ ow c [] ∗ outPts c (V.o1 A c f) ∗ fly 0 0 c ∗ fly 1 0 c ∗ ((ow c [] ∗ outPts c (V.o2 A c f) ∗ semVal (sCell 0 0 c) 0 ∗ mP A 0 c qLL ∗ semVal (sCell 1 0 c) 0 ∗ mP A 1 c qLL) -∗ Kt ⟨⟩))
      ⊢ wp frame (wpE (defs₀ (F := F)) 𝒱₀ (c : Thread nD τ) none) Set.univ
          (k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (V.v1928 A c)) Kt := by
  rw [k0_part53_eq_skeleton]; unfold k0_part53_skel
  simp only [Prog.lift, Prog.bind_op, Prog.bind_ret, Prog.pure_eq_ret]
  simp only [V.o2]
  iintro ⟨#HC, HO, Ho, HF00, HF10, Hk⟩
  iapply (wp_load 𝒱₀ (c : Thread nD τ) none Set.univ (m := (Memref.whole cc0_stg5_0)) (Finset.subset_univ _)) $$ Ho; iintro Ho
  iapply (wp_sto c _ _ _) $$ Ho; iintro Ho
  iapply (wp_swait A K 0 0 c _ (by rfl) (by rfl)) $$ [HF00 HO]
  · isplitr; · iexact HC
    isplitl [HF00]; · iexact HF00
    iexact HO
  iintro ⟨Hm0qLL, HZs00, HO⟩
  ihave Hm0qLL := (Entails.of_eq (show srcP A 0 0 c = mP A 0 c qLL from rfl)) $$ Hm0qLL
  iapply (wp_swait A K 1 0 c _ (by rfl) (by rfl)) $$ [HF10 HO]
  · isplitr; · iexact HC
    isplitl [HF10]; · iexact HF10
    iexact HO
  iintro ⟨Hm1qLL, HZs10, HO⟩
  ihave Hm1qLL := (Entails.of_eq (show srcP A 1 0 c = mP A 1 c qLL from rfl)) $$ Hm1qLL
  rw [wp_ret]; imodintro
  iapply Hk
  isplitl [HO]; · iexact HO
  isplitl [Ho]; · iexact Ho
  isplitl [HZs00]; · iexact HZs00
  isplitl [Hm0qLL]; · iexact Hm0qLL
  isplitl [HZs10]; · iexact HZs10
  iexact Hm1qLL

/-- Part 54 of the kernel: send 1 of half 0 is waited for; send 1 of half 1 is waited for; send 2 of half 0 is waited for. -/
theorem part54 (c : Dev nD) (Kt : _ → sProp 𝕄) :
    iprop(Ctx A K ∗ ow c [] ∗ fly 0 1 c ∗ fly 1 1 c ∗ fly 0 2 c ∗ ((ow c [] ∗ semVal (sCell 0 1 c) 0 ∗ mP A 0 c qLR ∗ semVal (sCell 1 1 c) 0 ∗ mP A 1 c qLR ∗ semVal (sCell 0 2 c) 0 ∗ mP A 0 c qRL) -∗ Kt ⟨⟩))
      ⊢ wp frame (wpE (defs₀ (F := F)) 𝒱₀ (c : Thread nD τ) none) Set.univ
          (k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Kt := by
  rw [k0_part54_eq_skeleton]; unfold k0_part54_skel
  simp only [Prog.lift, Prog.bind_op, Prog.bind_ret, Prog.pure_eq_ret]
  iintro ⟨#HC, HO, HF01, HF11, HF02, Hk⟩
  iapply (wp_swait A K 0 1 c _ (by rfl) (by rfl)) $$ [HF01 HO]
  · isplitr; · iexact HC
    isplitl [HF01]; · iexact HF01
    iexact HO
  iintro ⟨Hm0qLR, HZs01, HO⟩
  ihave Hm0qLR := (Entails.of_eq (show srcP A 0 1 c = mP A 0 c qLR from rfl)) $$ Hm0qLR
  iapply (wp_swait A K 1 1 c _ (by rfl) (by rfl)) $$ [HF11 HO]
  · isplitr; · iexact HC
    isplitl [HF11]; · iexact HF11
    iexact HO
  iintro ⟨Hm1qLR, HZs11, HO⟩
  ihave Hm1qLR := (Entails.of_eq (show srcP A 1 1 c = mP A 1 c qLR from rfl)) $$ Hm1qLR
  iapply (wp_swait A K 0 2 c _ (by rfl) (by rfl)) $$ [HF02 HO]
  · isplitr; · iexact HC
    isplitl [HF02]; · iexact HF02
    iexact HO
  iintro ⟨Hm0qRL, HZs02, HO⟩
  ihave Hm0qRL := (Entails.of_eq (show srcP A 0 2 c = mP A 0 c qRL from rfl)) $$ Hm0qRL
  rw [wp_ret]; imodintro
  iapply Hk
  isplitl [HO]; · iexact HO
  isplitl [HZs01]; · iexact HZs01
  isplitl [Hm0qLR]; · iexact Hm0qLR
  isplitl [HZs11]; · iexact HZs11
  isplitl [Hm1qLR]; · iexact Hm1qLR
  isplitl [HZs02]; · iexact HZs02
  iexact Hm0qRL

/-- Part 55 of the kernel: send 2 of half 1 is waited for; send 3 of half 0 is waited for; send 3 of half 1 is waited for. -/
theorem part55 (c : Dev nD) (Kt : _ → sProp 𝕄) :
    iprop(Ctx A K ∗ ow c [] ∗ fly 1 2 c ∗ fly 0 3 c ∗ fly 1 3 c ∗ ((ow c [] ∗ semVal (sCell 1 2 c) 0 ∗ mP A 1 c qRL ∗ semVal (sCell 0 3 c) 0 ∗ rP A 0 0 c qLL ∗ semVal (sCell 1 3 c) 0 ∗ rP A 1 0 c qLL) -∗ Kt ⟨⟩))
      ⊢ wp frame (wpE (defs₀ (F := F)) 𝒱₀ (c : Thread nD τ) none) Set.univ
          (k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Kt := by
  rw [k0_part55_eq_skeleton]; unfold k0_part55_skel
  simp only [Prog.lift, Prog.bind_op, Prog.bind_ret, Prog.pure_eq_ret]
  iintro ⟨#HC, HO, HF12, HF03, HF13, Hk⟩
  iapply (wp_swait A K 1 2 c _ (by rfl) (by rfl)) $$ [HF12 HO]
  · isplitr; · iexact HC
    isplitl [HF12]; · iexact HF12
    iexact HO
  iintro ⟨Hm1qRL, HZs12, HO⟩
  ihave Hm1qRL := (Entails.of_eq (show srcP A 1 2 c = mP A 1 c qRL from rfl)) $$ Hm1qRL
  iapply (wp_swait A K 0 3 c _ (by rfl) (by rfl)) $$ [HF03 HO]
  · isplitr; · iexact HC
    isplitl [HF03]; · iexact HF03
    iexact HO
  iintro ⟨Hr00qLL, HZs03, HO⟩
  ihave Hr00qLL := (Entails.of_eq (show srcP A 0 3 c = rP A 0 0 c qLL from rfl)) $$ Hr00qLL
  iapply (wp_swait A K 1 3 c _ (by rfl) (by rfl)) $$ [HF13 HO]
  · isplitr; · iexact HC
    isplitl [HF13]; · iexact HF13
    iexact HO
  iintro ⟨Hr10qLL, HZs13, HO⟩
  ihave Hr10qLL := (Entails.of_eq (show srcP A 1 3 c = rP A 1 0 c qLL from rfl)) $$ Hr10qLL
  rw [wp_ret]; imodintro
  iapply Hk
  isplitl [HO]; · iexact HO
  isplitl [HZs12]; · iexact HZs12
  isplitl [Hm1qRL]; · iexact Hm1qRL
  isplitl [HZs03]; · iexact HZs03
  isplitl [Hr00qLL]; · iexact Hr00qLL
  isplitl [HZs13]; · iexact HZs13
  iexact Hr10qLL

/-- Part 56 of the kernel: send 4 of half 0 is waited for; send 4 of half 1 is waited for; send 5 of half 0 is waited for. -/
theorem part56 (c : Dev nD) (Kt : _ → sProp 𝕄) :
    iprop(Ctx A K ∗ ow c [] ∗ fly 0 4 c ∗ fly 1 4 c ∗ fly 0 5 c ∗ ((ow c [] ∗ semVal (sCell 0 4 c) 0 ∗ rP A 0 0 c qLR ∗ semVal (sCell 1 4 c) 0 ∗ rP A 1 0 c qLR ∗ semVal (sCell 0 5 c) 0 ∗ rP A 0 1 c qL) -∗ Kt ⟨⟩))
      ⊢ wp frame (wpE (defs₀ (F := F)) 𝒱₀ (c : Thread nD τ) none) Set.univ
          (k0_part56 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 ) Kt := by
  rw [k0_part56_eq_skeleton]; unfold k0_part56_skel
  simp only [Prog.lift, Prog.bind_op, Prog.bind_ret, Prog.pure_eq_ret]
  iintro ⟨#HC, HO, HF04, HF14, HF05, Hk⟩
  iapply (wp_swait A K 0 4 c _ (by rfl) (by rfl)) $$ [HF04 HO]
  · isplitr; · iexact HC
    isplitl [HF04]; · iexact HF04
    iexact HO
  iintro ⟨Hr00qLR, HZs04, HO⟩
  ihave Hr00qLR := (Entails.of_eq (show srcP A 0 4 c = rP A 0 0 c qLR from rfl)) $$ Hr00qLR
  iapply (wp_swait A K 1 4 c _ (by rfl) (by rfl)) $$ [HF14 HO]
  · isplitr; · iexact HC
    isplitl [HF14]; · iexact HF14
    iexact HO
  iintro ⟨Hr10qLR, HZs14, HO⟩
  ihave Hr10qLR := (Entails.of_eq (show srcP A 1 4 c = rP A 1 0 c qLR from rfl)) $$ Hr10qLR
  iapply (wp_swait A K 0 5 c _ (by rfl) (by rfl)) $$ [HF05 HO]
  · isplitr; · iexact HC
    isplitl [HF05]; · iexact HF05
    iexact HO
  iintro ⟨Hr01qL, HZs05, HO⟩
  ihave Hr01qL := (Entails.of_eq (show srcP A 0 5 c = rP A 0 1 c qL from rfl)) $$ Hr01qL
  rw [wp_ret]; imodintro
  iapply Hk
  isplitl [HO]; · iexact HO
  isplitl [HZs04]; · iexact HZs04
  isplitl [Hr00qLR]; · iexact Hr00qLR
  isplitl [HZs14]; · iexact HZs14
  isplitl [Hr10qLR]; · iexact Hr10qLR
  isplitl [HZs05]; · iexact HZs05
  iexact Hr01qL

end Cert.KProof
-- ==== Proof.Fill.lean ====
/-
# The own buffer is filled

Sixteen stores copy the keys and values of a device, batch by batch and head by head, into its own buffer. After them the
buffer holds `mineC`, and is dealt to the sends.
-/
module

public import proofs.«01_k».proof.Proof.Steps
public import proofs.«01_k».proof.Proof.Vals
public import Idealize.ShloMosaic.Lib.ValueLayout

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F)

omit [FloatOps F] in
/-- A column of one head, recast as a tile of the own buffer. -/
theorem tile_apply {α : Type} (w : S1x128x1x64.Idx → α) (h1 : S1x128x1x64.ShapeCasts S128x64) (h2 : S128x64.ShapeCasts S1x1x1x128x64)
    (x : S1x1x1x128x64.Idx) :
    shapeCast S1x1x1x128x64 (shapeCast S128x64 w h1) h2 x = w (ix4 (0 : Fin 1) (x 3) (0 : Fin 1) (x 4) : S1x128x1x64.Idx) := by
  have e0 : (x 0).val = 0 := by have := (x 0).isLt; change (x 0).val < 1 at this; omega
  have e1 : (x 1).val = 0 := by have := (x 1).isLt; change (x 1).val < 1 at this; omega
  have e2 : (x 2).val = 0 := by have := (x 2).isLt; change (x 2).val < 1 at this; omega
  rw [shapeCast_apply _ h2 x (ix2 (x 3) (x 4) : S128x64.Idx), shapeCast_apply _ h1 _ (ix4 (0 : Fin 1) (x 3) (0 : Fin 1) (x 4) : S1x128x1x64.Idx)]
  · rw [Shape.rowMajor_val_four, Shape.rowMajor_val_two]
    show ((0 * 128 + (x 3).val) * 1 + 0) * 64 + (x 4).val = (x 3).val * 64 + (x 4).val
    omega
  · rw [Shape.rowMajor_val_two, Shape.rowMajor_val_five]
    show (x 3).val * 64 + (x 4).val = ((((x 0).val * 1 + (x 1).val) * 1 + (x 2).val) * 128 + (x 3).val) * 64 + (x 4).val
    rw [e0, e1, e2]; omega

/-- The tile of batch `b`, keys or values `kv`, head `h`. -/
def inT (b kv : Fin 2) (h : Fin 4) (x y : Fin 2) (z : Fin 4) : Prop := x = b ∧ y = kv ∧ z = h
instance inT_dec (b kv h x y z) : Decidable (inT b kv h x y z) := by unfold inT; infer_instance
def inTile (b kv : Fin 2) (h : Fin 4) (i : S2x2x4x128x64.Idx) : Prop := inT b kv h (i 0) (i 1) (i 2)
instance (b kv h i) : Decidable (inTile b kv h i) := inT_dec b kv h (i 0) (i 1) (i 2)
theorem ix5_congr {x x' y y' : Fin 2} {z z' : Fin 4} (p : Fin 128) (q : Fin 64) (h : x = x') (h' : y = y') (h'' : z = z') :
    (ix5 x y z p q : S2x2x4x128x64.Idx) = ix5 x' y' z' p q := by subst h; subst h'; subst h''; rfl
theorem eq_of_inTile {b kv : Fin 2} {h : Fin 4} {i : S2x2x4x128x64.Idx} (hi : inTile b kv h i) : i = ix5 b kv h (i 3) (i 4) :=
  (eq_ix5 i).trans (ix5_congr (i 3) (i 4) hi.1 hi.2.1 hi.2.2)

theorem inb_tile (b kv : Fin 2) (h : Fin 4) : ∀ a, (![b.val, kv.val, h.val, 0, 0] : Fin 5 → Nat) a + S1x1x1x128x64.size a ≤ S2x2x4x128x64.size a := by
  revert b kv h; decide
theorem inb_col (b : Fin 2) (h : Fin 4) : ∀ a, (![b.val, 0, h.val, 0] : Fin 4 → Nat) a + S1x128x1x64.size a ≤ S2x128x4x64.size a := by
  revert b h; decide
abbrev tileRect (b kv : Fin 2) (h : Fin 4) : Rect S2x2x4x128x64 := Rect.unit (s := S2x2x4x128x64) ![b.val, kv.val, h.val, 0, 0] S1x1x1x128x64.size (inb_tile b kv h)
abbrev colRect (b : Fin 2) (h : Fin 4) : Rect S2x128x4x64 := Rect.unit (s := S2x128x4x64) ![b.val, 0, h.val, 0] S1x128x1x64.size (inb_col b h)

theorem emb_tile (b kv : Fin 2) (h : Fin 4) (x : S1x1x1x128x64.Idx) : (tileRect b kv h).emb x = (ix5 b kv h (x 3) (x 4) : S2x2x4x128x64.Idx) := by
  funext a
  refine Fin.ext ?_
  rw [Rect.emb_apply]
  have h0 : (x 0).val = 0 := by have := (x 0).isLt; change (x 0).val < 1 at this; omega
  have h1 : (x 1).val = 0 := by have := (x 1).isLt; change (x 1).val < 1 at this; omega
  have h2 : (x 2).val = 0 := by have := (x 2).isLt; change (x 2).val < 1 at this; omega
  fin_cases a
  · show b.val + 1 * (x 0).val = b.val; omega
  · show kv.val + 1 * (x 1).val = kv.val; omega
  · show h.val + 1 * (x 2).val = h.val; omega
  · show 0 + 1 * (x 3).val = (x 3).val; omega
  · show 0 + 1 * (x 4).val = (x 4).val; omega

theorem emb_col (b : Fin 2) (h : Fin 4) (i : Fin 128) (j : Fin 64) :
    (colRect b h).emb (ix4 (0 : Fin 1) i (0 : Fin 1) j : S1x128x1x64.Idx) = (ix4 b i h j : S2x128x4x64.Idx) := by
  funext a
  refine Fin.ext ?_
  rw [Rect.emb_apply]
  fin_cases a
  · show b.val + 1 * 0 = b.val; omega
  · show 0 + 1 * i.val = i.val; omega
  · show h.val + 1 * 0 = h.val; omega
  · show 0 + 1 * j.val = j.val; omega

omit [FloatOps F] in
/-- A store of a tile whose entries are the target's leaves the target's entries on that tile and the old ones elsewhere. -/
theorem store_tile (b kv : Fin 2) (h : Fin 4) (f g : (cc0_scratch0 : Ref sig .tc).ty.Contents (Elt F)) (w : S1x1x1x128x64.Idx → Elt F .f32)
    (hw : ∀ x : S1x1x1x128x64.Idx, w x = g (ix5 b kv h (x 3) (x 4) : S2x2x4x128x64.Idx)) :
    (mM.access (tileRect b kv h)).write (Elt F) f w Finset.univ = fun i => if inTile b kv h i then g i else f i := by
  funext i
  by_cases hi : inTile b kv h i
  · have e : i = (mM.access (tileRect b kv h)).emb (ix5 (0 : Fin 1) (0 : Fin 1) (0 : Fin 1) (i 3) (i 4) : S1x1x1x128x64.Idx) :=
      (eq_of_inTile hi).trans (emb_tile b kv h (ix5 (0 : Fin 1) (0 : Fin 1) (0 : Fin 1) (i 3) (i 4) : S1x1x1x128x64.Idx)).symm
    rw [if_pos hi]
    conv_lhs => rw [e]
    rw [View.write_emb_of_mem _ _ (Finset.mem_univ _), hw]
    exact congrArg g (eq_of_inTile hi).symm
  · rw [if_neg hi, View.write_of_not_mem]
    intro hm
    obtain ⟨x, -, rfl⟩ := Finset.mem_map.mp hm
    apply hi
    show inTile b kv h ((tileRect b kv h).emb x)
    rw [emb_tile]
    exact ⟨rfl, rfl, rfl⟩

theorem pay_apply (w : Vec F S1x128x1x64 .f32) (x : S1x1x1x128x64.Idx) : k0_pay1 w x = w (ix4 (0 : Fin 1) (x 3) (0 : Fin 1) (x 4) : S1x128x1x64.Idx) :=
  tile_apply w _ _ x
omit [FloatOps F] in
theorem read_key (b : Fin 2) (h : Fin 4) (g : (cc0_stg2_0 : Ref sig .tc).ty.Contents (Elt F)) (i : Fin 128) (j : Fin 64) :
    (Memref.whole cc0_stg2_0 : Memref sig .tc .vmem S2x128x4x64 .f32).view.readAt (Elt F) (colRect b h).toLoadRect g (ix4 (0 : Fin 1) i (0 : Fin 1) j : S1x128x1x64.Idx)
      = g (ix4 b i h j : S2x128x4x64.Idx) := by
  show g ((colRect b h).emb (ix4 (0 : Fin 1) i (0 : Fin 1) j : S1x128x1x64.Idx)) = _
  rw [emb_col]
omit [FloatOps F] in
theorem read_val (b : Fin 2) (h : Fin 4) (g : (cc0_stg3_0 : Ref sig .tc).ty.Contents (Elt F)) (i : Fin 128) (j : Fin 64) :
    (Memref.whole cc0_stg3_0 : Memref sig .tc .vmem S2x128x4x64 .f32).view.readAt (Elt F) (colRect b h).toLoadRect g (ix4 (0 : Fin 1) i (0 : Fin 1) j : S1x128x1x64.Idx)
      = g (ix4 b i h j : S2x128x4x64.Idx) := by
  show g ((colRect b h).emb (ix4 (0 : Fin 1) i (0 : Fin 1) j : S1x128x1x64.Idx)) = _
  rw [emb_col]
omit [FloatOps F] in
theorem mineC_key (b : Fin 2) (h : Fin 4) (c : Dev nD) (i : Fin 128) (j : Fin 64) :
    mineC A.k A.v c (ix5 b (0 : Fin 2) h i j : S2x2x4x128x64.Idx) = A.k c (ix4 b i h j : S2x128x4x64.Idx) := rfl
omit [FloatOps F] in
theorem mineC_val (b : Fin 2) (h : Fin 4) (c : Dev nD) (i : Fin 128) (j : Fin 64) :
    mineC A.k A.v c (ix5 b (1 : Fin 2) h i j : S2x2x4x128x64.Idx) = A.v c (ix4 b i h j : S2x128x4x64.Idx) := rfl

/-- A store of a tile of keys. -/
theorem store_key (b : Fin 2) (h : Fin 4) (c : Dev nD) (f : (cc0_scratch0 : Ref sig .tc).ty.Contents (Elt F)) :
    (mM.access (tileRect b 0 h)).write (Elt F) f (k0_pay1 ((Memref.whole cc0_stg2_0 : Memref sig .tc .vmem S2x128x4x64 .f32).view.readAt (Elt F) (colRect b h).toLoadRect (A.k c))) Finset.univ
      = fun i => if inTile b 0 h i then mineC A.k A.v c i else f i :=
  store_tile b 0 h f (mineC A.k A.v c) _ fun x =>
    (pay_apply _ x).trans ((read_key b h _ (x 3) (x 4)).trans (mineC_key A b h c (x 3) (x 4)).symm)
/-- A store of a tile of values. -/
theorem store_val (b : Fin 2) (h : Fin 4) (c : Dev nD) (f : (cc0_scratch0 : Ref sig .tc).ty.Contents (Elt F)) :
    (mM.access (tileRect b 1 h)).write (Elt F) f (k0_pay1 ((Memref.whole cc0_stg3_0 : Memref sig .tc .vmem S2x128x4x64 .f32).view.readAt (Elt F) (colRect b h).toLoadRect (A.v c))) Finset.univ
      = fun i => if inTile b 1 h i then mineC A.k A.v c i else f i :=
  store_tile b 1 h f (mineC A.k A.v c) _ fun x =>
    (pay_apply _ x).trans ((read_val b h _ (x 3) (x 4)).trans (mineC_val A b h c (x 3) (x 4)).symm)

/-- The sixteen tiles are everything. -/
theorem tiles_cover {α : Type} (x y : Fin 2) (z : Fin 4) (M M' : α) :
    (if inT 1 1 3 x y z then M else if inT 1 0 3 x y z then M else if inT 1 1 2 x y z then M else if inT 1 0 2 x y z then M else if inT 1 1 1 x y z then M else if inT 1 0 1 x y z then M else if inT 1 1 0 x y z then M else if inT 1 0 0 x y z then M else if inT 0 1 3 x y z then M else if inT 0 0 3 x y z then M else if inT 0 1 2 x y z then M else if inT 0 0 2 x y z then M else if inT 0 1 1 x y z then M else if inT 0 0 1 x y z then M else if inT 0 1 0 x y z then M else if inT 0 0 0 x y z then M else M') = M := by
  have h0 : ∀ z : Fin 2, z = 0 ∨ z = 1 := by decide
  have h2 : ∀ z : Fin 4, z = 0 ∨ z = 1 ∨ z = 2 ∨ z = 3 := by decide
  unfold inT
  rcases h0 x with e | e <;> rcases h0 y with e' | e' <;> rcases h2 z with e'' | e'' | e'' | e'' <;> subst e <;> subst e' <;> subst e'' <;> simp

theorem fill_1 (c : Dev nD) (f : (cc0_scratch0 : Ref sig .tc).ty.Contents (Elt F)) : V.m1 A c f = fun i => if inTile 0 0 0 i then mineC A.k A.v c i else f i := store_key A 0 0 c f
theorem fill_2 (c : Dev nD) (f : (cc0_scratch0 : Ref sig .tc).ty.Contents (Elt F)) : V.m2 A c f = fun i => if inTile 0 1 0 i then mineC A.k A.v c i else (V.m1 A c f) i := store_val A 0 0 c (V.m1 A c f)
theorem fill_3 (c : Dev nD) (f : (cc0_scratch0 : Ref sig .tc).ty.Contents (Elt F)) : V.m3 A c f = fun i => if inTile 0 0 1 i then mineC A.k A.v c i else (V.m2 A c f) i := store_key A 0 1 c (V.m2 A c f)
theorem fill_4 (c : Dev nD) (f : (cc0_scratch0 : Ref sig .tc).ty.Contents (Elt F)) : V.m4 A c f = fun i => if inTile 0 1 1 i then mineC A.k A.v c i else (V.m3 A c f) i := store_val A 0 1 c (V.m3 A c f)
theorem fill_5 (c : Dev nD) (f : (cc0_scratch0 : Ref sig .tc).ty.Contents (Elt F)) : V.m5 A c f = fun i => if inTile 0 0 2 i then mineC A.k A.v c i else (V.m4 A c f) i := store_key A 0 2 c (V.m4 A c f)
theorem fill_6 (c : Dev nD) (f : (cc0_scratch0 : Ref sig .tc).ty.Contents (Elt F)) : V.m6 A c f = fun i => if inTile 0 1 2 i then mineC A.k A.v c i else (V.m5 A c f) i := store_val A 0 2 c (V.m5 A c f)
theorem fill_7 (c : Dev nD) (f : (cc0_scratch0 : Ref sig .tc).ty.Contents (Elt F)) : V.m7 A c f = fun i => if inTile 0 0 3 i then mineC A.k A.v c i else (V.m6 A c f) i := store_key A 0 3 c (V.m6 A c f)
theorem fill_8 (c : Dev nD) (f : (cc0_scratch0 : Ref sig .tc).ty.Contents (Elt F)) : V.m8 A c f = fun i => if inTile 0 1 3 i then mineC A.k A.v c i else (V.m7 A c f) i := store_val A 0 3 c (V.m7 A c f)
theorem fill_9 (c : Dev nD) (f : (cc0_scratch0 : Ref sig .tc).ty.Contents (Elt F)) : V.m9 A c f = fun i => if inTile 1 0 0 i then mineC A.k A.v c i else (V.m8 A c f) i := store_key A 1 0 c (V.m8 A c f)
theorem fill_10 (c : Dev nD) (f : (cc0_scratch0 : Ref sig .tc).ty.Contents (Elt F)) : V.m10 A c f = fun i => if inTile 1 1 0 i then mineC A.k A.v c i else (V.m9 A c f) i := store_val A 1 0 c (V.m9 A c f)
theorem fill_11 (c : Dev nD) (f : (cc0_scratch0 : Ref sig .tc).ty.Contents (Elt F)) : V.m11 A c f = fun i => if inTile 1 0 1 i then mineC A.k A.v c i else (V.m10 A c f) i := store_key A 1 1 c (V.m10 A c f)
theorem fill_12 (c : Dev nD) (f : (cc0_scratch0 : Ref sig .tc).ty.Contents (Elt F)) : V.m12 A c f = fun i => if inTile 1 1 1 i then mineC A.k A.v c i else (V.m11 A c f) i := store_val A 1 1 c (V.m11 A c f)
theorem fill_13 (c : Dev nD) (f : (cc0_scratch0 : Ref sig .tc).ty.Contents (Elt F)) : V.m13 A c f = fun i => if inTile 1 0 2 i then mineC A.k A.v c i else (V.m12 A c f) i := store_key A 1 2 c (V.m12 A c f)
theorem fill_14 (c : Dev nD) (f : (cc0_scratch0 : Ref sig .tc).ty.Contents (Elt F)) : V.m14 A c f = fun i => if inTile 1 1 2 i then mineC A.k A.v c i else (V.m13 A c f) i := store_val A 1 2 c (V.m13 A c f)
theorem fill_15 (c : Dev nD) (f : (cc0_scratch0 : Ref sig .tc).ty.Contents (Elt F)) : V.m15 A c f = fun i => if inTile 1 0 3 i then mineC A.k A.v c i else (V.m14 A c f) i := store_key A 1 3 c (V.m14 A c f)
theorem fill_16 (c : Dev nD) (f : (cc0_scratch0 : Ref sig .tc).ty.Contents (Elt F)) : V.m16 A c f = fun i => if inTile 1 1 3 i then mineC A.k A.v c i else (V.m15 A c f) i := store_val A 1 3 c (V.m15 A c f)

/-- The sixteen stores fill the buffer. -/
theorem filled (c : Dev nD) (f : (cc0_scratch0 : Ref sig .tc).ty.Contents (Elt F)) : V.m16 A c f = mineC A.k A.v c := by
  funext i
  simp only [fill_16, fill_15, fill_14, fill_13, fill_12, fill_11, fill_10, fill_9, fill_8, fill_7, fill_6, fill_5, fill_4, fill_3, fill_2, fill_1]
  exact tiles_cover (i 0) (i 1) (i 2) _ _

theorem half_cover : (Finset.univ : Finset (S2x2x4x128x64.Idx)) = (halfRect 0).set ∪ (halfRect 1).set := by
  ext i
  have h0 : (i 0).val = 0 ∨ (i 0).val = 1 := by have := (i 0).isLt; change (i 0).val < 2 at this; omega
  have h1 : (i 1).val < 2 := (i 1).isLt
  have h2 : (i 2).val < 4 := (i 2).isLt
  have h3 : (i 3).val < 128 := (i 3).isLt
  have h4 : (i 4).val < 64 := (i 4).isLt
  simp only [Finset.mem_univ, true_iff, Finset.mem_union, Rect.mem_set_unit]
  rcases h0 with h | h
  · left; intro a
    fin_cases a
    · exact ⟨Nat.zero_le _, by show (i 0).val < 0 + 1; omega⟩
    · exact ⟨Nat.zero_le _, by show (i 1).val < 0 + 2; omega⟩
    · exact ⟨Nat.zero_le _, by show (i 2).val < 0 + 4; omega⟩
    · exact ⟨Nat.zero_le _, by show (i 3).val < 0 + 128; omega⟩
    · exact ⟨Nat.zero_le _, by show (i 4).val < 0 + 64; omega⟩
  · right; intro a
    fin_cases a
    · exact ⟨by show 1 ≤ (i 0).val; omega, by show (i 0).val < 1 + 1; omega⟩
    · exact ⟨Nat.zero_le _, by show (i 1).val < 0 + 2; omega⟩
    · exact ⟨Nat.zero_le _, by show (i 2).val < 0 + 4; omega⟩
    · exact ⟨Nat.zero_le _, by show (i 3).val < 0 + 128; omega⟩
    · exact ⟨Nat.zero_le _, by show (i 4).val < 0 + 64; omega⟩

theorem half_disjoint : Disjoint (halfRect 0).set (halfRect 1).set := Rect.unit_disjoint (0 : Fin 5) (.inl (by decide))

theorem mslot_set' (b : Fin 2) : (mslot b).view.set = (halfRect b).set := (View.set_reshape _ _).trans (View.set_slice_whole _ _)

/-- The filled buffer is its two halves. -/
theorem mine_halves (c : Dev nD) : (minePts c (mineC A.k A.v c) : sProp 𝕄) ⊣⊢ iprop(mP A 0 c fullShare ∗ mP A 1 c fullShare) := by
  have h : (((c : Dev nD) : Thread nD τ).loc cc0_scratch0 ↦[(halfRect 0).set ∪ (halfRect 1).set]{(fullShare : PosShare TreeShare)} mineC A.k A.v c : sProp 𝕄)
      ⊣⊢ iprop((((c : Dev nD) : Thread nD τ).loc cc0_scratch0 ↦[(halfRect 0).set]{(fullShare : PosShare TreeShare)} mineC A.k A.v c)
        ∗ (((c : Dev nD) : Thread nD τ).loc cc0_scratch0 ↦[(halfRect 1).set]{(fullShare : PosShare TreeShare)} mineC A.k A.v c)) := pointsTo_union half_disjoint
  rw [← half_cover] at h
  unfold mP
  rw [mslot_set', mslot_set']
  exact h

theorem own_filled (c : Dev nD) (f : (cc0_scratch0 : Ref sig .tc).ty.Contents (Elt F)) :
    (minePts c (V.m16 A c f) : sProp 𝕄)
      ⊢ iprop(mP A 0 c qLL ∗ mP A 0 c qLR ∗ mP A 0 c qRL ∗ mP A 0 c qRR ∗ mP A 1 c qLL ∗ mP A 1 c qLR ∗ mP A 1 c qRL ∗ mP A 1 c qRR) := by
  rw [filled]
  iintro H
  ihave H := (mine_halves A c).1 $$ H
  icases H with ⟨H0, H1⟩
  ihave H0 := (mP_split4 A 0 c) $$ H0
  icases H0 with ⟨a0, a1, a2, a3⟩
  ihave H1 := (mP_split4 A 1 c) $$ H1
  isplitl [a0]; · iexact a0
  isplitl [a1]; · iexact a1
  isplitl [a2]; · iexact a2
  isplitl [a3]; · iexact a3
  iexact H1

end Cert.KProof
-- ==== Proof.Body.lean ====
/-
# The body of the kernel

The parts in program order, from what a device holds at the start to what it holds at the end.
-/
module

public import proofs.«01_k».proof.Proof.PartsA
public import proofs.«01_k».proof.Proof.PartsB
public import proofs.«01_k».proof.Proof.PartsC
public import proofs.«01_k».proof.Proof.PartsD
public import proofs.«01_k».proof.Proof.Fill

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F) (K : Dev nD × CK → ℕ)

omit [FloatOps F] in
/-- The fourteen targets, one by one. -/
theorem tgts_list (c : Dev nD) : (bigSep Finset.univ fun bi : P => (tgt bi.1 bi.2 c : sProp 𝕄)) = iprop(tgt 0 0 c ∗ tgt 0 1 c ∗ tgt 0 2 c ∗ tgt 0 3 c ∗ tgt 0 4 c ∗ tgt 0 5 c ∗ tgt 0 6 c ∗ tgt 1 0 c ∗ tgt 1 1 c ∗ tgt 1 2 c ∗ tgt 1 3 c ∗ tgt 1 4 c ∗ tgt 1 5 c ∗ tgt 1 6 c) := by
  rw [bigSep_univ_eq_bigSepL [(0, 0), (0, 1), (0, 2), (0, 3), (0, 4), (0, 5), (0, 6), (1, 0), (1, 1), (1, 2), (1, 3), (1, 4), (1, 5), (1, 6)] (by decide) (by decide)]; rfl

omit [FloatOps F] in
theorem mayWait_bar (c : Dev nD) : (levAts L lv : sProp 𝕄) ⊢ MayWait (c : Thread nD τ) (.reg barS) () (Osum c sends) :=
  mayWait_of c (.reg barS) sends 1 rfl (by decide)

/-- Part 1: the handshake. The slots each neighbour will write are handed to it, and what the neighbours hand over comes back. -/
theorem part1 (c : Dev nD) (Kt : _ → sProp 𝕄) :
    iprop(Ctx A K ∗ atPos ER (barCell c) 0 ∅ 0 ∗ dutyTok ER (barCell (nb 0 c)) 0 0 ∗ dutyTok ER (barCell (nb 1 c)) 0 1 ∗ dutyTok ER (barCell (nb 2 c)) 0 2
        ∗ give 0 c ∗ give 1 c ∗ give 2 c ∗ cred (tallyAt (barCell c) () 3) ∗ (∃ W, owes (c : Thread nD τ) (O₀ c) W)
        ∗ ((semVal (barCell c) 0 ∗ (bigSep Finset.univ fun bi : P => tgt bi.1 bi.2 c) ∗ ow c sends) -∗ Kt ⟨c, V.v2 A c, V.v13 A c, V.v14 A c, V.v16 A c, V.v17 A c, V.v18 A c, V.v19 A c, V.v20 A c, V.v21 A c, V.v22 A c, V.v23 A c⟩))
      ⊢ wp frame (wpE (defs₀ (F := F)) 𝒱₀ (c : Thread nD τ) none) Set.univ
          (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [k0_part1_eq_skeleton]; unfold k0_part1_skel
  simp only [semSignalWord, semWaitWord, Prog.lift, Prog.bind_op, Prog.bind_ret, Prog.pure_eq_ret, wp_deviceId]
  simp only [V.v0, V.v1, V.v2, V.v3, V.v6, V.v7, V.v8, V.v9, V.v4, V.v13, V.v10, V.v14, V.v15, V.v16, V.v17, V.v18, V.v11, V.v12, V.v19, V.v5, V.v20, V.v21, V.v22, V.v23, dev1_eq c, dev2_eq c, dev3_eq c]
  iintro ⟨#HC, Hat, Ht0, Ht1, Ht2, Hg0, Hg1, Hg2, Hcr, ⟨%W, HO⟩, Hk⟩
  unfold O₀
  iapply (Rounds.wp_signal 𝒱₀ ER (Rd A) (c : Thread nD τ) none (dst := (nb 0 c : Thread nD τ)) (κ := K (nb 0 c, kB))
      (d := 0) (by rw [duties_bar]; exact Finset.mem_univ _) (by rfl) () (O₂ c) rfl) $$ [HO Ht0 Hg0]
  · isplitr; · iapply (ctx_inv A K (nb 0 c, kB)); iexact HC
    isplitl [HO]; · iexact HO
    isplitl [Ht0]; · iexact Ht0
    isplitl [Hg0]
    · rw [payload_bar, nb_nb]; iexact Hg0
    iapply (ctx_reached A K (nb 0 c, kB)); iexact HC
  iintro HO
  unfold O₂
  iapply (Rounds.wp_signal 𝒱₀ ER (Rd A) (c : Thread nD τ) none (dst := (nb 1 c : Thread nD τ)) (κ := K (nb 1 c, kB))
      (d := 1) (by rw [duties_bar]; exact Finset.mem_univ _) (by rfl) () (O₁ c) rfl) $$ [HO Ht1 Hg1]
  · isplitr; · iapply (ctx_inv A K (nb 1 c, kB)); iexact HC
    isplitl [HO]; · iexact HO
    isplitl [Ht1]; · iexact Ht1
    isplitl [Hg1]
    · rw [payload_bar, nb_nb]; iexact Hg1
    iapply (ctx_reached A K (nb 1 c, kB)); iexact HC
  iintro HO
  unfold O₁
  iapply (Rounds.wp_signal 𝒱₀ ER (Rd A) (c : Thread nD τ) none (dst := (nb 2 c : Thread nD τ)) (κ := K (nb 2 c, kB))
      (d := 2) (by rw [duties_bar]; exact Finset.mem_univ _) (by rfl) () (Osum c sends) rfl) $$ [HO Ht2 Hg2]
  · isplitr; · iapply (ctx_inv A K (nb 2 c, kB)); iexact HC
    isplitl [HO]; · iexact HO
    isplitl [Ht2]; · iexact Ht2
    isplitl [Hg2]
    · rw [payload_bar, nb_nb]; iexact Hg2
    iapply (ctx_reached A K (nb 2 c, kB)); iexact HC
  iintro HO
  ihave #Hlev := (ctx_lev A K) $$ HC
  iapply (Rounds.wp_wait_rest_token 𝒱₀ ER (Rd A) (c : Thread nD τ) none (κ := K (c, kB))
      (wpE_semWait_eq 𝒱₀ (c : Thread nD τ) none Set.univ) (Set.mem_univ _) () (O := Osum c sends) (W := W) (R := 0) (m := 0) (T := ∅)
      (by rw [expect_bar]; decide)) $$ [Hcr HO Hat]
  · isplitr; · iapply (ctx_inv A K (c, kB)); iexact HC
    isplitl [Hcr]; · iexact Hcr
    isplitl [HO]; · iexact HO
    isplitr; · iapply (mayWait_bar c); iexact Hlev
    iexact Hat
  iintro ⟨HO, Hat, -, Hpay⟩
  ihave Hp := (Entails.of_eq (rest_bar A c)) $$ Hpay
  imod (Rounds.cell_close ER (Rd A) (Set.mem_univ (K (c, kB))) (fun h => h) (R := 0 + 1) (duties_later A (barCell c))) $$ [Hat] with Hz
  · isplitr; · iapply (ctx_inv A K (c, kB)); iexact HC
    iexact Hat
  rw [wp_ret]; imodintro
  iapply Hk
  isplitl [Hz]; · iexact Hz
  isplitl [Hp]; · iexact Hp
  unfold ow
  iexists _; iexact HO

/-- What a device holds once the kernel is done. -/
def runPost (c : Dev nD) (f0 : (cc0_stg5_0 : Ref sig .tc).ty.Contents (Elt F)) : sProp 𝕄 :=
  iprop(semVal (barCell c) 0 ∗ ow c [] ∗ inX A c ∗ inWq A c ∗ inK A c ∗ inV A c ∗ inWo A c ∗ outPts c (V.o2 A c f0) ∗ mP A 0 c qLL ∗ mP A 0 c qLR ∗ mP A 0 c qRL ∗ mP A 0 c qRR ∗ mP A 1 c qLL ∗ mP A 1 c qLR ∗ mP A 1 c qRL ∗ mP A 1 c qRR ∗ rP A 0 0 c qLL ∗ rP A 0 0 c qLR ∗ rP A 0 0 c qR ∗ rP A 0 1 c qL ∗ rP A 0 1 c qR ∗ rP A 0 2 c qL ∗ rP A 0 2 c qR ∗ rP A 0 3 c fullShare ∗ rP A 0 4 c fullShare ∗ rP A 0 5 c fullShare ∗ rP A 0 6 c fullShare ∗ rP A 1 0 c qLL ∗ rP A 1 0 c qLR ∗ rP A 1 0 c qR ∗ rP A 1 1 c qL ∗ rP A 1 1 c qR ∗ rP A 1 2 c qL ∗ rP A 1 2 c qR ∗ rP A 1 3 c fullShare ∗ rP A 1 4 c fullShare ∗ rP A 1 5 c fullShare ∗ rP A 1 6 c fullShare ∗ semVal (sCell 0 0 c) 0 ∗ semVal (sCell 0 1 c) 0 ∗ semVal (sCell 0 2 c) 0 ∗ semVal (sCell 0 3 c) 0 ∗ semVal (sCell 0 4 c) 0 ∗ semVal (sCell 0 5 c) 0 ∗ semVal (sCell 0 6 c) 0 ∗ semVal (sCell 1 0 c) 0 ∗ semVal (sCell 1 1 c) 0 ∗ semVal (sCell 1 2 c) 0 ∗ semVal (sCell 1 3 c) 0 ∗ semVal (sCell 1 4 c) 0 ∗ semVal (sCell 1 5 c) 0 ∗ semVal (sCell 1 6 c) 0 ∗ semVal (rCell 0 0 c) 0 ∗ semVal (rCell 0 1 c) 0 ∗ semVal (rCell 0 2 c) 0 ∗ semVal (rCell 0 3 c) 0 ∗ semVal (rCell 0 4 c) 0 ∗ semVal (rCell 0 5 c) 0 ∗ semVal (rCell 0 6 c) 0 ∗ semVal (rCell 1 0 c) 0 ∗ semVal (rCell 1 1 c) 0 ∗ semVal (rCell 1 2 c) 0 ∗ semVal (rCell 1 3 c) 0 ∗ semVal (rCell 1 4 c) 0 ∗ semVal (rCell 1 5 c) 0 ∗ semVal (rCell 1 6 c) 0)

set_option maxHeartbeats 4000000 in
/-- The body runs: every part from what the parts before it left. -/
theorem run_body (c : Dev nD) (f0 : (cc0_stg5_0 : Ref sig .tc).ty.Contents (Elt F)) (f1 : (cc0_scratch0 : Ref sig .tc).ty.Contents (Elt F)) (Kt : PUnit → sProp 𝕄) :
    iprop(Ctx A K ∗ atPos ER (barCell c) 0 ∅ 0 ∗ dutyTok ER (barCell (nb 0 c)) 0 0 ∗ dutyTok ER (barCell (nb 1 c)) 0 1 ∗ dutyTok ER (barCell (nb 2 c)) 0 2
        ∗ give 0 c ∗ give 1 c ∗ give 2 c ∗ cred (tallyAt (barCell c) () 3) ∗ (∃ W, owes (c : Thread nD τ) (O₀ c) W)
        ∗ (inX A c ∗ inWq A c ∗ inK A c ∗ inV A c ∗ inWo A c ∗ outPts c f0 ∗ minePts c f1 ∗ sTick 0 0 c ∗ sTick 0 1 c ∗ sTick 0 2 c ∗ sTick 0 3 c ∗ sTick 0 4 c ∗ sTick 0 5 c ∗ sTick 0 6 c ∗ sTick 1 0 c ∗ sTick 1 1 c ∗ sTick 1 2 c ∗ sTick 1 3 c ∗ sTick 1 4 c ∗ sTick 1 5 c ∗ sTick 1 6 c ∗ rTick 0 0 c ∗ rTick 0 1 c ∗ rTick 0 2 c ∗ rTick 0 3 c ∗ rTick 0 4 c ∗ rTick 0 5 c ∗ rTick 0 6 c ∗ rTick 1 0 c ∗ rTick 1 1 c ∗ rTick 1 2 c ∗ rTick 1 3 c ∗ rTick 1 4 c ∗ rTick 1 5 c ∗ rTick 1 6 c)
        ∗ (runPost A c f0 -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  rw [cc0_body_eq_skeleton]; unfold cc0_body_skel
  rw [wp_bind, k0_part57_eq_skeleton]; unfold k0_part57_skel
  simp only [Prog.lift, Prog.bind_op, Prog.bind_ret, Prog.pure_eq_ret]
  iintro ⟨#HC, Hat, Ht0, Ht1, Ht2, Hg0, Hg1, Hg2, Hcr, HO, ⟨Hi0, Hi1, Hi2, Hi3, Hi4, Ho, Hm, HS00, HS01, HS02, HS03, HS04, HS05, HS06, HS10, HS11, HS12, HS13, HS14, HS15, HS16, HR00, HR01, HR02, HR03, HR04, HR05, HR06, HR10, HR11, HR12, HR13, HR14, HR15, HR16⟩, Hk⟩
  -- part 1
  rw [wp_bind]
  iapply (part1 A K c)
  isplitr; · iexact HC
  isplitl [Hat]; · iexact Hat
  isplitl [Ht0]; · iexact Ht0
  isplitl [Ht1]; · iexact Ht1
  isplitl [Ht2]; · iexact Ht2
  isplitl [Hg0]; · iexact Hg0
  isplitl [Hg1]; · iexact Hg1
  isplitl [Hg2]; · iexact Hg2
  isplitl [Hcr]; · iexact Hcr
  isplitl [HO]; · iexact HO
  iintro ⟨HZB, HT, HO⟩
  try dsimp only
  ihave HT := (Entails.of_eq (tgts_list c)) $$ HT
  icases HT with ⟨HT00, HT01, HT02, HT03, HT04, HT05, HT06, HT10, HT11, HT12, HT13, HT14, HT15, HT16⟩
  ihave HO := (Entails.of_eq (show ow c sends = ow c [(0, 0), (1, 0), (0, 1), (1, 1), (1, 2), (0, 2), (0, 3), (0, 4), (1, 3), (1, 4), (0, 5), (1, 5), (0, 6), (1, 6)] from rfl)) $$ HO
  -- part 2
  rw [wp_bind]
  iapply (part2 A c f1)
  isplitl [Hi2]; · iexact Hi2
  isplitl [Hm]; · iexact Hm
  isplitl [Hi3]; · iexact Hi3
  iintro ⟨Hi2, Hm, Hi3⟩
  try dsimp only
  -- part 3
  rw [wp_bind]
  iapply (part3 A c f1)
  isplitl [Hi2]; · iexact Hi2
  isplitl [Hm]; · iexact Hm
  isplitl [Hi3]; · iexact Hi3
  iintro ⟨Hi2, Hm, Hi3⟩
  try dsimp only
  -- part 4
  rw [wp_bind]
  iapply (part4 A c f1)
  isplitl [Hi2]; · iexact Hi2
  isplitl [Hm]; · iexact Hm
  isplitl [Hi3]; · iexact Hi3
  iintro ⟨Hi2, Hm, Hi3⟩
  try dsimp only
  -- part 5
  rw [wp_bind]
  iapply (part5 A c f1)
  isplitl [Hi2]; · iexact Hi2
  isplitl [Hm]; · iexact Hm
  isplitl [Hi3]; · iexact Hi3
  iintro ⟨Hi2, Hm, Hi3⟩
  try dsimp only
  ihave Hm := (own_filled A c f1) $$ Hm
  icases Hm with ⟨Hm0qLL, Hm0qLR, Hm0qRL, Hm0qRR, Hm1qLL, Hm1qLR, Hm1qRL, Hm1qRR⟩
  -- part 6
  rw [wp_bind]
  iapply (part6 A K c [(0, 1), (1, 1), (1, 2), (0, 2), (0, 3), (0, 4), (1, 3), (1, 4), (0, 5), (1, 5), (0, 6), (1, 6)])
  isplitr; · iexact HC
  isplitl [HO]; · iexact HO
  isplitl [Hm0qLL]; · iexact Hm0qLL
  isplitl [HT00]; · iexact HT00
  isplitl [HS00]; · iexact HS00
  isplitl [Hm1qLL]; · iexact Hm1qLL
  isplitl [HT10]; · iexact HT10
  isplitl [HS10]; · iexact HS10
  iintro ⟨HF00, HF10, HO⟩
  try dsimp only
  -- part 7
  rw [wp_bind]
  iapply (part7 A K c [(1, 2), (0, 2), (0, 3), (0, 4), (1, 3), (1, 4), (0, 5), (1, 5), (0, 6), (1, 6)])
  isplitr; · iexact HC
  isplitl [HO]; · iexact HO
  isplitl [Hm0qLR]; · iexact Hm0qLR
  isplitl [HT01]; · iexact HT01
  isplitl [HS01]; · iexact HS01
  isplitl [Hm1qLR]; · iexact Hm1qLR
  isplitl [HT11]; · iexact HT11
  isplitl [HS11]; · iexact HS11
  iintro ⟨HF01, HF11, HO⟩
  try dsimp only
  -- part 8
  rw [wp_bind]
  iapply (part8 A K c [(0, 3), (0, 4), (1, 3), (1, 4), (0, 5), (1, 5), (0, 6), (1, 6)])
  isplitr; · iexact HC
  isplitl [HO]; · iexact HO
  isplitl [Hm1qRL]; · iexact Hm1qRL
  isplitl [HT12]; · iexact HT12
  isplitl [HS12]; · iexact HS12
  isplitl [Hm0qRL]; · iexact Hm0qRL
  isplitl [HT02]; · iexact HT02
  isplitl [HS02]; · iexact HS02
  isplitl [Hi0]; · iexact Hi0
  isplitl [Hi1]; · iexact Hi1
  iintro ⟨HF12, HF02, HO, Hi0, Hi1⟩
  try dsimp only
  -- part 9
  rw [wp_bind]
  iapply (part9 A K c [(0, 4), (1, 3), (1, 4), (0, 5), (1, 5), (0, 6), (1, 6)] (by decide))
  isplitr; · iexact HC
  isplitl [HO]; · iexact HO
  isplitl [HR00]; · iexact HR00
  isplitl [HT03]; · iexact HT03
  isplitl [HS03]; · iexact HS03
  iintro ⟨HZr00, Hr00qLR, Hr00qR, HF03, HO⟩
  try dsimp only
  -- part 10
  rw [wp_bind]
  iapply (part10 A K c [(1, 4), (0, 5), (1, 5), (0, 6), (1, 6)] (by decide))
  isplitr; · iexact HC
  isplitl [HO]; · iexact HO
  isplitl [Hr00qLR]; · iexact Hr00qLR
  isplitl [HT04]; · iexact HT04
  isplitl [HS04]; · iexact HS04
  isplitl [HR10]; · iexact HR10
  isplitl [HT13]; · iexact HT13
  isplitl [HS13]; · iexact HS13
  iintro ⟨HF04, HZr10, Hr10qLR, Hr10qR, HF13, HO⟩
  try dsimp only
  -- part 11
  rw [wp_bind]
  iapply (part11 A K c [(0, 5), (1, 5), (0, 6), (1, 6)] (by decide))
  isplitr; · iexact HC
  isplitl [HO]; · iexact HO
  isplitl [Hr10qLR]; · iexact Hr10qLR
  isplitl [HT14]; · iexact HT14
  isplitl [HS14]; · iexact HS14
  isplitl [HR01]; · iexact HR01
  iintro ⟨HF14, HO, HZr01, Hr01qL, Hr01qR⟩
  try dsimp only
  -- part 12
  rw [wp_bind]
  iapply (part12 A K c [(0, 6), (1, 6)] (by decide))
  isplitr; · iexact HC
  isplitl [HO]; · iexact HO
  isplitl [Hr01qL]; · iexact Hr01qL
  isplitl [HT05]; · iexact HT05
  isplitl [HS05]; · iexact HS05
  isplitl [HR11]; · iexact HR11
  isplitl [HT15]; · iexact HT15
  isplitl [HS15]; · iexact HS15
  iintro ⟨HF05, HZr11, Hr11qR, HF15, HO⟩
  try dsimp only
  -- part 13
  rw [wp_bind]
  iapply (part13 A c)
  isplitl [Hm0qRR]; · iexact Hm0qRR
  iintro Hm0qRR
  try dsimp only
  -- part 14
  rw [wp_bind]
  iapply (part14 A c)
  isplitl [Hm0qRR]; · iexact Hm0qRR
  iintro Hm0qRR
  try dsimp only
  -- part 15
  rw [wp_bind]
  iapply (part15 A c)
  isplitl [Hm1qRR]; · iexact Hm1qRR
  iintro Hm1qRR
  try dsimp only
  -- part 16
  rw [wp_bind]
  iapply (part16 A c)
  try dsimp only
  -- part 17
  rw [wp_bind]
  iapply (part17 A c)
  isplitl [Hm1qRR]; · iexact Hm1qRR
  isplitl [Hr00qR]; · iexact Hr00qR
  iintro ⟨Hm1qRR, Hr00qR⟩
  try dsimp only
  -- part 18
  rw [wp_bind]
  iapply (part18 A c)
  try dsimp only
  -- part 19
  rw [wp_bind]
  iapply (part19 A c)
  isplitl [Hr00qR]; · iexact Hr00qR
  isplitl [Hr10qR]; · iexact Hr10qR
  iintro ⟨Hr00qR, Hr10qR⟩
  try dsimp only
  -- part 20
  rw [wp_bind]
  iapply (part20 A c)
  try dsimp only
  -- part 21
  rw [wp_bind]
  iapply (part21 A c)
  isplitl [Hr10qR]; · iexact Hr10qR
  isplitl [Hr01qR]; · iexact Hr01qR
  iintro ⟨Hr10qR, Hr01qR⟩
  try dsimp only
  -- part 22
  rw [wp_bind]
  iapply (part22 A c)
  try dsimp only
  -- part 23
  rw [wp_bind]
  iapply (part23 A c)
  isplitl [Hr01qR]; · iexact Hr01qR
  isplitl [Hr11qR]; · iexact Hr11qR
  iintro ⟨Hr01qR, Hr11qR⟩
  try dsimp only
  -- part 24
  rw [wp_bind]
  iapply (part24 A c)
  try dsimp only
  -- part 25
  rw [wp_bind]
  iapply (part25 A c)
  isplitl [Hr11qR]; · iexact Hr11qR
  iintro Hr11qR
  try dsimp only
  -- part 26
  rw [wp_bind]
  iapply (part26 A K c [(0, 6), (1, 6)] (by decide))
  isplitr; · iexact HC
  isplitl [HO]; · iexact HO
  isplitl [HR03]; · iexact HR03
  iintro ⟨HO, HZr03, Hr03F⟩
  try dsimp only
  -- part 27
  rw [wp_bind]
  iapply (part27 A c)
  try dsimp only
  -- part 28
  rw [wp_bind]
  iapply (part28 A K c [(0, 6), (1, 6)] (by decide))
  isplitr; · iexact HC
  isplitl [HO]; · iexact HO
  isplitl [Hr03F]; · iexact Hr03F
  isplitl [HR13]; · iexact HR13
  iintro ⟨HO, Hr03F, HZr13, Hr13F⟩
  try dsimp only
  -- part 29
  rw [wp_bind]
  iapply (part29 A c)
  try dsimp only
  -- part 30
  rw [wp_bind]
  iapply (part30 A c)
  isplitl [Hr13F]; · iexact Hr13F
  iintro Hr13F
  try dsimp only
  -- part 31
  rw [wp_bind]
  iapply (part31 A K c [(1, 6)] (by decide))
  isplitr; · iexact HC
  isplitl [HO]; · iexact HO
  isplitl [HR02]; · iexact HR02
  isplitl [HT06]; · iexact HT06
  isplitl [HS06]; · iexact HS06
  iintro ⟨HZr02, Hr02qR, HF06, HO⟩
  try dsimp only
  -- part 32
  rw [wp_bind]
  iapply (part32 A c)
  try dsimp only
  -- part 33
  rw [wp_bind]
  iapply (part33 A c)
  isplitl [Hr02qR]; · iexact Hr02qR
  iintro Hr02qR
  try dsimp only
  -- part 34
  rw [wp_bind]
  iapply (part34 A K c [] (by decide))
  isplitr; · iexact HC
  isplitl [HO]; · iexact HO
  isplitl [HR12]; · iexact HR12
  isplitl [HT16]; · iexact HT16
  isplitl [HS16]; · iexact HS16
  iintro ⟨HZr12, Hr12qR, HF16, HO⟩
  try dsimp only
  -- part 35
  rw [wp_bind]
  iapply (part35 A c)
  try dsimp only
  -- part 36
  rw [wp_bind]
  iapply (part36 A c)
  isplitl [Hr12qR]; · iexact Hr12qR
  iintro Hr12qR
  try dsimp only
  -- part 37
  rw [wp_bind]
  iapply (part37 A K c [] (by decide))
  isplitr; · iexact HC
  isplitl [HO]; · iexact HO
  isplitl [HR04]; · iexact HR04
  iintro ⟨HO, HZr04, Hr04F⟩
  try dsimp only
  -- part 38
  rw [wp_bind]
  iapply (part38 A c)
  try dsimp only
  -- part 39
  rw [wp_bind]
  iapply (part39 A K c [] (by decide))
  isplitr; · iexact HC
  isplitl [HO]; · iexact HO
  isplitl [Hr04F]; · iexact Hr04F
  isplitl [HR14]; · iexact HR14
  iintro ⟨HO, Hr04F, HZr14, Hr14F⟩
  try dsimp only
  -- part 40
  rw [wp_bind]
  iapply (part40 A c)
  isplitl [Hr14F]; · iexact Hr14F
  iintro Hr14F
  try dsimp only
  -- part 41
  rw [wp_bind]
  iapply (part41 A c)
  isplitl [Hr14F]; · iexact Hr14F
  iintro Hr14F
  try dsimp only
  -- part 42
  rw [wp_bind]
  iapply (part42 A K c [] (by decide))
  isplitr; · iexact HC
  isplitl [HO]; · iexact HO
  isplitl [HR05]; · iexact HR05
  iintro ⟨HO, HZr05, Hr05F⟩
  try dsimp only
  -- part 43
  rw [wp_bind]
  iapply (part43 A c)
  try dsimp only
  -- part 44
  rw [wp_bind]
  iapply (part44 A c)
  isplitl [Hr05F]; · iexact Hr05F
  iintro Hr05F
  try dsimp only
  -- part 45
  rw [wp_bind]
  iapply (part45 A K c [] (by decide))
  isplitr; · iexact HC
  isplitl [HO]; · iexact HO
  isplitl [HR15]; · iexact HR15
  iintro ⟨HO, HZr15, Hr15F⟩
  try dsimp only
  -- part 46
  rw [wp_bind]
  iapply (part46 A c)
  try dsimp only
  -- part 47
  rw [wp_bind]
  iapply (part47 A K c [] (by decide))
  isplitr; · iexact HC
  isplitl [HO]; · iexact HO
  isplitl [Hr15F]; · iexact Hr15F
  isplitl [HR06]; · iexact HR06
  iintro ⟨HO, Hr15F, HZr06, Hr06F⟩
  try dsimp only
  -- part 48
  rw [wp_bind]
  iapply (part48 A c)
  try dsimp only
  -- part 49
  rw [wp_bind]
  iapply (part49 A c)
  isplitl [Hr06F]; · iexact Hr06F
  iintro Hr06F
  try dsimp only
  -- part 50
  rw [wp_bind]
  iapply (part50 A K c [] (by decide))
  isplitr; · iexact HC
  isplitl [HO]; · iexact HO
  isplitl [HR16]; · iexact HR16
  iintro ⟨HO, HZr16, Hr16F⟩
  try dsimp only
  -- part 51
  rw [wp_bind]
  iapply (part51 A c)
  try dsimp only
  -- part 52
  rw [wp_bind]
  iapply (part52 A c f0)
  isplitl [Hr16F]; · iexact Hr16F
  isplitl [Hi4]; · iexact Hi4
  isplitl [Ho]; · iexact Ho
  iintro ⟨Hr16F, Hi4, Ho⟩
  try dsimp only
  -- part 53
  rw [wp_bind]
  iapply (part53 A K c f0)
  isplitr; · iexact HC
  isplitl [HO]; · iexact HO
  isplitl [Ho]; · iexact Ho
  isplitl [HF00]; · iexact HF00
  isplitl [HF10]; · iexact HF10
  iintro ⟨HO, Ho, HZs00, Hm0qLL, HZs10, Hm1qLL⟩
  try dsimp only
  -- part 54
  rw [wp_bind]
  iapply (part54 A K c)
  isplitr; · iexact HC
  isplitl [HO]; · iexact HO
  isplitl [HF01]; · iexact HF01
  isplitl [HF11]; · iexact HF11
  isplitl [HF02]; · iexact HF02
  iintro ⟨HO, HZs01, Hm0qLR, HZs11, Hm1qLR, HZs02, Hm0qRL⟩
  try dsimp only
  -- part 55
  rw [wp_bind]
  iapply (part55 A K c)
  isplitr; · iexact HC
  isplitl [HO]; · iexact HO
  isplitl [HF12]; · iexact HF12
  isplitl [HF03]; · iexact HF03
  isplitl [HF13]; · iexact HF13
  iintro ⟨HO, HZs12, Hm1qRL, HZs03, Hr00qLL, HZs13, Hr10qLL⟩
  try dsimp only
  -- part 56
  rw [wp_bind]
  iapply (part56 A K c)
  isplitr; · iexact HC
  isplitl [HO]; · iexact HO
  isplitl [HF04]; · iexact HF04
  isplitl [HF14]; · iexact HF14
  isplitl [HF05]; · iexact HF05
  iintro ⟨HO, HZs04, Hr00qLR, HZs14, Hr10qLR, HZs05, Hr01qL⟩
  try dsimp only
  iapply (wp_swait A K 1 5 c _ (by rfl) (by rfl)) $$ [HF15 HO]
  · isplitr; · iexact HC
    isplitl [HF15]; · iexact HF15
    iexact HO
  iintro ⟨Hr11qL, HZs15, HO⟩
  ihave Hr11qL := (Entails.of_eq (show srcP A 1 5 c = rP A 1 1 c qL from rfl)) $$ Hr11qL
  rw [wp_ret]; imodintro
  try dsimp only
  iapply (wp_swait A K 0 6 c _ (by rfl) (by rfl)) $$ [HF06 HO]
  · isplitr; · iexact HC
    isplitl [HF06]; · iexact HF06
    iexact HO
  iintro ⟨Hr02qL, HZs06, HO⟩
  ihave Hr02qL := (Entails.of_eq (show srcP A 0 6 c = rP A 0 2 c qL from rfl)) $$ Hr02qL
  iapply (wp_swait A K 1 6 c _ (by rfl) (by rfl)) $$ [HF16 HO]
  · isplitr; · iexact HC
    isplitl [HF16]; · iexact HF16
    iexact HO
  iintro ⟨Hr12qL, HZs16, HO⟩
  ihave Hr12qL := (Entails.of_eq (show srcP A 1 6 c = rP A 1 2 c qL from rfl)) $$ Hr12qL
  rw [wp_ret]; imodintro
  iapply Hk
  unfold runPost
  isplitl [HZB]; · iexact HZB
  isplitl [HO]; · iexact HO
  isplitl [Hi0]; · iexact Hi0
  isplitl [Hi1]; · iexact Hi1
  isplitl [Hi2]; · iexact Hi2
  isplitl [Hi3]; · iexact Hi3
  isplitl [Hi4]; · iexact Hi4
  isplitl [Ho]; · iexact Ho
  isplitl [Hm0qLL]; · iexact Hm0qLL
  isplitl [Hm0qLR]; · iexact Hm0qLR
  isplitl [Hm0qRL]; · iexact Hm0qRL
  isplitl [Hm0qRR]; · iexact Hm0qRR
  isplitl [Hm1qLL]; · iexact Hm1qLL
  isplitl [Hm1qLR]; · iexact Hm1qLR
  isplitl [Hm1qRL]; · iexact Hm1qRL
  isplitl [Hm1qRR]; · iexact Hm1qRR
  isplitl [Hr00qLL]; · iexact Hr00qLL
  isplitl [Hr00qLR]; · iexact Hr00qLR
  isplitl [Hr00qR]; · iexact Hr00qR
  isplitl [Hr01qL]; · iexact Hr01qL
  isplitl [Hr01qR]; · iexact Hr01qR
  isplitl [Hr02qL]; · iexact Hr02qL
  isplitl [Hr02qR]; · iexact Hr02qR
  isplitl [Hr03F]; · iexact Hr03F
  isplitl [Hr04F]; · iexact Hr04F
  isplitl [Hr05F]; · iexact Hr05F
  isplitl [Hr06F]; · iexact Hr06F
  isplitl [Hr10qLL]; · iexact Hr10qLL
  isplitl [Hr10qLR]; · iexact Hr10qLR
  isplitl [Hr10qR]; · iexact Hr10qR
  isplitl [Hr11qL]; · iexact Hr11qL
  isplitl [Hr11qR]; · iexact Hr11qR
  isplitl [Hr12qL]; · iexact Hr12qL
  isplitl [Hr12qR]; · iexact Hr12qR
  isplitl [Hr13F]; · iexact Hr13F
  isplitl [Hr14F]; · iexact Hr14F
  isplitl [Hr15F]; · iexact Hr15F
  isplitl [Hr16F]; · iexact Hr16F
  isplitl [HZs00]; · iexact HZs00
  isplitl [HZs01]; · iexact HZs01
  isplitl [HZs02]; · iexact HZs02
  isplitl [HZs03]; · iexact HZs03
  isplitl [HZs04]; · iexact HZs04
  isplitl [HZs05]; · iexact HZs05
  isplitl [HZs06]; · iexact HZs06
  isplitl [HZs10]; · iexact HZs10
  isplitl [HZs11]; · iexact HZs11
  isplitl [HZs12]; · iexact HZs12
  isplitl [HZs13]; · iexact HZs13
  isplitl [HZs14]; · iexact HZs14
  isplitl [HZs15]; · iexact HZs15
  isplitl [HZs16]; · iexact HZs16
  isplitl [HZr00]; · iexact HZr00
  isplitl [HZr01]; · iexact HZr01
  isplitl [HZr02]; · iexact HZr02
  isplitl [HZr03]; · iexact HZr03
  isplitl [HZr04]; · iexact HZr04
  isplitl [HZr05]; · iexact HZr05
  isplitl [HZr06]; · iexact HZr06
  isplitl [HZr10]; · iexact HZr10
  isplitl [HZr11]; · iexact HZr11
  isplitl [HZr12]; · iexact HZr12
  isplitl [HZr13]; · iexact HZr13
  isplitl [HZr14]; · iexact HZr14
  isplitl [HZr15]; · iexact HZr15
  iexact HZr16

end Cert.KProof
-- ==== Proof.Start.lean ====
/-
# What a device starts from and what it ends with

The two receive buffers are cut into their slots before the body and put together after it; the result block is named;
the body, stated as the launch needs it.
-/
module

public import proofs.«01_k».proof.Proof.Body

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F)

/-! ## The slots of a receive buffer -/

theorem slots_cover : (Finset.univ : Finset (S7x2x4x128x64.Idx)) = Finset.univ.biUnion fun j : Fin 7 => (slotRect j).set := by
  ext i
  have h1 : (i 1).val < 2 := (i 1).isLt
  have h2 : (i 2).val < 4 := (i 2).isLt
  have h3 : (i 3).val < 128 := (i 3).isLt
  have h4 : (i 4).val < 64 := (i 4).isLt
  simp only [Finset.mem_univ, true_iff, Finset.mem_biUnion, Rect.mem_set_unit]
  refine ⟨i 0, trivial, fun a => ?_⟩
  fin_cases a
  · exact ⟨le_refl (i 0).val, Nat.lt_succ_self (i 0).val⟩
  · exact ⟨Nat.zero_le _, by show (i 1).val < 0 + 2; omega⟩
  · exact ⟨Nat.zero_le _, by show (i 2).val < 0 + 4; omega⟩
  · exact ⟨Nat.zero_le _, by show (i 3).val < 0 + 128; omega⟩
  · exact ⟨Nat.zero_le _, by show (i 4).val < 0 + 64; omega⟩

theorem slots_disjoint (j j' : Fin 7) (h : j ≠ j') : Disjoint (slotRect j).set (slotRect j').set := by
  have hv : j.val ≠ j'.val := fun e => h (Fin.ext e)
  refine Rect.unit_disjoint (0 : Fin 5) ?_
  show j.val + 1 ≤ j'.val ∨ j'.val + 1 ≤ j.val
  omega

/-- The receive buffer of half `b`, whole. -/
def recvPts (b : Fin 2) (c : Dev nD) (f : Buf (Elt F) ((rM b).view.loc (c : Thread nD τ))) : sProp 𝕄 :=
  (rM b).view.loc (c : Thread nD τ) ↦[(rM b).view.set]{fullShare} f

theorem rM_set (b : Fin 2) : (rM b).view.set = Finset.univ.biUnion fun j : Fin 7 => (slot b j).view.set := by
  have h : (fun j : Fin 7 => (slot b j).view.set) = fun j => (slotRect j).set.map (rM b).view.emb := funext fun j => slot_set b j
  rw [h]
  ext i
  constructor
  · intro hi
    obtain ⟨x, -, rfl⟩ := Finset.mem_map.mp hi
    have hx : x ∈ Finset.univ.biUnion fun j : Fin 7 => (slotRect j).set := slots_cover ▸ Finset.mem_univ x
    obtain ⟨j, -, hj⟩ := Finset.mem_biUnion.mp hx
    exact Finset.mem_biUnion.mpr ⟨j, Finset.mem_univ _, Finset.mem_map_of_mem _ hj⟩
  · intro hi
    obtain ⟨j, -, hj⟩ := Finset.mem_biUnion.mp hi
    obtain ⟨x, -, rfl⟩ := Finset.mem_map.mp hj
    exact Finset.mem_map_of_mem _ (Finset.mem_univ x)

omit [FloatOps F] in
/-- A receive buffer is its slots. -/
theorem recv_slots (b : Fin 2) (c : Dev nD) (f : Buf (Elt F) ((rM b).view.loc (c : Thread nD τ))) :
    (recvPts b c f : sProp 𝕄) = bigSep Finset.univ fun j : Fin 7 => slP b j c fullShare f := by
  unfold recvPts slP
  rw [rM_set]
  refine pointsTo_biUnion _ _ fun j _ j' _ hne => ?_
  rw [slot_set, slot_set]
  exact (Finset.disjoint_map _).mpr (slots_disjoint j j' hne)

omit [FloatOps F] in
theorem recv_deal (b : Fin 2) (c : Dev nD) (f : Buf (Elt F) ((rM b).view.loc (c : Thread nD τ))) :
    (recvPts b c f : sProp 𝕄) ⊢ bigSep Finset.univ fun j : Fin 7 => iprop(∃ f, slP b j c fullShare f) := by
  rw [recv_slots]
  exact bigSep_mono fun j _ => show (slP b j c fullShare f : sProp 𝕄) ⊢ iprop(∃ f, slP b j c fullShare f) from by
    iintro H; iexists f; iexact H

omit [FloatOps F] in
/-- Two receive buffers, whole, are what the three neighbours are to be handed. -/
theorem recv_give (c : Dev nD) (f0 : Buf (Elt F) ((rM 0).view.loc (c : Thread nD τ))) (f1 : Buf (Elt F) ((rM 1).view.loc (c : Thread nD τ))) :
    (iprop(recvPts 0 c f0 ∗ recvPts 1 c f1) : sProp 𝕄) ⊢ iprop(give 0 c ∗ give 1 c ∗ give 2 c) := by
  rw [← give_all, bigSep_univ_prod, bigSep_fin_two]
  exact BI.sep_mono (recv_deal 0 c f0) (recv_deal 1 c f1)

omit [FloatOps F] in
/-- The slots of one receive buffer, each holding what landed, are the buffer. -/
theorem recv_whole (b : Fin 2) (c : Dev nD) :
    (iprop(rP A b 0 c fullShare ∗ rP A b 1 c fullShare ∗ rP A b 2 c fullShare ∗ rP A b 3 c fullShare ∗ rP A b 4 c fullShare ∗ rP A b 5 c fullShare ∗ rP A b 6 c fullShare) : sProp 𝕄)
      ⊢ recvPts b c (recvB A.k A.v b c) := by
  rw [recv_slots, bigSep_univ_eq_bigSepL [0, 1, 2, 3, 4, 5, 6] (by decide) (by decide)]
  exact Entails.of_eq rfl

omit [FloatOps F] in
theorem recvPts_zero (c : Dev nD) (f : Buf (Elt F) (((c : Dev nD) : Thread nD τ).loc cc0_scratch1)) :
    (recvPts 0 c f : sProp 𝕄) = (((c : Dev nD) : Thread nD τ).loc cc0_scratch1 ↦{fullShare} f) := by
  unfold recvPts
  rw [show (rM 0).view.set = Finset.univ from View.set_whole _]
omit [FloatOps F] in
theorem recvPts_one (c : Dev nD) (f : Buf (Elt F) (((c : Dev nD) : Thread nD τ).loc cc0_scratch2)) :
    (recvPts 1 c f : sProp 𝕄) = (((c : Dev nD) : Thread nD τ).loc cc0_scratch2 ↦{fullShare} f) := by
  unfold recvPts
  rw [show (rM 1).view.set = Finset.univ from View.set_whole _]

/-! ## The result block -/

theorem inb_out (b : Fin 2) : ∀ a, (![b.val, 0, 0] : Fin 3 → Nat) a + S1x128x512.size a ≤ S2x128x512.size a := by revert b; decide
abbrev outRect (b : Fin 2) : Rect S2x128x512 := Rect.unit (s := S2x128x512) ![b.val, 0, 0] S1x128x512.size (inb_out b)
theorem emb_out (b : Fin 2) (x : S1x128x512.Idx) : (outRect b).emb x = (ix3 b (x 1) (x 2) : S2x128x512.Idx) := by
  funext a
  refine Fin.ext ?_
  rw [Rect.emb_apply]
  have h0 : (x 0).val = 0 := by have := (x 0).isLt; change (x 0).val < 1 at this; omega
  fin_cases a
  · show b.val + 1 * (x 0).val = b.val; omega
  · show 0 + 1 * (x 1).val = (x 1).val; omega
  · show 0 + 1 * (x 2).val = (x 2).val; omega

theorem ix3_congr {b b' : Fin 2} (p : Fin 128) (q : Fin 512) (h : b = b') : (ix3 b p q : S2x128x512.Idx) = ix3 b' p q := by subst h; rfl

/-- Device `c`'s block of the result: batch 0 by the first store, batch 1 by the second. -/
def outAt (c : Dev nD) : (cc0_stg5_0 : Ref sig .tc).ty.Contents (Elt F) := fun i =>
  let i : S2x128x512.Idx := i
  if (i 0).val = 0 then k0_pay187 (V.v1789 A c) (V.v1795 A c) (V.v1900 A c) (ix3 (0 : Fin 1) (i 1) (i 2) : S1x128x512.Idx)
  else k0_pay189 (V.v1928 A c) (ix3 (0 : Fin 1) (i 1) (i 2) : S1x128x512.Idx)

omit [FloatOps F] in
/-- A store of one batch of the result. -/
theorem store_out (b : Fin 2) (f : (cc0_stg5_0 : Ref sig .tc).ty.Contents (Elt F)) (w : S1x128x512.Idx → Elt F .f32) :
    ((Memref.whole cc0_stg5_0 : Memref sig .tc .vmem S2x128x512 .f32).access (outRect b)).write (Elt F) f w Finset.univ
      = fun i => let i : S2x128x512.Idx := i
          if (i 0).val = b.val then w (ix3 (0 : Fin 1) (i 1) (i 2) : S1x128x512.Idx) else f i := by
  funext i
  let j : S2x128x512.Idx := i
  show _ = if (j 0).val = b.val then w (ix3 (0 : Fin 1) (j 1) (j 2) : S1x128x512.Idx) else f j
  by_cases hi : (j 0).val = b.val
  · have e : j = ((Memref.whole cc0_stg5_0 : Memref sig .tc .vmem S2x128x512 .f32).access (outRect b)).emb (ix3 (0 : Fin 1) (j 1) (j 2) : S1x128x512.Idx) :=
      ((eq_ix3 j).trans (ix3_congr (j 1) (j 2) (Fin.ext hi))).trans (emb_out b (ix3 (0 : Fin 1) (j 1) (j 2) : S1x128x512.Idx)).symm
    rw [if_pos hi]
    show ((Memref.whole cc0_stg5_0 : Memref sig .tc .vmem S2x128x512 .f32).access (outRect b)).write (Elt F) f w Finset.univ j = _
    conv_lhs => rw [e]
    rw [View.write_emb_of_mem _ _ (Finset.mem_univ _)]; rfl
  · rw [if_neg hi]
    show ((Memref.whole cc0_stg5_0 : Memref sig .tc .vmem S2x128x512 .f32).access (outRect b)).write (Elt F) f w Finset.univ j = _
    rw [View.write_of_not_mem]
    intro hm
    obtain ⟨x, -, hx⟩ := Finset.mem_map.mp hm
    apply hi
    have h : (outRect b).emb x = j := hx
    rw [← h, emb_out]

theorem out_one (c : Dev nD) (f : (cc0_stg5_0 : Ref sig .tc).ty.Contents (Elt F)) :
    V.o1 A c f = fun i => let i : S2x128x512.Idx := i
          if (i 0).val = (0 : Fin 2).val then k0_pay187 (V.v1789 A c) (V.v1795 A c) (V.v1900 A c) (ix3 (0 : Fin 1) (i 1) (i 2) : S1x128x512.Idx) else f i :=
  store_out 0 f (k0_pay187 (V.v1789 A c) (V.v1795 A c) (V.v1900 A c))
theorem out_two (c : Dev nD) (f : (cc0_stg5_0 : Ref sig .tc).ty.Contents (Elt F)) :
    V.o2 A c f = fun i => let i : S2x128x512.Idx := i
          if (i 0).val = (1 : Fin 2).val then k0_pay189 (V.v1928 A c) (ix3 (0 : Fin 1) (i 1) (i 2) : S1x128x512.Idx) else V.o1 A c f i :=
  store_out 1 (V.o1 A c f) (k0_pay189 (V.v1928 A c))

omit [FloatOps F] in
theorem two_rows {α : Type} (n : ℕ) (hn : n < 2) (x y z : α) :
    (if n = (1 : Fin 2).val then y else if n = (0 : Fin 2).val then x else z) = if n = 0 then x else y := by
  have h : n = 0 ∨ n = 1 := by omega
  rcases h with h | h <;> subst h <;> simp

/-- The two stores make the result block, whatever was there. -/
theorem out_eq (c : Dev nD) (f : (cc0_stg5_0 : Ref sig .tc).ty.Contents (Elt F)) : V.o2 A c f = outAt A c := by
  rw [out_two, out_one]
  funext i
  exact two_rows _ (i 0).isLt _ _ _

/-! ## The body as the launch needs it -/

/-- What is a device's own at the start: its place at its cells, the duties it pays with. -/
def lin (c : Dev nD) : sProp 𝕄 :=
  iprop(atPos ER (barCell c) 0 ∅ 0 ∗ (dutyTok ER (barCell (nb 0 c)) 0 0 ∗ dutyTok ER (barCell (nb 1 c)) 0 1 ∗ dutyTok ER (barCell (nb 2 c)) 0 2)
    ∗ (bigSep Finset.univ fun p : P => sTick p.1 p.2 c) ∗ bigSep Finset.univ fun p : P => atPos ER (rCell p.1 p.2 c) 0 ∅ 0)

/-- What a device's body starts from. -/
def start (c : Dev nD) : sProp 𝕄 :=
  iprop((∃ K, records A K ∗ lin c) ∗ cred (tallyAt (barCell c) () 3) ∗ (bigSep Finset.univ fun p : P => cred (tallyAt (rCell p.1 p.2 c) () N)) ∗ levAts L lv)

/-- The three buffers of the kernel, at some contents. -/
def bufs (c : Dev nD) : sProp 𝕄 :=
  iprop((∃ f, minePts c f) ∗ (∃ f, (((c : Dev nD) : Thread nD τ).loc cc0_scratch1) ↦{fullShare} f) ∗ (∃ f, (((c : Dev nD) : Thread nD τ).loc cc0_scratch2) ↦{fullShare} f))

def Φ₀ (c : Dev nD) : sProp 𝕄 := iprop(start A c ∗ bufs c)
def Φ₁ (c : Dev nD) : sProp 𝕄 :=
  iprop(bufs c ∗ (bigSep Finset.univ fun p : P => semVal (sCell p.1 p.2 c) 0) ∗ (bigSep Finset.univ fun p : P => semVal (rCell p.1 p.2 c) 0) ∗ semVal (barCell c) 0)

omit [FloatOps F] in
theorem bigSep_P (Φ : P → sProp 𝕄) : bigSep Finset.univ Φ
    = iprop(Φ (0, 0) ∗ Φ (0, 1) ∗ Φ (0, 2) ∗ Φ (0, 3) ∗ Φ (0, 4) ∗ Φ (0, 5) ∗ Φ (0, 6) ∗ Φ (1, 0) ∗ Φ (1, 1) ∗ Φ (1, 2) ∗ Φ (1, 3) ∗ Φ (1, 4) ∗ Φ (1, 5) ∗ Φ (1, 6)) :=
  bigSep_univ_eq_bigSepL [(0, 0), (0, 1), (0, 2), (0, 3), (0, 4), (0, 5), (0, 6), (1, 0), (1, 1), (1, 2), (1, 3), (1, 4), (1, 5), (1, 6)] (by decide) (by decide) Φ

omit [FloatOps F] in
/-- The places at the receive cells and their credits are what the waits spend. -/
theorem rTicks (c : Dev nD) :
    (iprop((bigSep Finset.univ fun p : P => atPos ER (rCell p.1 p.2 c) 0 ∅ 0) ∗ bigSep Finset.univ fun p : P => cred (tallyAt (rCell p.1 p.2 c) () N)) : sProp 𝕄)
      = bigSep Finset.univ fun p : P => rTick p.1 p.2 c := by
  rw [← bigSep_sep']; rfl

end Cert.KProof
-- ==== Proof.Obligation.lean ====
/-
# The obligation of the launch

What the six windows hold before and after the body, and the body stated for them.
-/
module

public import proofs.«01_k».proof.Proof.Start

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (A : Inp F)

/-- What is left of the run: the buffers put together again, the semaphores at zero, the result. -/
def after (c : Dev nD) : sProp 𝕄 :=
  iprop(Φ₁ c ∗ ow c [] ∗ inX A c ∗ inWq A c ∗ inK A c ∗ inV A c ∗ inWo A c ∗ outPts c (outAt A c))

theorem run_after (c : Dev nD) (f0 : (cc0_stg5_0 : Ref sig .tc).ty.Contents (Elt F)) : runPost A c f0 ⊢ after A c := by
  unfold runPost after Φ₁ bufs
  rw [out_eq, bigSep_P, bigSep_P]
  iintro ⟨HZB, HO, Hi0, Hi1, Hi2, Hi3, Hi4, Ho, Hm0qLL, Hm0qLR, Hm0qRL, Hm0qRR, Hm1qLL, Hm1qLR, Hm1qRL, Hm1qRR, Hr00LL, Hr00LR, Hr00R, Hr01L, Hr01R, Hr02L, Hr02R, Hr03, Hr04, Hr05, Hr06, Hr10LL, Hr10LR, Hr10R, Hr11L, Hr11R, Hr12L, Hr12R, Hr13, Hr14, Hr15, Hr16, HZs00, HZs01, HZs02, HZs03, HZs04, HZs05, HZs06, HZs10, HZs11, HZs12, HZs13, HZs14, HZs15, HZs16, HZr00, HZr01, HZr02, HZr03, HZr04, HZr05, HZr06, HZr10, HZr11, HZr12, HZr13, HZr14, HZr15, HZr16⟩
  ihave HM0 := (mP_join4 A 0 c) $$ [Hm0qLL Hm0qLR Hm0qRL Hm0qRR]
  · isplitl [Hm0qLL]; · iexact Hm0qLL
    isplitl [Hm0qLR]; · iexact Hm0qLR
    isplitl [Hm0qRL]; · iexact Hm0qRL
    iexact Hm0qRR
  ihave Hr00 := (rP_join3 A 0 0 c) $$ [Hr00LL Hr00LR Hr00R]
  · isplitl [Hr00LL]; · iexact Hr00LL
    isplitl [Hr00LR]; · iexact Hr00LR
    iexact Hr00R
  ihave Hr01 := (rP_halves A 0 1 c).2 $$ [Hr01L Hr01R]
  · isplitl [Hr01L]; · iexact Hr01L
    iexact Hr01R
  ihave Hr02 := (rP_halves A 0 2 c).2 $$ [Hr02L Hr02R]
  · isplitl [Hr02L]; · iexact Hr02L
    iexact Hr02R
  ihave HB0 := (recv_whole A 0 c) $$ [Hr00 Hr01 Hr02 Hr03 Hr04 Hr05 Hr06]
  · isplitl [Hr00]; · iexact Hr00
    isplitl [Hr01]; · iexact Hr01
    isplitl [Hr02]; · iexact Hr02
    isplitl [Hr03]; · iexact Hr03
    isplitl [Hr04]; · iexact Hr04
    isplitl [Hr05]; · iexact Hr05
    iexact Hr06
  ihave HM1 := (mP_join4 A 1 c) $$ [Hm1qLL Hm1qLR Hm1qRL Hm1qRR]
  · isplitl [Hm1qLL]; · iexact Hm1qLL
    isplitl [Hm1qLR]; · iexact Hm1qLR
    isplitl [Hm1qRL]; · iexact Hm1qRL
    iexact Hm1qRR
  ihave Hr10 := (rP_join3 A 1 0 c) $$ [Hr10LL Hr10LR Hr10R]
  · isplitl [Hr10LL]; · iexact Hr10LL
    isplitl [Hr10LR]; · iexact Hr10LR
    iexact Hr10R
  ihave Hr11 := (rP_halves A 1 1 c).2 $$ [Hr11L Hr11R]
  · isplitl [Hr11L]; · iexact Hr11L
    iexact Hr11R
  ihave Hr12 := (rP_halves A 1 2 c).2 $$ [Hr12L Hr12R]
  · isplitl [Hr12L]; · iexact Hr12L
    iexact Hr12R
  ihave HB1 := (recv_whole A 1 c) $$ [Hr10 Hr11 Hr12 Hr13 Hr14 Hr15 Hr16]
  · isplitl [Hr10]; · iexact Hr10
    isplitl [Hr11]; · iexact Hr11
    isplitl [Hr12]; · iexact Hr12
    isplitl [Hr13]; · iexact Hr13
    isplitl [Hr14]; · iexact Hr14
    isplitl [Hr15]; · iexact Hr15
    iexact Hr16
  ihave HM := (mine_halves A c).2 $$ [HM0 HM1]
  · isplitl [HM0]; · iexact HM0
    iexact HM1
  ihave HB0 := (Entails.of_eq (recvPts_zero c _)) $$ HB0
  ihave HB1 := (Entails.of_eq (recvPts_one c _)) $$ HB1
  isplitr [HO Hi0 Hi1 Hi2 Hi3 Hi4 Ho]
  · isplitl [HM HB0 HB1]
    · isplitl [HM]; · iexists _; iexact HM
      isplitl [HB0]; · iexists _; iexact HB0
      iexists _; iexact HB1
    isplitl [HZs00 HZs01 HZs02 HZs03 HZs04 HZs05 HZs06 HZs10 HZs11 HZs12 HZs13 HZs14 HZs15 HZs16]
    · isplitl [HZs00]; · iexact HZs00
      isplitl [HZs01]; · iexact HZs01
      isplitl [HZs02]; · iexact HZs02
      isplitl [HZs03]; · iexact HZs03
      isplitl [HZs04]; · iexact HZs04
      isplitl [HZs05]; · iexact HZs05
      isplitl [HZs06]; · iexact HZs06
      isplitl [HZs10]; · iexact HZs10
      isplitl [HZs11]; · iexact HZs11
      isplitl [HZs12]; · iexact HZs12
      isplitl [HZs13]; · iexact HZs13
      isplitl [HZs14]; · iexact HZs14
      isplitl [HZs15]; · iexact HZs15
      iexact HZs16
    isplitl [HZr00 HZr01 HZr02 HZr03 HZr04 HZr05 HZr06 HZr10 HZr11 HZr12 HZr13 HZr14 HZr15 HZr16]
    · isplitl [HZr00]; · iexact HZr00
      isplitl [HZr01]; · iexact HZr01
      isplitl [HZr02]; · iexact HZr02
      isplitl [HZr03]; · iexact HZr03
      isplitl [HZr04]; · iexact HZr04
      isplitl [HZr05]; · iexact HZr05
      isplitl [HZr06]; · iexact HZr06
      isplitl [HZr10]; · iexact HZr10
      isplitl [HZr11]; · iexact HZr11
      isplitl [HZr12]; · iexact HZr12
      isplitl [HZr13]; · iexact HZr13
      isplitl [HZr14]; · iexact HZr14
      isplitl [HZr15]; · iexact HZr15
      iexact HZr16
    iexact HZB
  isplitl [HO]; · iexact HO
  isplitl [Hi0]; · iexact Hi0
  isplitl [Hi1]; · iexact Hi1
  isplitl [Hi2]; · iexact Hi2
  isplitl [Hi3]; · iexact Hi3
  isplitl [Hi4]; · iexact Hi4
  iexact Ho

set_option maxHeartbeats 1000000 in
/-- The body from what the launch gives a device to what it takes back. -/
theorem run_start (c : Dev nD) (f0 : (cc0_stg5_0 : Ref sig .tc).ty.Contents (Elt F)) (Kt : PUnit → sProp 𝕄) :
    iprop(Φ₀ A c ∗ (∃ W, owes (c : Thread nD τ) (O₀ c) W) ∗ inX A c ∗ inWq A c ∗ inK A c ∗ inV A c ∗ inWo A c ∗ outPts c f0 ∗ (after A c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Kt := by
  unfold Φ₀ start bufs lin
  iintro ⟨⟨⟨⟨%K, #HR, Hat, ⟨Ht0, Ht1, Ht2⟩, HS, HRa⟩, Hcr, HRc, #Hlev⟩, ⟨%f1, HM⟩, ⟨%g0, HB0⟩, ⟨%g1, HB1⟩⟩, HO, Hi0, Hi1, Hi2, Hi3, Hi4, Ho, Hk⟩
  ihave HB0 := (Entails.of_eq (recvPts_zero c g0).symm) $$ HB0
  ihave HB1 := (Entails.of_eq (recvPts_one c g1).symm) $$ HB1
  ihave HG := (recv_give c g0 g1) $$ [HB0 HB1]
  · isplitl [HB0]; · iexact HB0
    iexact HB1
  icases HG with ⟨Hg0, Hg1, Hg2⟩
  ihave HRT := (Entails.of_eq (rTicks c)) $$ [HRa HRc]
  · isplitl [HRa]; · iexact HRa
    iexact HRc
  ihave HRT := (Entails.of_eq (bigSep_P fun p : P => rTick p.1 p.2 c)) $$ HRT
  ihave HST := (Entails.of_eq (bigSep_P fun p : P => sTick p.1 p.2 c)) $$ HS
  icases HRT with ⟨HR00, HR01, HR02, HR03, HR04, HR05, HR06, HR10, HR11, HR12, HR13, HR14, HR15, HR16⟩
  icases HST with ⟨HS00, HS01, HS02, HS03, HS04, HS05, HS06, HS10, HS11, HS12, HS13, HS14, HS15, HS16⟩
  iapply (run_body A K c f0 f1 Kt)
  isplitr
  · unfold Ctx
    isplitr; · iexact HR
    iexact Hlev
  isplitl [Hat]; · iexact Hat
  isplitl [Ht0]; · iexact Ht0
  isplitl [Ht1]; · iexact Ht1
  isplitl [Ht2]; · iexact Ht2
  isplitl [Hg0]; · iexact Hg0
  isplitl [Hg1]; · iexact Hg1
  isplitl [Hg2]; · iexact Hg2
  isplitl [Hcr]; · iexact Hcr
  isplitl [HO]; · iexact HO
  isplitr [Hk]
  · isplitl [Hi0]; · iexact Hi0
    isplitl [Hi1]; · iexact Hi1
    isplitl [Hi2]; · iexact Hi2
    isplitl [Hi3]; · iexact Hi3
    isplitl [Hi4]; · iexact Hi4
    isplitl [Ho]; · iexact Ho
    isplitl [HM]; · iexact HM
    isplitl [HS00]; · iexact HS00
    isplitl [HS01]; · iexact HS01
    isplitl [HS02]; · iexact HS02
    isplitl [HS03]; · iexact HS03
    isplitl [HS04]; · iexact HS04
    isplitl [HS05]; · iexact HS05
    isplitl [HS06]; · iexact HS06
    isplitl [HS10]; · iexact HS10
    isplitl [HS11]; · iexact HS11
    isplitl [HS12]; · iexact HS12
    isplitl [HS13]; · iexact HS13
    isplitl [HS14]; · iexact HS14
    isplitl [HS15]; · iexact HS15
    isplitl [HS16]; · iexact HS16
    isplitl [HR00]; · iexact HR00
    isplitl [HR01]; · iexact HR01
    isplitl [HR02]; · iexact HR02
    isplitl [HR03]; · iexact HR03
    isplitl [HR04]; · iexact HR04
    isplitl [HR05]; · iexact HR05
    isplitl [HR06]; · iexact HR06
    isplitl [HR10]; · iexact HR10
    isplitl [HR11]; · iexact HR11
    isplitl [HR12]; · iexact HR12
    isplitl [HR13]; · iexact HR13
    isplitl [HR14]; · iexact HR14
    isplitl [HR15]; · iexact HR15
    iexact HR16
  iintro H
  iapply Hk
  iapply (run_after A c f0)
  iexact H

/-! ## The windows -/

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- Each device's blocks of the arguments, as the memory holds them. -/
def inp : Inp F where
  x c := (win0_0.blk (0 : Fin 1)).view.read (Elt F) (m ((c : Thread nD τ).loc main_arg0))
  wq c := (win0_1.blk (0 : Fin 1)).view.read (Elt F) (m ((c : Thread nD τ).loc main_arg1))
  k c := (win0_2.blk (0 : Fin 1)).view.read (Elt F) (m ((c : Thread nD τ).loc main_arg2))
  v c := (win0_3.blk (0 : Fin 1)).view.read (Elt F) (m ((c : Thread nD τ).loc main_arg3))
  wo c := (win0_4.blk (0 : Fin 1)).view.read (Elt F) (m ((c : Thread nD τ).loc main_arg4))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).k c
    | ⟨3, _⟩ => (inp m).v c
    | ⟨4, _⟩ => (inp m).wo c
    | ⟨5, _⟩ => outAt (inp m) c
  Φ t := match t with
    | ⟨0, _⟩ => Φ₀ (inp m) c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPost (c : Dev nD) : sProp 𝕄 :=
  iprop(Φ₁ c ∗ (dats m ρ 0 c).owesAt () t₀.succ
    ∗ stg c cc0_stg0_0 ((inp m).x c) ∗ stg c cc0_stg1_0 ((inp m).wq c) ∗ stg c cc0_stg2_0 ((inp m).k c) ∗ stg c cc0_stg3_0 ((inp m).v c)
    ∗ stg c cc0_stg4_0 ((inp m).wo c) ∗ stg c cc0_stg5_0 (outAt (inp m) c))
def bodyPre (c : Dev nD) : sProp 𝕄 :=
  iprop(Φ₀ (inp m) c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

theorem before_0 (c : Dev nD) (d) : (dats m ρ 0 c).before (0 : Fin 6) t₀ d = (inp m).x c := by
  unfold Dat.before; rw [if_pos (fetch0_0 t₀)]; rfl
theorem before_1 (c : Dev nD) (d) : (dats m ρ 0 c).before (1 : Fin 6) t₀ d = (inp m).wq c := by
  unfold Dat.before; rw [if_pos (fetch0_1 t₀)]; rfl
theorem before_2 (c : Dev nD) (d) : (dats m ρ 0 c).before (2 : Fin 6) t₀ d = (inp m).k c := by
  unfold Dat.before; rw [if_pos (fetch0_2 t₀)]; rfl
theorem before_3 (c : Dev nD) (d) : (dats m ρ 0 c).before (3 : Fin 6) t₀ d = (inp m).v c := by
  unfold Dat.before; rw [if_pos (fetch0_3 t₀)]; rfl
theorem before_4 (c : Dev nD) (d) : (dats m ρ 0 c).before (4 : Fin 6) t₀ d = (inp m).wo c := by
  unfold Dat.before; rw [if_pos (fetch0_4 t₀)]; rfl

omit [FloatOps F] in
/-- The body gives the windows back. -/
theorem after_post_aux (c : Dev nD) {b : Ref sig .tc} (X : b.ty.Contents (Elt F)) : (((c : Thread nD τ).loc b) ↦{fullShare} X : sProp 𝕄) ⊢ stg c b X := by
  iintro H
  iexists X; isplitr; · (ipureintro; rfl)
  iexact H

theorem after_post (c : Dev nD) : after (inp m) c ⊢ bodyPost m ρ c := by
  unfold after bodyPost ow Dat.owesAt Pipeline.owesWithin
  rw [show (dats m ρ 0 c).owed t₀.succ = 0 from rfl]
  iintro ⟨HΦ, ⟨%W, HO⟩, Hi0, Hi1, Hi2, Hi3, Hi4, Ho⟩
  isplitl [HΦ]; · iexact HΦ
  isplitl [HO]
  · iexists W
    isplitr; · ipureintro; exact fun _ _ => Or.inl trivial
    iexact HO
  isplitl [Hi0]; · iapply (after_post_aux c); iexact Hi0
  isplitl [Hi1]; · iapply (after_post_aux c); iexact Hi1
  isplitl [Hi2]; · iapply (after_post_aux c); iexact Hi2
  isplitl [Hi3]; · iapply (after_post_aux c); iexact Hi3
  isplitl [Hi4]; · iapply (after_post_aux c); iexact Hi4
  iapply (after_post_aux c); iexact Ho

set_option maxRecDepth 4000 in
theorem sound_body (c : Dev nD) :
    bodyPre m ρ c ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  unfold bodyPre Dat.owesAt Pipeline.owesWithin
  rw [show (dats m ρ 0 c).owed t₀.castSucc = O₀ c from rfl]
  iintro ⟨HΦ, ⟨%W, -, HO⟩, ⟨%d0, %g0, %e0, Hi0⟩, ⟨%d1, %g1, %e1, Hi1⟩, ⟨%d2, %g2, %e2, Hi2⟩, ⟨%d3, %g3, %e3, Hi3⟩, ⟨%d4, %g4, %e4, Hi4⟩, ⟨%d5, %g5, %e5, Ho⟩⟩
  rw [before_0] at e0
  rw [before_1] at e1
  rw [before_2] at e2
  rw [before_3] at e3
  rw [before_4] at e4
  subst e0 e1 e2 e3 e4
  iapply (run_start (inp m) c g5 (fun _ => bodyPost m ρ c))
  isplitl [HΦ]; · iexact HΦ
  isplitl [HO]; · iexists W; iexact HO
  isplitl [Hi0]; · iexact Hi0
  isplitl [Hi1]; · iexact Hi1
  isplitl [Hi2]; · iexact Hi2
  isplitl [Hi3]; · iexact Hi3
  isplitl [Hi4]; · iexact Hi4
  isplitl [Ho]; · iexact Ho
  iintro H
  iapply (after_post m ρ c); iexact H

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 10000 in
/-- The body obligation of the launch, on every device. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

end Cert.KProof
-- ==== Proof.Launch.lean ====
/-
# The launch

The ghost state of all devices is made at once, the cells' invariants are opened for all of them, and what each device
pays with is dealt to it. Every run ends with the arguments as they were, the result computed, every counter at zero.
-/
module

public import proofs.«01_k».proof.Proof.Obligation
public import Idealize.ShloMosaic.Lib.Pipeline.CollectiveSegs

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-! ## The kernel's own semaphores and cells -/

/-- The semaphores of the sends and of the receives. -/
abbrev osem : P ⊕ P → SemLoc sig := fun k => csem (.inr k)

theorem ownSemFacts : Pipeline.OwnSemFacts cfg0.spec osem := by decide +kernel

theorem sS_val (b : Fin 2) (i : Fin 7) : (sS b i).val = 6 + 7 * b.val + i.val := rfl
theorem rS_val (b : Fin 2) (i : Fin 7) : (rS b i).val = 20 + 7 * b.val + i.val := rfl

theorem csem_injective : Function.Injective csem := by
  rintro (⟨⟩ | ⟨b, i⟩ | ⟨b, i⟩) (⟨⟩ | ⟨b', i'⟩ | ⟨b', i'⟩) h
  · rfl
  · cases h
  · cases h
  · cases h
  · have h' : (sS b i).val = (sS b' i').val := congrArg Fin.val (SemLoc.dma.inj h)
    rw [sS_val, sS_val] at h'
    have e1 : b = b' := by apply Fin.ext; omega
    have e2 : i = i' := by apply Fin.ext; omega
    rw [e1, e2]
  · have h' : (sS b i).val = (rS b' i').val := congrArg Fin.val (SemLoc.dma.inj h)
    rw [sS_val, rS_val] at h'
    omega
  · cases h
  · have h' : (rS b i).val = (sS b' i').val := congrArg Fin.val (SemLoc.dma.inj h)
    rw [sS_val, rS_val] at h'
    omega
  · have h' : (rS b i).val = (rS b' i').val := congrArg Fin.val (SemLoc.dma.inj h)
    rw [rS_val, rS_val] at h'
    have e1 : b = b' := by apply Fin.ext; omega
    have e2 : i = i' := by apply Fin.ext; omega
    rw [e1, e2]

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- The duties of one device's cells: three at its barrier, one at each other. -/
abbrev TK := Fin 3 ⊕ (P ⊕ P)
abbrev tokOf (ck : Dev nD × TK) : GSem nD τ sig × ℕ × Fin 3 := match ck.2 with
  | .inl a => (barCell ck.1, 0, a)
  | .inr k => (kcell (ck.1, .inr k), 0, 0)
theorem tokOf_injective : Function.Injective (tokOf : Dev nD × TK → GSem nD τ sig × ℕ × Fin 3) := by
  rintro ⟨c, a | k⟩ ⟨c', a' | k'⟩ h
  · have h1 : c = c' := congrArg (fun x : GSem nD τ sig × ℕ × Fin 3 => x.1.1.1) h
    have h2 : a = a' := congrArg (fun x : GSem nD τ sig × ℕ × Fin 3 => x.2.2) h
    rw [h1, h2]
  · have h2 : csem (.inl ()) = csem (.inr k') := congrArg (fun x : GSem nD τ sig × ℕ × Fin 3 => x.1.2) h
    cases csem_injective h2
  · have h2 : csem (.inr k) = csem (.inl ()) := congrArg (fun x : GSem nD τ sig × ℕ × Fin 3 => x.1.2) h
    cases csem_injective h2
  · have h1 : c = c' := congrArg (fun x : GSem nD τ sig × ℕ × Fin 3 => x.1.1.1) h
    have h2 : csem (.inr k) = csem (.inr k') := congrArg (fun x : GSem nD τ sig × ℕ × Fin 3 => x.1.2) h
    have h3 : k = k' := Sum.inr.inj (csem_injective h2)
    rw [h1, h3]
def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

variable (A : Inp F)

/-- The duty tokens of device `c`'s own cells. -/
def toks (c : Dev nD) : sProp 𝕄 :=
  iprop((bigSep Finset.univ fun a : Fin 3 => dutyTok ER (barCell c) 0 a)
    ∗ (bigSep Finset.univ fun p : P => dutyTok ER (sCell p.1 p.2 c) 0 (0 : Fin 3)) ∗ bigSep Finset.univ fun p : P => dutyTok ER (rCell p.1 p.2 c) 0 (0 : Fin 3))
/-- What the launch deals a device first. -/
def G (c : Dev nD) : sProp 𝕄 :=
  iprop((bigSep Finset.univ fun k : CK => roundState ER (Rd A) (kcell (c, k)) 0)
    ∗ (bigSep Finset.univ fun k : CK => iprop(atPos ER (kcell (c, k)) 0 ∅ 0 ∗ reached ER (kcell (c, k)) 0)) ∗ toks c)
/-- What it holds after the common step. -/
def G' (c : Dev nD) : sProp 𝕄 := iprop(∃ K, records A K ∗ lin c)

omit [FloatOps F] in
theorem fund_all : BI.own (ER (initOf theCells theToks)) ⊢ (|==> bigSep Finset.univ (G A) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  iintro HX
  imod (Rounds.fund ER (Rd A) theCells theToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun p : P => semVal (sCell p.1 p.2 c) 0) ∗ bigSep Finset.univ fun p : P => semVal (rCell p.1 p.2 c) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem bigSep_CK (Φ : CK → sProp 𝕄) : bigSep Finset.univ Φ
    = iprop(Φ (.inl ()) ∗ (bigSep Finset.univ fun p : P => Φ (.inr (.inl p))) ∗ bigSep Finset.univ fun p : P => Φ (.inr (.inr p))) := by
  rw [bigSep_univ_sum, bigSep_univ_sum, bigSep_univ_of_subsingleton ()]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HR⟩, HB⟩
  isplitl [HB]; · iexact HB
  isplitl [HS]; · iexact HS
  iexact HR

omit [FloatOps F] in
theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd A) (kcell (c, k)) 0)
      ⊢ (|={Set.univ}=> bigSep Finset.univ fun k => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties a device pays. -/
def payToks (c : Dev nD) : sProp 𝕄 :=
  iprop((dutyTok ER (barCell (nb 0 c)) 0 0 ∗ dutyTok ER (barCell (nb 1 c)) 0 1 ∗ dutyTok ER (barCell (nb 2 c)) 0 2)
    ∗ (bigSep Finset.univ fun p : P => dutyTok ER (sCell p.1 p.2 c) 0 (0 : Fin 3))
    ∗ bigSep Finset.univ fun p : P => dutyTok ER (rCell p.1 (sg p.2) (nb (ax p.1 p.2) c)) 0 (0 : Fin 3))

omit [FloatOps F] in
/-- The receive tokens, dealt to the senders. -/
theorem recv_toks :
    (bigSep Finset.univ fun c : Dev nD => bigSep Finset.univ fun p : P => (dutyTok ER (rCell p.1 p.2 c) 0 (0 : Fin 3) : sProp 𝕄))
      = bigSep Finset.univ fun c : Dev nD => bigSep Finset.univ fun p : P => dutyTok ER (rCell p.1 (sg p.2) (nb (ax p.1 p.2) c)) 0 (0 : Fin 3) := by
  rw [Pipeline.bigSep_univ_comm, Pipeline.bigSep_univ_comm (fun (c : Dev nD) (p : P) => (dutyTok ER (rCell p.1 (sg p.2) (nb (ax p.1 p.2) c)) 0 (0 : Fin 3) : sProp 𝕄)),
    bigSep_univ_equiv (Equiv.prodCongr (Equiv.refl (Fin 2)) (⟨sg, sg, sg_sg, sg_sg⟩ : Fin 7 ≃ Fin 7))
      (fun p : P => bigSep Finset.univ fun c : Dev nD => (dutyTok ER (rCell p.1 p.2 c) 0 (0 : Fin 3) : sProp 𝕄))]
  refine bigSep_congr fun p _ => ?_
  rw [bigSep_univ_equiv (nbEquiv (ax p.1 p.2))]
  rfl

omit [FloatOps F] in
theorem bar_toks :
    (bigSep Finset.univ fun c : Dev nD => bigSep Finset.univ fun a : Fin 3 => (dutyTok ER (barCell c) 0 a : sProp 𝕄))
      = bigSep Finset.univ fun c : Dev nD => iprop(dutyTok ER (barCell (nb 0 c)) 0 0 ∗ dutyTok ER (barCell (nb 1 c)) 0 1 ∗ dutyTok ER (barCell (nb 2 c)) 0 2) := by
  have h (a : Fin 3) : (bigSep Finset.univ fun c : Dev nD => (dutyTok ER (barCell c) 0 a : sProp 𝕄))
      = bigSep Finset.univ fun c : Dev nD => dutyTok ER (barCell (nb a c)) 0 a := bigSep_univ_equiv (nbEquiv a) _
  rw [Pipeline.bigSep_univ_comm, bigSep_univ_eq_bigSepL [0, 1, 2] (by decide) (by decide), bigSep_sep', bigSep_sep', ← h 0, ← h 1, ← h 2]
  rfl

omit [FloatOps F] in
/-- Every token to the device that pays with it. -/
theorem toks_around : (bigSep Finset.univ fun c : Dev nD => (toks c : sProp 𝕄)) = bigSep Finset.univ fun c : Dev nD => payToks c := by
  unfold toks payToks
  rw [bigSep_sep', bigSep_sep', bar_toks, recv_toks, ← bigSep_sep', ← bigSep_sep']

omit [FloatOps F] in
/-- A device's places and the tokens it pays with. -/
theorem lin_intro (c : Dev nD) :
    (iprop((bigSep Finset.univ fun k : CK => atPos ER (kcell (c, k)) 0 ∅ 0) ∗ payToks c) : sProp 𝕄) ⊢ lin c := by
  unfold lin payToks sTick
  rw [bigSep_CK, bigSep_sep', bigSep_sep']
  iintro ⟨⟨HB, HS, HR⟩, Hb, Ht, Hr⟩
  isplitl [HB]; · iexact HB
  isplitl [Hb]; · iexact Hb
  isplitr [HR]
  · isplitl [HS]; · iexact HS
    isplitl [Ht]; · iexact Ht
    iexact Hr
  iexact HR

omit [FloatOps F] in
theorem ghost_intro (K : Dev nD × CK → ℕ) (c : Dev nD) : iprop(records A K ∗ lin c) ⊢ G' A c := by
  unfold G'
  iintro H
  iexists K; iexact H

omit [FloatOps F] in
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k : CK => iprop(∃ κ : ℕ, cellInv ER (Rd A) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' A) := by
  rw [bigSep_sep', bigSep_sep', ← bigSep_univ_prod (fun ck : Dev nD × CK => iprop(∃ κ : ℕ, cellInv ER (Rd A) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄)), toks_around]
  iintro ⟨HI, ⟨Hat, #HR⟩, Htok⟩
  ihave HK := (BI.bigSep_exists_pi Finset.univ (fun (ck : Dev nD × CK) (κ : ℕ) => (cellInv ER (Rd A) κ (kcell ck) : sProp 𝕄))) $$ HI
  icases HK with ⟨%K, #HI⟩
  iapply (with_persistent (R := records A K) fun c _ => ghost_intro A K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => lin_intro c))
    isplitl [Hat]; · iexact Hat
    iexact Htok

omit [FloatOps F] in
/-- The common step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credits -/

theorem cell_eq {c c' : Dev nD} {s s' : SemLoc sig} (h : (((c : Thread nD τ), s) : GSem nD τ sig) = ((c' : Thread nD τ), s')) : c = c' ∧ s = s' :=
  ⟨congrArg (fun g : GSem nD τ sig => g.1.1) h, congrArg Prod.snd h⟩
theorem rCell_eq_iff {b b' : Fin 2} {j j' : Fin 7} {c c' : Dev nD} : rCell b j c = rCell b' j' c' ↔ (b = b' ∧ j = j') ∧ c = c' := by
  constructor
  · intro h
    obtain ⟨h1, h2⟩ := cell_eq h
    have h3 : ((b, j) : P) = (b', j') := Sum.inr.inj (Sum.inr.inj (csem_injective (a₁ := .inr (.inr (b, j))) (a₂ := .inr (.inr (b', j'))) h2))
    exact ⟨⟨congrArg Prod.fst h3, congrArg Prod.snd h3⟩, h1⟩
  · rintro ⟨⟨rfl, rfl⟩, rfl⟩; rfl
theorem barCell_eq_iff {c c' : Dev nD} : barCell c = barCell c' ↔ c = c' := ⟨fun h => (cell_eq h).1, fun h => h ▸ rfl⟩
theorem bar_ne_r (b : Fin 2) (j : Fin 7) (c c' : Dev nD) : barCell c ≠ rCell b j c' := fun h => by cases (cell_eq h).2

/-- How many of the listed sends of device `d` land in slot `j` of buffer `b` of device `c`. -/
def hits (b : Fin 2) (j : Fin 7) (c d : Dev nD) (l : List P) : ℕ := (l.map fun bi => if (b = bi.1 ∧ j = sg bi.2) ∧ c = nb (ax bi.1 bi.2) d then 1 else 0).sum

theorem Osum_r (b : Fin 2) (j : Fin 7) (c d : Dev nD) (l : List P) : Osum d l (rCell b j c) () = hits b j c d l * N := by
  induction l with
  | nil => show 0 = 0 * N; rw [Nat.zero_mul]
  | cons bi l ih =>
    have e : hits b j c d (bi :: l) = (if (b = bi.1 ∧ j = sg bi.2) ∧ c = nb (ax bi.1 bi.2) d then 1 else 0) + hits b j c d l := rfl
    unfold Osum
    rw [Pi.add_apply, Finsupp.add_apply, ih, tallyAt_apply, e, Nat.add_mul, Nat.add_comm]
    congr 1
    by_cases h : (b = bi.1 ∧ j = sg bi.2) ∧ c = nb (ax bi.1 bi.2) d
    · rw [if_pos h, if_pos ⟨rCell_eq_iff.mpr h, rfl⟩, Nat.one_mul]
    · rw [if_neg h, if_neg (fun h' => h (rCell_eq_iff.mp h'.1)), Nat.zero_mul]

theorem Osum_bar (c d : Dev nD) (l : List P) : Osum d l (barCell c) () = 0 := by
  by_contra h
  obtain ⟨bi, -, e⟩ := Osum_pos (Nat.pos_of_ne_zero h)
  exact bar_ne_r _ _ _ _ e

set_option maxRecDepth 10000 in
/-- Every slot of every device is sent to once. -/
theorem hits_once (b : Fin 2) (j : Fin 7) (c : Dev nD) : ∑ d : Dev nD, hits b j c d sends = 1 := by
  revert b j c; decide +kernel

theorem owed_r (b : Fin 2) (j : Fin 7) (c d : Dev nD) : O₀ d (rCell b j c) () = hits b j c d sends * N := by
  have h (a : Fin 3) : tallyAt (barCell (nb a d)) () 1 (rCell b j c) = (0 : Unit →₀ ℕ) := tallyAt_ne_cell (fun h => bar_ne_r b j _ _ h.symm) () 1
  unfold O₀ O₂ O₁
  rw [Pi.add_apply, Finsupp.add_apply, Pi.add_apply, Finsupp.add_apply, Pi.add_apply, Finsupp.add_apply, h 0, h 1, h 2, Osum_r, Finsupp.zero_apply, Nat.add_zero, Nat.add_zero, Nat.add_zero]

theorem owed_bar (c d : Dev nD) : O₀ d (barCell c) () = (if c = nb 2 d then 1 else 0) + (if c = nb 1 d then 1 else 0) + (if c = nb 0 d then 1 else 0) := by
  have h (a : Fin 3) : tallyAt (barCell (nb a d)) () 1 (barCell c) () = if c = nb a d then 1 else 0 := by
    rw [tallyAt_apply]
    by_cases h : c = nb a d
    · rw [if_pos h, if_pos ⟨barCell_eq_iff.mpr h, rfl⟩]
    · rw [if_neg h, if_neg fun h' => h (barCell_eq_iff.mp h'.1)]
  unfold O₀ O₂ O₁
  rw [Pi.add_apply, Finsupp.add_apply, Pi.add_apply, Finsupp.add_apply, Pi.add_apply, Finsupp.add_apply, h 0, h 1, h 2, Osum_bar, Nat.zero_add]

theorem bar_three (c : Dev nD) :
    ∑ d : Dev nD, ((if c = nb 2 d then 1 else 0) + (if c = nb 1 d then 1 else 0) + (if c = nb 0 d then 1 else 0)) = 3 := by
  revert c; decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d, bar_three]

theorem launch_r (b : Fin 2) (j : Fin 7) (c : Dev nD) :
    tallyOn (rCell b j c) (launchCredit (Pipeline.owing O₀) 0 (rCell b j c)) = (tallyAt (rCell b j c) () N : CellTallies nD τ sig Unit) := by
  unfold tallyAt; refine congrArg _ (Finsupp.ext fun u => ?_); cases u
  rw [Pipeline.launchCredit_owing, Finsupp.single_eq_same, Finset.sum_congr rfl fun d _ => owed_r b j c d, ← Finset.sum_mul, hits_once, Nat.one_mul]

/-- The semaphores a device is credited at. -/
abbrev credSem : Unit ⊕ P → SemLoc sig := fun k => match k with | .inl _ => .reg barS | .inr p => .dma (rS p.1 p.2)
theorem credSem_injective : Function.Injective credSem := by
  have h : credSem = csem ∘ (Sum.map id .inr : Unit ⊕ P → CK) := by funext k; rcases k with _ | _ <;> rfl
  rw [h]
  exact csem_injective.comp (Sum.map_injective.mpr ⟨Function.injective_id, Sum.inr_injective⟩)

omit [FloatOps F] in
theorem creds (c : Dev nD) :
    (Pipeline.launchCred O₀ c : sProp 𝕄) ⊢ iprop(cred (tallyAt (barCell c) () 3) ∗ bigSep Finset.univ fun p : P => cred (tallyAt (rCell p.1 p.2 c) () N)) := by
  unfold Pipeline.launchCred
  have e : (bigSep (Finset.univ.map ⟨credSem, credSem_injective⟩) fun sm : SemLoc sig =>
        (cred (tallyOn ((c : Thread nD τ), sm) (launchCredit (Pipeline.owing O₀) 0 ((c : Thread nD τ), sm))) : sProp 𝕄))
      = iprop(cred (tallyAt (barCell c) () 3) ∗ bigSep Finset.univ fun p : P => cred (tallyAt (rCell p.1 p.2 c) () N)) := by
    rw [bigSep_map, bigSep_univ_sum, bigSep_univ_of_subsingleton (), ← launch_bar c]
    have h : (bigSep Finset.univ fun p : P => (cred (tallyAt (rCell p.1 p.2 c) () N) : sProp 𝕄))
        = bigSep Finset.univ fun p : P => cred (tallyOn (rCell p.1 p.2 c) (launchCredit (Pipeline.owing O₀) 0 (rCell p.1 p.2 c))) :=
      bigSep_congr fun p _ => by rw [launch_r]
    rw [h]
    rfl
  rw [← e]
  exact bigSep_subset (Finset.subset_univ _)

/-! ## The run -/

section Run
variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start (inp m) c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start (inp m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (inp m) c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs
  iintro ⟨Hr, HS, HR, HB⟩
  isplitl [HB]; · iexact HB
  isplitl [HS HR]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values, every fair execution on the eight devices ends, each
    device's arrays at what the body computes, every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_all (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array is left as it was. -/
theorem finalA_in (c : Dev nD) (w : Fin cfg0.W) (h : (cfg0.win w).isOut = false) : finalA m ρ c w = m ((cfg0.win w).arr.view.loc (c : Thread nD τ)) :=
  (dats (F := F) m ρ 0 c).arrAt_in w h _

/-- The arguments after a run. -/
theorem args_kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_in m ρ c (0 : Fin 6) rfl), (h c (1 : Fin 6)).trans (finalA_in m ρ c (1 : Fin 6) rfl),
    (h c (2 : Fin 6)).trans (finalA_in m ρ c (2 : Fin 6) rfl), (h c (3 : Fin 6)).trans (finalA_in m ρ c (3 : Fin 6) rfl),
    (h c (4 : Fin 6)).trans (finalA_in m ρ c (4 : Fin 6) rfl)⟩

end Run

/-- The whole run: every execution ends with the arguments as they were and every counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => args_kept m ρ r h.1 c, h.2⟩) (run_main m ρ)

end Cert.KProof
-- ==== Proof.SameText.lean ====
/- The kernel is printed twice, once for its run at the machine's floats and once for its reading at the extended reals. No
   operation was replaced between the two, so they are one text: what is proved of the second at any floats holds of the
   first. -/
module

public import proofs.«01_k».proof.Defs
public import proofs.«01_k».proof.Proof.Gen.Kernel
public import proofs.«01_k».proof.Proof.Gen.KernelIdeal

@[expose] public section

noncomputable section

namespace Cert.SameText

open Idealize.ShloMosaic

/-- The two kernel bodies are one program. -/
theorem body_eq : Cert.Kernel.cc0_body (F := Bits) = Cert.KernelIdeal.cc0_body (F := Bits) := by rfl

/-- Hence the two tables of kernel bodies are one. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun (congrFun (body_eq) _) _) _) _) _) _) _) _) _) _) _) _) _) _) _) _) _) _) _) _) _) _

/-- And the two tables with the kernel's launch in them. -/
theorem defs_eq : Cert.Kernel.defs (F := Bits) = Cert.KernelIdeal.defs (F := Bits) :=
  congrArg (Pipeline.defs Cert.Kernel.pcfgs) bodies_eq

end Cert.SameText
-- ==== Proof.Fold.lean ====
/-
# The kernel's values as one fold

The kernel keeps, per batch, a running maximum, a running sum and a running weighted sum of values, and updates the three once
per block of keys it holds. Here that update is written once, over the kernel's own vector operations, and every value the
kernel computes is shown to be the state of that fold after the blocks it has met so far.
-/
module

public import proofs.«01_k».proof.Proof.Start

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-- The block of 64 positions each entry of a plane of positions lies in, counted from the first block of device `w`. -/
def blockIx (w : BitVec 32) (io : IVec S128x128 32) : IVec S128x128 32 :=
  let one : BitVec 32 := Scalar.subi (Scalar.extui (Scalar.cmpi .sgt 64#32 0#32)) (Scalar.extui (Scalar.cmpi .slt 64#32 0#32))
  let q := divsi io (broadcast S128x128 64#32)
  let sg := subi (extui 32 (cmpi .sgt io (broadcast S128x128 0#32)) natLt_1_32)
    (extui 32 (cmpi .slt io (broadcast S128x128 0#32)) natLt_1_32)
  let r := cmpi .ne (remsi io (broadcast S128x128 64#32)) (broadcast S128x128 0#32)
  addi (broadcast S128x128 (Scalar.muli w 2#32))
    (select (andi (cmpi .ne sg (broadcast S128x128 one)) r) (subi q (broadcast S128x128 1#32)) q)

/-- Which keys of device `o` a query of device `w` may look at. -/
def maskOf (w o : BitVec 32) : IVec S128x128 1 :=
  let qb := blockIx w (iota .tc S128x128 32 [0] iota_S128x128_d0_w32)
  let kb := blockIx o (iota .tc S128x128 32 [1] iota_S128x128_d1_w32)
  ori (ori (cmpi .eq qb kb) (cmpi .eq kb (broadcast S128x128 0#32)))
    (cmpi .eq (remsi (addi qb kb) (broadcast S128x128 3#32)) (broadcast S128x128 0#32))

/-- The scores with those of the hidden keys replaced by the constant. -/
def masked (w o : BitVec 32) (s : FVec F S4x128x128 .f32) : FVec F S4x128x128 .f32 :=
  select (broadcastTo S4x128x128 (shapeCast S1x128x128 (shapeCast S1x128x128 (maskOf w o) shapeCasts_S128x128_S1x128x128)
    shapeCasts_S1x128x128_S1x128x128) broadcasts_S1x128x128_S4x128x128) s (broadcast S4x128x128 (Scalar.ofBits .f32 0xCE6E6B28#32))

/-- The queries of one batch. -/
def query (b : Fin 2) (q : FVec F S2x4x128x64 .f32) : FVec F S4x128x64 .f32 :=
  match b with
  | 0 => shapeCast S4x128x64 (extractStridedSlice S1x4x128x64 ![0, 0, 0, 0] q slices_S2x4x128x64_o0_0_0_0_S1x4x128x64) shapeCasts_S1x4x128x64_S4x128x64
  | 1 => shapeCast S4x128x64 (extractStridedSlice S1x4x128x64 ![1, 0, 0, 0] q slices_S2x4x128x64_o1_0_0_0_S1x4x128x64) shapeCasts_S1x4x128x64_S4x128x64

/-- The scaled products of the queries with a block of keys. -/
def rawOf (q : FVec F S4x128x64 .f32) (k : Vec F S1x1x4x128x64 .f32) : FVec F S4x128x128 .f32 :=
  mulf (matmul dot_S4x128x64_S4x128x64_S4x128x128_2_2_1_1_0_0 none q (shapeCast S4x128x64 k shapeCasts_S1x1x4x128x64_S4x128x64)
    (constant S4x128x128 .f32 0x00000000#32)) (broadcast S4x128x128 (Scalar.ofBits .f32 0x3E000000#32))

/-- The largest score of each row. -/
def rowMax (s : FVec F S4x128x128 .f32) : FVec F S4x128x1 .f32 :=
  shapeCast S4x128x1 (multiReduction .maximumf [2] S4x128 s 0xFF800000#32 reduces_S4x128x128_S4x128 (.inl rfl) rfl) shapeCasts_S4x128_S4x128x1

/-- The weights of a block against a maximum. -/
def wts (m : FVec F S4x128x1 .f32) (s : FVec F S4x128x128 .f32) : FVec F S4x128x128 .f32 :=
  exp (subf s (broadcastTo S4x128x128 m broadcasts_S4x128x1_S4x128x128))

/-- The sum of each row. -/
def rowSum (p : FVec F S4x128x128 .f32) : FVec F S4x128x1 .f32 :=
  shapeCast S4x128x1 (multiReduction .add [2] S4x128 p 0x00000000#32 reduces_S4x128x128_S4x128 (.inl rfl) rfl) shapeCasts_S4x128_S4x128x1

/-- The weighted sum of a block of values. -/
def wsum (p : FVec F S4x128x128 .f32) (v : Vec F S1x1x4x128x64 .f32) : FVec F S4x128x64 .f32 :=
  matmul dot_S4x128x128_S4x128x64_S4x128x64_2_1_1_2_0_0 none p (shapeCast S4x128x64 v shapeCasts_S1x1x4x128x64_S4x128x64)
    (constant S4x128x64 .f32 0x00000000#32)

/-- The three running values of a batch: the maximum, the sum of the weights, the weighted sum of the values. -/
structure Run (F : FTy → Type) [FloatOps F] where
  m : FVec F S4x128x1 .f32
  l : FVec F S4x128x1 .f32
  a : FVec F S4x128x64 .f32

/-- The running values after the first block. -/
def first (s : FVec F S4x128x128 .f32) (v : Vec F S1x1x4x128x64 .f32) : Run F :=
  ⟨rowMax s, rowSum (wts (rowMax s) s), wsum (wts (rowMax s) s) v⟩

/-- The running values after one more block. -/
def next (R : Run F) (s : FVec F S4x128x128 .f32) (v : Vec F S1x1x4x128x64 .f32) : Run F :=
  let m := maximumf R.m (rowMax s)
  let al := exp (subf R.m m)
  ⟨m, addf (mulf R.l al) (rowSum (wts m s)),
    addf (mulf R.a (broadcastTo S4x128x64 al broadcasts_S4x128x1_S4x128x64)) (wsum (wts m s) v)⟩

/-- What the kernel stores of a batch, from its running values. -/
def finish (l : FVec F S4x128x1 .f32) (a : FVec F S4x128x64 .f32) (wo : Vec F S256x512 .f32) : FVec F S1x128x512 .f32 :=
  let o := divf a (broadcastTo S4x128x64 l broadcasts_S4x128x1_S4x128x64)
  shapeCast S1x128x512 (matmul dot_S128x256_S256x512_S128x512_1_0_0_1_n_n none
    (concatenate S128x256 1
      [⟨S128x64, shapeCast S128x64 (extractStridedSlice S1x128x64 ![0, 0, 0] o slices_S4x128x64_o0_0_0_S1x128x64) shapeCasts_S1x128x64_S128x64⟩,
       ⟨S128x64, shapeCast S128x64 (extractStridedSlice S1x128x64 ![1, 0, 0] o slices_S4x128x64_o1_0_0_S1x128x64) shapeCasts_S1x128x64_S128x64⟩,
       ⟨S128x64, shapeCast S128x64 (extractStridedSlice S1x128x64 ![2, 0, 0] o slices_S4x128x64_o2_0_0_S1x128x64) shapeCasts_S1x128x64_S128x64⟩,
       ⟨S128x64, shapeCast S128x64 (extractStridedSlice S1x128x64 ![3, 0, 0] o slices_S4x128x64_o3_0_0_S1x128x64) shapeCasts_S1x128x64_S128x64⟩]
      concatenates_S128x64_S128x64_S128x64_S128x64_S128x256_d1)
    (shapeCast S256x512 wo shapeCasts_S256x512_S256x512) (constant S128x512 .f32 0x00000000#32)) shapeCasts_S128x512_S1x128x512

/-! ## The values of the kernel -/

set_option maxRecDepth 8000

namespace V

/-! ## Batch 0: the masked scores of each block, then the running values after it -/

/-- The masked scores of block 0 of batch 0. -/
def sc0_0 (A : Inp F) (c : Dev nD) : FVec F S4x128x128 .f32 := masked (V.v2 A c) (V.v2 A c) (rawOf (query 0 (V.v187 A c)) (V.v282 A c))
/-- The running values of batch 0 after its first block. -/
def run0_0 (A : Inp F) (c : Dev nD) : Run F := first (V.sc0_0 A c) (V.v365 A c)
/-- The masked scores of block 1 of batch 0. -/
def sc0_1 (A : Inp F) (c : Dev nD) : FVec F S4x128x128 .f32 := masked (V.v2 A c) (V.v17 A c) (rawOf (query 0 (V.v187 A c)) (V.v458 A c))
/-- The running values of batch 0 after block 1. -/
def run0_1 (A : Inp F) (c : Dev nD) : Run F := next (V.run0_0 A c) (V.sc0_1 A c) (V.v548 A c)
/-- The masked scores of block 2 of batch 0. -/
def sc0_2 (A : Inp F) (c : Dev nD) : FVec F S4x128x128 .f32 := masked (V.v2 A c) (V.v18 A c) (rawOf (query 0 (V.v187 A c)) (V.v650 A c))
/-- The running values of batch 0 after block 2. -/
def run0_2 (A : Inp F) (c : Dev nD) : Run F := next (V.run0_1 A c) (V.sc0_2 A c) (V.v740 A c)
/-- The masked scores of block 3 of batch 0. -/
def sc0_3 (A : Inp F) (c : Dev nD) : FVec F S4x128x128 .f32 := masked (V.v2 A c) (V.v20 A c) (rawOf (query 0 (V.v187 A c)) (V.v850 A c))
/-- The running values of batch 0 after block 3. -/
def run0_3 (A : Inp F) (c : Dev nD) : Run F := next (V.run0_2 A c) (V.sc0_3 A c) (V.v940 A c)
/-- The masked scores of block 4 of batch 0. -/
def sc0_4 (A : Inp F) (c : Dev nD) : FVec F S4x128x128 .f32 := masked (V.v2 A c) (V.v19 A c) (rawOf (query 0 (V.v187 A c)) (V.v1068 A c))
/-- The running values of batch 0 after block 4. -/
def run0_4 (A : Inp F) (c : Dev nD) : Run F := next (V.run0_3 A c) (V.sc0_4 A c) (V.v1158 A c)
/-- The masked scores of block 5 of batch 0. -/
def sc0_5 (A : Inp F) (c : Dev nD) : FVec F S4x128x128 .f32 := masked (V.v2 A c) (V.v21 A c) (rawOf (query 0 (V.v187 A c)) (V.v1286 A c))
/-- The running values of batch 0 after block 5. -/
def run0_5 (A : Inp F) (c : Dev nD) : Run F := next (V.run0_4 A c) (V.sc0_5 A c) (V.v1376 A c)
/-- The masked scores of block 6 of batch 0. -/
def sc0_6 (A : Inp F) (c : Dev nD) : FVec F S4x128x128 .f32 := masked (V.v2 A c) (V.v22 A c) (rawOf (query 0 (V.v187 A c)) (V.v1494 A c))
/-- The running values of batch 0 after block 6. -/
def run0_6 (A : Inp F) (c : Dev nD) : Run F := next (V.run0_5 A c) (V.sc0_6 A c) (V.v1584 A c)
/-- The masked scores of block 7 of batch 0. -/
def sc0_7 (A : Inp F) (c : Dev nD) : FVec F S4x128x128 .f32 := masked (V.v2 A c) (V.v23 A c) (rawOf (query 0 (V.v187 A c)) (V.v1702 A c))
/-- The running values of batch 0 after block 7. -/
def run0_7 (A : Inp F) (c : Dev nD) : Run F := next (V.run0_6 A c) (V.sc0_7 A c) (V.v1792 A c)

theorem raw0_0 (A : Inp F) (c : Dev nD) : V.v286 A c = rawOf (query 0 (V.v187 A c)) (V.v282 A c) := rfl
theorem raw0_1 (A : Inp F) (c : Dev nD) : V.v462 A c = rawOf (query 0 (V.v187 A c)) (V.v458 A c) := rfl
theorem raw0_2 (A : Inp F) (c : Dev nD) : V.v654 A c = rawOf (query 0 (V.v187 A c)) (V.v650 A c) := rfl
theorem raw0_3 (A : Inp F) (c : Dev nD) : V.v854 A c = rawOf (query 0 (V.v187 A c)) (V.v850 A c) := rfl
theorem raw0_4 (A : Inp F) (c : Dev nD) : V.v1072 A c = rawOf (query 0 (V.v187 A c)) (V.v1068 A c) := rfl
theorem raw0_5 (A : Inp F) (c : Dev nD) : V.v1290 A c = rawOf (query 0 (V.v187 A c)) (V.v1286 A c) := rfl
theorem raw0_6 (A : Inp F) (c : Dev nD) : V.v1498 A c = rawOf (query 0 (V.v187 A c)) (V.v1494 A c) := rfl
theorem raw0_7 (A : Inp F) (c : Dev nD) : V.v1706 A c = rawOf (query 0 (V.v187 A c)) (V.v1702 A c) := rfl

/-! ## Batch 1: the masked scores of each block, then the running values after it -/

/-- The masked scores of block 0 of batch 1. -/
def sc1_0 (A : Inp F) (c : Dev nD) : FVec F S4x128x128 .f32 := masked (V.v2 A c) (V.v2 A c) (rawOf (query 1 (V.v187 A c)) (V.v370 A c))
/-- The running values of batch 1 after its first block. -/
def run1_0 (A : Inp F) (c : Dev nD) : Run F := first (V.sc1_0 A c) (V.v453 A c)
/-- The masked scores of block 1 of batch 1. -/
def sc1_1 (A : Inp F) (c : Dev nD) : FVec F S4x128x128 .f32 := masked (V.v2 A c) (V.v20 A c) (rawOf (query 1 (V.v187 A c)) (V.v554 A c))
/-- The running values of batch 1 after block 1. -/
def run1_1 (A : Inp F) (c : Dev nD) : Run F := next (V.run1_0 A c) (V.sc1_1 A c) (V.v644 A c)
/-- The masked scores of block 2 of batch 1. -/
def sc1_2 (A : Inp F) (c : Dev nD) : FVec F S4x128x128 .f32 := masked (V.v2 A c) (V.v18 A c) (rawOf (query 1 (V.v187 A c)) (V.v746 A c))
/-- The running values of batch 1 after block 2. -/
def run1_2 (A : Inp F) (c : Dev nD) : Run F := next (V.run1_1 A c) (V.sc1_2 A c) (V.v836 A c)
/-- The masked scores of block 3 of batch 1. -/
def sc1_3 (A : Inp F) (c : Dev nD) : FVec F S4x128x128 .f32 := masked (V.v2 A c) (V.v17 A c) (rawOf (query 1 (V.v187 A c)) (V.v954 A c))
/-- The running values of batch 1 after block 3. -/
def run1_3 (A : Inp F) (c : Dev nD) : Run F := next (V.run1_2 A c) (V.sc1_3 A c) (V.v1044 A c)
/-- The masked scores of block 4 of batch 1. -/
def sc1_4 (A : Inp F) (c : Dev nD) : FVec F S4x128x128 .f32 := masked (V.v2 A c) (V.v22 A c) (rawOf (query 1 (V.v187 A c)) (V.v1182 A c))
/-- The running values of batch 1 after block 4. -/
def run1_4 (A : Inp F) (c : Dev nD) : Run F := next (V.run1_3 A c) (V.sc1_4 A c) (V.v1272 A c)
/-- The masked scores of block 5 of batch 1. -/
def sc1_5 (A : Inp F) (c : Dev nD) : FVec F S4x128x128 .f32 := masked (V.v2 A c) (V.v21 A c) (rawOf (query 1 (V.v187 A c)) (V.v1390 A c))
/-- The running values of batch 1 after block 5. -/
def run1_5 (A : Inp F) (c : Dev nD) : Run F := next (V.run1_4 A c) (V.sc1_5 A c) (V.v1480 A c)
/-- The masked scores of block 6 of batch 1. -/
def sc1_6 (A : Inp F) (c : Dev nD) : FVec F S4x128x128 .f32 := masked (V.v2 A c) (V.v19 A c) (rawOf (query 1 (V.v187 A c)) (V.v1598 A c))
/-- The running values of batch 1 after block 6. -/
def run1_6 (A : Inp F) (c : Dev nD) : Run F := next (V.run1_5 A c) (V.sc1_6 A c) (V.v1688 A c)
/-- The masked scores of block 7 of batch 1. -/
def sc1_7 (A : Inp F) (c : Dev nD) : FVec F S4x128x128 .f32 := masked (V.v2 A c) (V.v23 A c) (rawOf (query 1 (V.v187 A c)) (V.v1806 A c))
/-- The running values of batch 1 after block 7. -/
def run1_7 (A : Inp F) (c : Dev nD) : Run F := next (V.run1_6 A c) (V.sc1_7 A c) (V.v1896 A c)

theorem raw1_0 (A : Inp F) (c : Dev nD) : V.v374 A c = rawOf (query 1 (V.v187 A c)) (V.v370 A c) := rfl
theorem raw1_1 (A : Inp F) (c : Dev nD) : V.v558 A c = rawOf (query 1 (V.v187 A c)) (V.v554 A c) := rfl
theorem raw1_2 (A : Inp F) (c : Dev nD) : V.v750 A c = rawOf (query 1 (V.v187 A c)) (V.v746 A c) := rfl
theorem raw1_3 (A : Inp F) (c : Dev nD) : V.v958 A c = rawOf (query 1 (V.v187 A c)) (V.v954 A c) := rfl
theorem raw1_4 (A : Inp F) (c : Dev nD) : V.v1186 A c = rawOf (query 1 (V.v187 A c)) (V.v1182 A c) := rfl
theorem raw1_5 (A : Inp F) (c : Dev nD) : V.v1394 A c = rawOf (query 1 (V.v187 A c)) (V.v1390 A c) := rfl
theorem raw1_6 (A : Inp F) (c : Dev nD) : V.v1602 A c = rawOf (query 1 (V.v187 A c)) (V.v1598 A c) := rfl
theorem raw1_7 (A : Inp F) (c : Dev nD) : V.v1810 A c = rawOf (query 1 (V.v187 A c)) (V.v1806 A c) := rfl

theorem is0_0 (A : Inp F) (c : Dev nD) : (⟨V.v359 A c, V.v364 A c, V.v367 A c⟩ : Run F) = V.run0_0 A c := rfl
theorem step0_1 (A : Inp F) (c : Dev nD) : (⟨V.v536 A c, V.v545 A c, V.v551 A c⟩ : Run F) = next (⟨V.v359 A c, V.v364 A c, V.v367 A c⟩ : Run F) (V.sc0_1 A c) (V.v548 A c) := by
  unfold V.v536 V.v545 V.v551 V.v539 V.v541
  generalize V.v359 A c = m
  generalize V.v364 A c = l
  generalize V.v367 A c = a
  rfl
theorem is0_1 (A : Inp F) (c : Dev nD) : (⟨V.v536 A c, V.v545 A c, V.v551 A c⟩ : Run F) = V.run0_1 A c :=
  (V.step0_1 A c).trans (congrArg (fun R => next R (V.sc0_1 A c) (V.v548 A c)) (V.is0_0 A c))
theorem step0_2 (A : Inp F) (c : Dev nD) : (⟨V.v728 A c, V.v737 A c, V.v743 A c⟩ : Run F) = next (⟨V.v536 A c, V.v545 A c, V.v551 A c⟩ : Run F) (V.sc0_2 A c) (V.v740 A c) := rfl
theorem is0_2 (A : Inp F) (c : Dev nD) : (⟨V.v728 A c, V.v737 A c, V.v743 A c⟩ : Run F) = V.run0_2 A c :=
  (V.step0_2 A c).trans (congrArg (fun R => next R (V.sc0_2 A c) (V.v740 A c)) (V.is0_1 A c))
theorem step0_3 (A : Inp F) (c : Dev nD) : (⟨V.v928 A c, V.v937 A c, V.v943 A c⟩ : Run F) = next (⟨V.v728 A c, V.v737 A c, V.v743 A c⟩ : Run F) (V.sc0_3 A c) (V.v940 A c) := rfl
theorem is0_3 (A : Inp F) (c : Dev nD) : (⟨V.v928 A c, V.v937 A c, V.v943 A c⟩ : Run F) = V.run0_3 A c :=
  (V.step0_3 A c).trans (congrArg (fun R => next R (V.sc0_3 A c) (V.v940 A c)) (V.is0_2 A c))
theorem step0_4 (A : Inp F) (c : Dev nD) : (⟨V.v1146 A c, V.v1155 A c, V.v1161 A c⟩ : Run F) = next (⟨V.v928 A c, V.v937 A c, V.v943 A c⟩ : Run F) (V.sc0_4 A c) (V.v1158 A c) := rfl
theorem is0_4 (A : Inp F) (c : Dev nD) : (⟨V.v1146 A c, V.v1155 A c, V.v1161 A c⟩ : Run F) = V.run0_4 A c :=
  (V.step0_4 A c).trans (congrArg (fun R => next R (V.sc0_4 A c) (V.v1158 A c)) (V.is0_3 A c))
theorem step0_5 (A : Inp F) (c : Dev nD) : (⟨V.v1364 A c, V.v1373 A c, V.v1379 A c⟩ : Run F) = next (⟨V.v1146 A c, V.v1155 A c, V.v1161 A c⟩ : Run F) (V.sc0_5 A c) (V.v1376 A c) := rfl
theorem is0_5 (A : Inp F) (c : Dev nD) : (⟨V.v1364 A c, V.v1373 A c, V.v1379 A c⟩ : Run F) = V.run0_5 A c :=
  (V.step0_5 A c).trans (congrArg (fun R => next R (V.sc0_5 A c) (V.v1376 A c)) (V.is0_4 A c))
theorem step0_6 (A : Inp F) (c : Dev nD) : (⟨V.v1572 A c, V.v1581 A c, V.v1587 A c⟩ : Run F) = next (⟨V.v1364 A c, V.v1373 A c, V.v1379 A c⟩ : Run F) (V.sc0_6 A c) (V.v1584 A c) := rfl
theorem is0_6 (A : Inp F) (c : Dev nD) : (⟨V.v1572 A c, V.v1581 A c, V.v1587 A c⟩ : Run F) = V.run0_6 A c :=
  (V.step0_6 A c).trans (congrArg (fun R => next R (V.sc0_6 A c) (V.v1584 A c)) (V.is0_5 A c))

theorem is1_0 (A : Inp F) (c : Dev nD) : (⟨V.v447 A c, V.v452 A c, V.v455 A c⟩ : Run F) = V.run1_0 A c := rfl
theorem step1_1 (A : Inp F) (c : Dev nD) : (⟨V.v632 A c, V.v641 A c, V.v647 A c⟩ : Run F) = next (⟨V.v447 A c, V.v452 A c, V.v455 A c⟩ : Run F) (V.sc1_1 A c) (V.v644 A c) := by
  unfold V.v632 V.v641 V.v647
  generalize V.v447 A c = m
  generalize V.v452 A c = l
  generalize V.v455 A c = a
  rfl
theorem is1_1 (A : Inp F) (c : Dev nD) : (⟨V.v632 A c, V.v641 A c, V.v647 A c⟩ : Run F) = V.run1_1 A c :=
  (V.step1_1 A c).trans (congrArg (fun R => next R (V.sc1_1 A c) (V.v644 A c)) (V.is1_0 A c))
theorem step1_2 (A : Inp F) (c : Dev nD) : (⟨V.v824 A c, V.v833 A c, V.v839 A c⟩ : Run F) = next (⟨V.v632 A c, V.v641 A c, V.v647 A c⟩ : Run F) (V.sc1_2 A c) (V.v836 A c) := rfl
theorem is1_2 (A : Inp F) (c : Dev nD) : (⟨V.v824 A c, V.v833 A c, V.v839 A c⟩ : Run F) = V.run1_2 A c :=
  (V.step1_2 A c).trans (congrArg (fun R => next R (V.sc1_2 A c) (V.v836 A c)) (V.is1_1 A c))
theorem step1_3 (A : Inp F) (c : Dev nD) : (⟨V.v1032 A c, V.v1041 A c, V.v1047 A c⟩ : Run F) = next (⟨V.v824 A c, V.v833 A c, V.v839 A c⟩ : Run F) (V.sc1_3 A c) (V.v1044 A c) := rfl
theorem is1_3 (A : Inp F) (c : Dev nD) : (⟨V.v1032 A c, V.v1041 A c, V.v1047 A c⟩ : Run F) = V.run1_3 A c :=
  (V.step1_3 A c).trans (congrArg (fun R => next R (V.sc1_3 A c) (V.v1044 A c)) (V.is1_2 A c))
theorem step1_4 (A : Inp F) (c : Dev nD) : (⟨V.v1260 A c, V.v1269 A c, V.v1275 A c⟩ : Run F) = next (⟨V.v1032 A c, V.v1041 A c, V.v1047 A c⟩ : Run F) (V.sc1_4 A c) (V.v1272 A c) := rfl
theorem is1_4 (A : Inp F) (c : Dev nD) : (⟨V.v1260 A c, V.v1269 A c, V.v1275 A c⟩ : Run F) = V.run1_4 A c :=
  (V.step1_4 A c).trans (congrArg (fun R => next R (V.sc1_4 A c) (V.v1272 A c)) (V.is1_3 A c))
theorem step1_5 (A : Inp F) (c : Dev nD) : (⟨V.v1468 A c, V.v1477 A c, V.v1483 A c⟩ : Run F) = next (⟨V.v1260 A c, V.v1269 A c, V.v1275 A c⟩ : Run F) (V.sc1_5 A c) (V.v1480 A c) := rfl
theorem is1_5 (A : Inp F) (c : Dev nD) : (⟨V.v1468 A c, V.v1477 A c, V.v1483 A c⟩ : Run F) = V.run1_5 A c :=
  (V.step1_5 A c).trans (congrArg (fun R => next R (V.sc1_5 A c) (V.v1480 A c)) (V.is1_4 A c))
theorem step1_6 (A : Inp F) (c : Dev nD) : (⟨V.v1676 A c, V.v1685 A c, V.v1691 A c⟩ : Run F) = next (⟨V.v1468 A c, V.v1477 A c, V.v1483 A c⟩ : Run F) (V.sc1_6 A c) (V.v1688 A c) := rfl
theorem is1_6 (A : Inp F) (c : Dev nD) : (⟨V.v1676 A c, V.v1685 A c, V.v1691 A c⟩ : Run F) = V.run1_6 A c :=
  (V.step1_6 A c).trans (congrArg (fun R => next R (V.sc1_6 A c) (V.v1688 A c)) (V.is1_5 A c))

theorem step0_7_l (A : Inp F) (c : Dev nD) : V.v1789 A c = (next (⟨V.v1572 A c, V.v1581 A c, V.v1587 A c⟩ : Run F) (V.sc0_7 A c) (V.v1792 A c)).l := rfl
theorem step0_7_a (A : Inp F) (c : Dev nD) : V.v1795 A c = (next (⟨V.v1572 A c, V.v1581 A c, V.v1587 A c⟩ : Run F) (V.sc0_7 A c) (V.v1792 A c)).a := rfl
theorem step1_7 (A : Inp F) (c : Dev nD) : k0_pay189 (V.v1928 A c) =
    finish (next (⟨V.v1676 A c, V.v1685 A c, V.v1691 A c⟩ : Run F) (V.sc1_7 A c) (V.v1896 A c)).l (next (⟨V.v1676 A c, V.v1685 A c, V.v1691 A c⟩ : Run F) (V.sc1_7 A c) (V.v1896 A c)).a (V.v1900 A c) := rfl

/-- What the kernel stores of batch 0 is what is made of the running values after all eight blocks. -/
theorem out0 (A : Inp F) (c : Dev nD) : k0_pay187 (V.v1789 A c) (V.v1795 A c) (V.v1900 A c) =
    finish (V.run0_7 A c).l (V.run0_7 A c).a (V.v1900 A c) := by
  rw [V.step0_7_l, V.step0_7_a, V.is0_6]
  rfl

/-- What the kernel stores of batch 1 is what is made of the running values after all eight blocks. -/
theorem out1 (A : Inp F) (c : Dev nD) : k0_pay189 (V.v1928 A c) =
    finish (V.run1_7 A c).l (V.run1_7 A c).a (V.v1900 A c) := by
  rw [V.step1_7, V.is1_6]
  rfl

end V

end Cert.KProof
-- ==== Proof.Online.lean ====
/-
# A softmax taken block by block

The running maximum, the running sum of the exponentials and the running weighted sum of the values, over the extended reals.
The scores are real numbers, the values may be infinite. After all blocks, the weighted sum divided by the sum is the softmax's
average of the values, whatever the running maximum was.
-/
module

public import Idealize.ShloMosaic.Lib.Pointwise

@[expose] public section

noncomputable section

namespace Cert.Online

open Idealize.ShloMosaic

/-! ## The constants -/

theorem neg_inf : Ideal.ofBits .f32 0xFF800000#32 = (⊥ : EReal) := by
  simp [Ideal.ofBits, Ideal.ieee]

theorem scale_real : ∃ r : ℝ, Ideal.ofBits .f32 0x3E000000#32 = (r : EReal) := by
  simp [Ideal.ofBits, Ideal.ieee, -EReal.coe_mul]

theorem fill_real : ∃ r : ℝ, Ideal.ofBits .f32 0xCE6E6B28#32 = (r : EReal) := by
  simp [Ideal.ofBits, Ideal.ieee, -EReal.coe_mul]
  exact ⟨-(15625000 * 2 ^ 6), by push_cast; rfl⟩

theorem pos_inf : Ideal.ofBits .f32 0x7F800000#32 = (⊤ : EReal) := by
  simp [Ideal.ofBits, Ideal.ieee]

/-- What compares as of less than infinite size is a real number. -/
theorem real_of_lt {x y : EReal} (hy : y = ⊤) (h : Ideal.cmp .olt (max x (-x)) y = 1#1) : ∃ r : ℝ, x = (r : EReal) := by
  subst hy
  have hlt : max x (-x) < ⊤ := by
    by_contra hn
    simp [Ideal.cmp, hn] at h
  induction x with
  | bot => simp at hlt
  | coe r => exact ⟨r, rfl⟩
  | top => simp at hlt

variable {ι κ δ : Type} [Fintype ι] [DecidableEq ι] [Fintype κ]

/-- A nonnegative real factor goes into a sum. -/
theorem sum_mul_coe {α : Type} (D : Finset α) (f : α → EReal) (c : ℝ) (hc : 0 ≤ c) :
    (∑ j ∈ D, f j) * (c : EReal) = ∑ j ∈ D, f j * (c : EReal) := by
  classical
  induction D using Finset.induction_on with
  | empty => simp
  | insert a D ha ih =>
    rw [Finset.sum_insert ha, Finset.sum_insert ha, ← ih]
    exact EReal.right_distrib_of_nonneg_of_ne_top (by exact_mod_cast hc) (EReal.coe_ne_top c) _ _

theorem exp_coe (x : ℝ) : Ideal.exp (x : EReal) = ((Real.exp x : ℝ) : EReal) := rfl

theorem exp_sub (x y : ℝ) : Ideal.exp ((x : EReal) - (y : EReal)) = ((Real.exp (x - y) : ℝ) : EReal) := by
  rw [← EReal.coe_sub]; rfl

/-- The largest of finitely many reals is one of them. -/
theorem sup_real [Nonempty κ] (s : κ → ℝ) : ∃ μ : ℝ, (Finset.univ.sup fun j => (s j : EReal)) = (μ : EReal) := by
  obtain ⟨j, -, h⟩ := Finset.exists_mem_eq_sup (Finset.univ : Finset κ) Finset.univ_nonempty fun j => (s j : EReal)
  exact ⟨s j, h⟩

/-- The larger of two reals is a real. -/
theorem max_real (a b : ℝ) : ∃ μ : ℝ, max (a : EReal) (b : EReal) = (μ : EReal) := ⟨max a b, by norm_cast⟩

/-- What the three running values are after the blocks of `D`. -/
def Holds (s : ι → κ → ℝ) (v : ι → κ → δ → EReal) (D : Finset ι) (m l : EReal) (a : δ → EReal) : Prop :=
  ∃ μ : ℝ, m = (μ : EReal) ∧ l = ∑ o ∈ D, ∑ j, ((Real.exp (s o j - μ) : ℝ) : EReal)
    ∧ ∀ d, a d = ∑ o ∈ D, ∑ j, ((Real.exp (s o j - μ) : ℝ) : EReal) * v o j d

variable {s : ι → κ → ℝ} {v : ι → κ → δ → EReal}

/-- After the first block. -/
theorem holds_first (o : ι) (μ : ℝ) {m l : EReal} {a : δ → EReal} (hm : m = (μ : EReal))
    (hl : l = ∑ j, Ideal.exp ((s o j : EReal) - m))
    (ha : ∀ d, a d = ∑ j, Ideal.exp ((s o j : EReal) - m) * v o j d) : Holds s v {o} m l a := by
  refine ⟨μ, hm, ?_, fun d => ?_⟩
  · rw [hl, hm, Finset.sum_singleton]
    exact Finset.sum_congr rfl fun j _ => exp_sub _ _
  · rw [ha, hm, Finset.sum_singleton]
    exact Finset.sum_congr rfl fun j _ => by rw [exp_sub]

theorem rescale (x μ μ' : ℝ) : ((Real.exp (x - μ) : ℝ) : EReal) * ((Real.exp (μ - μ') : ℝ) : EReal) = ((Real.exp (x - μ') : ℝ) : EReal) := by
  rw [← EReal.coe_mul, ← Real.exp_add, sub_add_sub_cancel]

/-- After one more block. -/
theorem holds_next {D : Finset ι} {m l : EReal} {a : δ → EReal} (h : Holds s v D m l a) (o : ι) (ho : o ∉ D)
    {m' l' : EReal} {a' : δ → EReal} (hm : ∀ μ : ℝ, m = (μ : EReal) → ∃ μ' : ℝ, m' = (μ' : EReal))
    (hl : l' = l * Ideal.exp (m - m') + ∑ j, Ideal.exp ((s o j : EReal) - m'))
    (ha : ∀ d, a' d = a d * Ideal.exp (m - m') + ∑ j, Ideal.exp ((s o j : EReal) - m') * v o j d) :
    Holds s v (insert o D) m' l' a' := by
  obtain ⟨μ, hμ, h1, h2⟩ := h
  obtain ⟨μ', hμ'⟩ := hm μ hμ
  refine ⟨μ', hμ', ?_, fun d => ?_⟩
  · rw [hl, hμ', hμ, h1, exp_sub, Finset.sum_insert ho, add_comm, sum_mul_coe _ _ _ (Real.exp_pos _).le]
    congr 1
    refine Finset.sum_congr rfl fun o _ => ?_
    rw [sum_mul_coe _ _ _ (Real.exp_pos _).le]
    exact Finset.sum_congr rfl fun j _ => rescale _ _ _
  · rw [ha, hμ', hμ, h2, exp_sub, Finset.sum_insert ho, add_comm, sum_mul_coe _ _ _ (Real.exp_pos _).le]
    congr 1
    refine Finset.sum_congr rfl fun o _ => ?_
    rw [sum_mul_coe _ _ _ (Real.exp_pos _).le]
    exact Finset.sum_congr rfl fun j _ => by rw [mul_right_comm, rescale]

/-- A sum of reals is a real. -/
theorem coe_sum {α : Type} (D : Finset α) (f : α → ℝ) : ((∑ j ∈ D, f j : ℝ) : EReal) = ∑ j ∈ D, (f j : EReal) := by
  classical
  induction D using Finset.induction_on with
  | empty => simp
  | insert a D ha ih => rw [Finset.sum_insert ha, Finset.sum_insert ha, ← ih, EReal.coe_add]

/-- The sum of the exponentials, as a real. -/
theorem sum_coe (s : ι → κ → ℝ) (μ : ℝ) : (∑ o, ∑ j, ((Real.exp (s o j - μ) : ℝ) : EReal)) = ((∑ o, ∑ j, Real.exp (s o j - μ) : ℝ) : EReal) := by
  simp only [coe_sum]

theorem div_coe (x : EReal) (y : ℝ) (hy : 0 < y) : Ideal.div x (y : EReal) = x * ((y⁻¹ : ℝ) : EReal) := by
  unfold Ideal.div
  rw [if_neg (by exact_mod_cast hy.ne'), EReal.coe_inv]

/-- The weight of a key. -/
def weight (s : ι → κ → ℝ) (o : ι) (j : κ) : ℝ := Real.exp (s o j) / ∑ o, ∑ j, Real.exp (s o j)

theorem weight_eq [Nonempty ι] [Nonempty κ] (s : ι → κ → ℝ) (μ : ℝ) (o : ι) (j : κ) :
    Real.exp (s o j - μ) * (∑ o, ∑ j, Real.exp (s o j - μ))⁻¹ = weight s o j := by
  have h : (∑ o, ∑ j, Real.exp (s o j - μ)) = (∑ o, ∑ j, Real.exp (s o j)) * Real.exp (-μ) := by
    simp only [Finset.sum_mul, sub_eq_add_neg, Real.exp_add]
  rw [h, sub_eq_add_neg, Real.exp_add, weight, ← div_eq_mul_inv, mul_div_mul_right _ _ (Real.exp_pos _).ne']

theorem total_pos [Nonempty ι] [Nonempty κ] (s : ι → κ → ℝ) (μ : ℝ) : 0 < ∑ o, ∑ j, Real.exp (s o j - μ) :=
  Finset.sum_pos (fun _ _ => Finset.sum_pos (fun _ _ => Real.exp_pos _) Finset.univ_nonempty) Finset.univ_nonempty

/-- After all blocks, the weighted sum over the sum is the average of the values under the softmax's weights. -/
theorem holds_all [Nonempty ι] [Nonempty κ] {m l : EReal} {a : δ → EReal} (h : Holds s v Finset.univ m l a) (d : δ) :
    Ideal.div (a d) l = ∑ o, ∑ j, (weight s o j : EReal) * v o j d := by
  obtain ⟨μ, -, hl, ha⟩ := h
  have hp := total_pos s μ
  rw [hl, ha, sum_coe, div_coe _ _ hp, sum_mul_coe _ _ _ (inv_nonneg.2 hp.le)]
  refine Finset.sum_congr rfl fun o _ => ?_
  rw [sum_mul_coe _ _ _ (inv_nonneg.2 hp.le)]
  refine Finset.sum_congr rfl fun j _ => ?_
  rw [mul_right_comm, ← EReal.coe_mul, weight_eq]

/-- The softmax's weight from any maximum. -/
theorem weight_from [Nonempty ι] [Nonempty κ] (s : ι → κ → ℝ) (μ : ℝ) (o : ι) (j : κ) :
    Ideal.div (Ideal.exp ((s o j : EReal) - (μ : EReal))) (∑ o, ∑ j, Ideal.exp ((s o j : EReal) - (μ : EReal))) = (weight s o j : EReal) := by
  simp only [exp_sub]
  rw [sum_coe, div_coe _ _ (total_pos s μ), ← EReal.coe_mul, weight_eq]

end Cert.Online
-- ==== Proof.FoldAt.lean ====
/-
# The kernel's fold, one entry at a time

Each step of the fold, read at one entry over the extended reals.
-/
module

public import proofs.«01_k».proof.Proof.Fold
public import proofs.«01_k».proof.Proof.Online

@[expose] public section

noncomputable section

namespace Cert.KProof

open Cert.KernelIdeal Cert.KernelIdeal.Gen
open Idealize.ShloMosaic Idealize.ShloMosaic.TcCoe

theorem query0_at (q : FVec Ideal S2x4x128x64 .f32) (h : Fin 4) (r : Fin 128) (d : Fin 64) :
    query 0 q (ix3 h r d) = q (ix4 (0 : Fin 2) h r d) := by
  pointwise [query]

theorem query1_at (q : FVec Ideal S2x4x128x64 .f32) (h : Fin 4) (r : Fin 128) (d : Fin 64) :
    query 1 q (ix3 h r d) = q (ix4 (1 : Fin 2) h r d) := by
  pointwise [query]

theorem rawOf_at (q : FVec Ideal S4x128x64 .f32) (k : Vec Ideal S1x1x4x128x64 .f32) (h : Fin 4) (r j : Fin 128) :
    rawOf q k (ix3 h r j) = (∑ d : Fin 64, q (ix3 h r d) * k (ix5 (0 : Fin 1) (0 : Fin 1) h j d)) * Ideal.ofBits .f32 0x3E000000#32 := by
  pointwise [rawOf]

theorem rowMax_at (s : FVec Ideal S4x128x128 .f32) (h : Fin 4) (r : Fin 128) :
    rowMax s (ix3 h r (0 : Fin 1)) = Finset.univ.sup fun j : Fin 128 => s (ix3 h r j) := by
  pointwise [rowMax]
  rw [Cert.Online.neg_inf]
  rfl

theorem wts_at (m : FVec Ideal S4x128x1 .f32) (s : FVec Ideal S4x128x128 .f32) (h : Fin 4) (r j : Fin 128) :
    wts m s (ix3 h r j) = Ideal.exp (s (ix3 h r j) - m (ix3 h r (0 : Fin 1))) := by
  pointwise [wts]

theorem rowSum_at (p : FVec Ideal S4x128x128 .f32) (h : Fin 4) (r : Fin 128) :
    rowSum p (ix3 h r (0 : Fin 1)) = ∑ j : Fin 128, p (ix3 h r j) := by
  pointwise [rowSum]

theorem wsum_at (p : FVec Ideal S4x128x128 .f32) (v : Vec Ideal S1x1x4x128x64 .f32) (h : Fin 4) (r : Fin 128) (d : Fin 64) :
    wsum p v (ix3 h r d) = ∑ j : Fin 128, p (ix3 h r j) * v (ix5 (0 : Fin 1) (0 : Fin 1) h j d) := by
  pointwise [wsum]

theorem masked_at (w o : BitVec 32) (s : FVec Ideal S4x128x128 .f32) (h : Fin 4) (r j : Fin 128) :
    masked w o s (ix3 h r j) = Scalar.select (maskOf w o (ix2 r j)) (s (ix3 h r j)) (Ideal.ofBits .f32 0xCE6E6B28#32) := by
  pointwise [masked]

theorem next_l_at (R : Run Ideal) (s : FVec Ideal S4x128x128 .f32) (v : Vec Ideal S1x1x4x128x64 .f32) (i) :
    (next R s v).l i = R.l i * Ideal.exp (R.m i - (next R s v).m i) + rowSum (wts (next R s v).m s) i := by
  rfl

theorem next_a_at (R : Run Ideal) (s : FVec Ideal S4x128x128 .f32) (v : Vec Ideal S1x1x4x128x64 .f32) (h : Fin 4) (r : Fin 128) (d : Fin 64) :
    (next R s v).a (ix3 h r d) = R.a (ix3 h r d) * Ideal.exp (R.m (ix3 h r (0 : Fin 1)) - (next R s v).m (ix3 h r (0 : Fin 1))) + wsum (wts (next R s v).m s) v (ix3 h r d) := by
  pointwise [next]

/-- Four blocks of 64 columns side by side. -/
theorem four_blocks (g : Fin 4 → Fin 64 → EReal) (x : Fin 256) :
    (if h : x.val < 64 then g 0 ⟨x.val, h⟩ else if h : x.val - 64 < 64 then g 1 ⟨x.val - 64, h⟩
      else if h : x.val - 64 - 64 < 64 then g 2 ⟨x.val - 64 - 64, h⟩ else g 3 ⟨x.val - 64 - 64 - 64, by omega⟩)
      = g ⟨x.val / 64, by omega⟩ ⟨x.val % 64, by omega⟩ := by
  split_ifs <;> refine congrArg₂ g (Fin.ext ?_) (Fin.ext ?_)
  · show 0 = x.val / 64; omega
  · show x.val = x.val % 64; omega
  · show 1 = x.val / 64; omega
  · show x.val - 64 = x.val % 64; omega
  · show 2 = x.val / 64; omega
  · show x.val - 64 - 64 = x.val % 64; omega
  · show 3 = x.val / 64; omega
  · show x.val - 64 - 64 - 64 = x.val % 64; omega

/-- The quotient's columns, the heads side by side, times the output weights. -/
theorem finish_at (l : FVec Ideal S4x128x1 .f32) (a : FVec Ideal S4x128x64 .f32) (wo : Vec Ideal S256x512 .f32) (r : Fin 128) (e : Fin 512) :
    finish l a wo (ix3 (0 : Fin 1) r e) = ∑ x : Fin 256,
      Ideal.div (a (ix3 (⟨x.val / 64, by omega⟩ : Fin 4) r (⟨x.val % 64, by omega⟩ : Fin 64))) (l (ix3 (⟨x.val / 64, by omega⟩ : Fin 4) r (0 : Fin 1)))
        * wo (ix2 x e) := by
  pointwise [finish]
  exact Finset.sum_congr rfl fun x _ => congrArg (· * wo (ix2 x e))
    (four_blocks (fun h d => Ideal.div (a (ix3 h r d)) (l (ix3 h r (0 : Fin 1)))) x)

theorem pay17_at_zero (x : Vec Ideal S1x128x512 .f32) (wq : Vec Ideal S512x256 .f32) (x' : Vec Ideal S1x128x512 .f32) (wq' : Vec Ideal S512x256 .f32)
    (h : Fin 4) (r : Fin 128) (d : Fin 64) :
    k0_pay17 x wq x' wq' (ix4 (0 : Fin 2) h r d) = ∑ e : Fin 512, x (ix3 (0 : Fin 1) r e) * wq (ix2 e (⟨h.val * 64 + d.val, by omega⟩ : Fin 256)) := by
  pointwise [k0_pay17]

theorem pay17_at_one (x : Vec Ideal S1x128x512 .f32) (wq : Vec Ideal S512x256 .f32) (x' : Vec Ideal S1x128x512 .f32) (wq' : Vec Ideal S512x256 .f32)
    (h : Fin 4) (r : Fin 128) (d : Fin 64) :
    k0_pay17 x wq x' wq' (ix4 (1 : Fin 2) h r d) = ∑ e : Fin 512, x' (ix3 (0 : Fin 1) r e) * wq' (ix2 e (⟨h.val * 64 + d.val, by omega⟩ : Fin 256)) := by
  pointwise [k0_pay17]

end Cert.KProof
-- ==== Proof.RefFold.lean ====
/-
# The reference's value, in stages

The value the reference computes, cut at its mask, its scores, its weights and its result.
-/
module

public import proofs.«01_k».proof.Proof.Gen.ReferenceIdeal.Run
public import proofs.«01_k».proof.Proof.Online

@[expose] public section

noncomputable section

namespace Cert.RefProof

open Cert.ReferenceIdeal Cert.ReferenceIdeal.Gen
open Idealize.ShloMosaic Idealize.ShloMosaic.TcCoe

section Stages

variable {F : FTy → Type} [FloatOps F]

/-- The block of 64 positions each position lies in. -/
def blk : IVec S1024 32 :=
  let n : IVec S1024 32 := broadcastInDim S1024 ![] bcast_S_S1024 (id (constantI S_ 32 64#32))
  let q := Host.divsi (iotaInDim S1024 32 0) n
  select (andi (cmpi .ne (signi (iotaInDim S1024 32 0)) (broadcastInDim S1024 ![] bcast_S_S1024 (signi (id (constantI S_ 32 64#32)))))
      (cmpi .ne (Host.remsi (iotaInDim S1024 32 0) n) (broadcastInDim S1024 ![] bcast_S_S1024 (constantI S_ 32 0#32))))
    (subi q (broadcastInDim S1024 ![] bcast_S_S1024 (constantI S_ 32 1#32))) q

/-- Which keys (columns) a query (row) may look at, from the blocks the positions lie in. -/
def maskFrom (b : IVec S1024 32) : IVec S1024x1024 1 :=
  let q : IVec S1024x1024 32 := broadcastInDim S1024x1024 ![0, 1] bcast_S1024x1_S1024x1024_0_1 (broadcastInDim S1024x1 ![0] bcast_S1024_S1024x1_0 b)
  let k1 : IVec S1x1024 32 := broadcastInDim S1x1024 ![1] bcast_S1024_S1x1024_1 b
  let k : IVec S1024x1024 32 := broadcastInDim S1024x1024 ![0, 1] bcast_S1x1024_S1024x1024_0_1 k1
  let three : IVec S_ 32 := select (cmpi .eq (id (constantI S_ 32 3#32)) (constantI S_ 32 0#32)) (constantI S_ 32 1#32) (id (constantI S_ 32 3#32))
  let threes : IVec S1024x1024 32 := broadcastInDim S1024x1024 ![] bcast_S_S1024x1024 three
  let r := Host.remsi (addi q k) threes
  let zs : IVec S1024x1024 32 := broadcastInDim S1024x1024 ![] bcast_S_S1024x1024 (constantI S_ 32 0#32)
  ori (ori (cmpi .eq q k) (broadcastInDim S1024x1024 ![0, 1] bcast_S1x1024_S1024x1024_0_1
      (cmpi .eq k1 (broadcastInDim S1x1024 ![] bcast_S_S1x1024 (constantI S_ 32 0#32)))))
    (cmpi .eq (select (andi (cmpi .ne (cmpi .slt r zs) (broadcastInDim S1024x1024 ![] bcast_S_S1024x1024 (cmpi .slt three (constantI S_ 32 0#32))))
      (cmpi .ne r zs)) (addi r threes) r) zs)

/-- Whether a query may look at any key at all. -/
def keepFrom (k : IVec S1024x1024 1) : IVec S1024 1 :=
  Host.reduce IntOp.ori k (constantI S_ 1 0#1) reducesTo_S1024x1024_S1024_d1 h_S_

/-- The masked scores. -/
def scores (k : IVec S1024x1024 1) (x : FVec F S2x1024x512 .f32) (wq : FVec F S512x256 .f32) (ks : FVec F S2x1024x4x64 .f32) : FVec F S2x4x1024x1024 .f32 :=
  select (broadcastInDim S2x4x1024x1024 ![0, 1, 2, 3] bcast_S1x1x1024x1024_S2x4x1024x1024_0_1_2_3 (broadcastInDim S1x1x1024x1024 ![2, 3] bcast_S1024x1024_S1x1x1024x1024_2_3 k))
    (mulf (Host.dotGeneral dot_S2x1024x4x64_S2x1024x4x64_S2x4x1024x1024_3_3_1_1_02_02 none
      (shapeCast _ (Host.dotGeneral dot_S2x1024x512_S512x256_S2x1024x256_2_0_01_1_n_n none x wq) shapeCasts_S2x1024x256_S2x1024x4x64) ks)
      (broadcastInDim S2x4x1024x1024 ![] bcast_S_S2x4x1024x1024 (constant S_ .f32 0x3E000000#32)))
    (broadcastInDim S2x4x1024x1024 ![] bcast_S_S2x4x1024x1024 (id (constant S_ .f32 0xCE6E6B28#32)))

/-- The largest score of each row. -/
def rowMax (s : FVec F S2x4x1024x1024 .f32) : FVec F S2x4x1024 .f32 :=
  Host.reduce FloatOps.maximumf s (constant S_ .f32 0xFF800000#32) reducesTo_S2x4x1024x1024_S2x4x1024_d3 h_S_

/-- The exponentials of the scores against the largest of their row. -/
def expo (m : FVec F S2x4x1024 .f32) (s : FVec F S2x4x1024x1024 .f32) : FVec F S2x4x1024x1024 .f32 :=
  Host.exp (subf s (broadcastInDim S2x4x1024x1024 ![0, 1, 2, 3] bcast_S2x4x1024x1_S2x4x1024x1024_0_1_2_3
    (broadcastInDim S2x4x1024x1 ![0, 1, 2] bcast_S2x4x1024_S2x4x1024x1_0_1_2 m)))

/-- The weights of the keys. -/
def weights (k : IVec S1024 1) (e : FVec F S2x4x1024x1024 .f32) : FVec F S2x4x1024x1024 .f32 :=
  let kk : IVec S1x1x1024x1 1 := broadcastInDim S1x1x1024x1 ![2] bcast_S1024_S1x1x1024x1_2 k
  select (broadcastInDim S2x4x1024x1024 ![0, 1, 2, 3] bcast_S1x1x1024x1_S2x4x1024x1024_0_1_2_3 kk)
    (Host.divf e (broadcastInDim S2x4x1024x1024 ![0, 1, 2, 3] bcast_S2x4x1024x1_S2x4x1024x1024_0_1_2_3
      (select (broadcastInDim S2x4x1024x1 ![0, 1, 2, 3] bcast_S1x1x1024x1_S2x4x1024x1_0_1_2_3 kk)
        (broadcastInDim S2x4x1024x1 ![0, 1, 2] bcast_S2x4x1024_S2x4x1024x1_0_1_2 (Host.reduceAdd e (constant S_ .f32 0x00000000#32) reducesTo_S2x4x1024x1024_S2x4x1024_d3 h_S_))
        (broadcastInDim S2x4x1024x1 ![] bcast_S_S2x4x1024x1 (id (constant S_ .f32 0x3F800000#32))))))
    (broadcastInDim S2x4x1024x1024 ![] bcast_S_S2x4x1024x1024 (id (constant S_ .f32 0x00000000#32)))

/-- The result, from the weights. -/
def result (p : FVec F S2x4x1024x1024 .f32) (v : FVec F S2x1024x4x64 .f32) (wo : FVec F S256x512 .f32) : FVec F S2x1024x512 .f32 :=
  Host.dotGeneral dot_S2x1024x256_S256x512_S2x1024x512_2_0_01_1_n_n none
    (shapeCast _ (transpose S2x1024x4x64 [0, 3, 1, 2] (Host.dotGeneral dot_S2x1024x4x64_S2x4x1024x1024_S2x4x64x1024_1_3_3_2_02_01 none v p)
      transposes_S2x4x64x1024_S2x1024x4x64_0_3_1_2) shapeCasts_S2x1024x4x64_S2x1024x256) wo

/-- The reference, from its stages. -/
def value (x : FVec F S2x1024x512 .f32) (wq : FVec F S512x256 .f32) (ks v : FVec F S2x1024x4x64 .f32) (wo : FVec F S256x512 .f32) : FVec F S2x1024x512 .f32 :=
  let k := maskFrom blk
  let s := scores k x wq ks
  result (weights (keepFrom k) (expo (rowMax s) s)) v wo

/-- The value the reference's program computes is the stages' value. -/
theorem res_eq (m : (ℓ : Loc nD τ sig) → Buf (Elt F) ℓ) (c : Dev nD) :
    Value.res_main_v44 m c = value (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v44
  rfl

end Stages

/-- The block a position lies in. -/
theorem blk_at (i : Fin 1024) : blk (ix1 i) = BitVec.ofNat 32 (i.val / 64) := by
  pointwise [blk]
  revert i
  decide

theorem scores_at (k : IVec S1024x1024 1) (x : FVec Ideal S2x1024x512 .f32) (wq : FVec Ideal S512x256 .f32) (ks : FVec Ideal S2x1024x4x64 .f32)
    (b : Fin 2) (h : Fin 4) (i j : Fin 1024) :
    scores k x wq ks (ix4 b h i j) = Scalar.select (k (ix2 i j))
      ((∑ d : Fin 64, (∑ e : Fin 512, x (ix3 b i e) * wq (ix2 e (⟨h.val * 64 + d.val, by omega⟩ : Fin 256))) * ks (ix4 b j h d)) * Ideal.ofBits .f32 0x3E000000#32)
      (Ideal.ofBits .f32 0xCE6E6B28#32) := by
  pointwise [scores]
  rfl

theorem rowMax_at (s : FVec Ideal S2x4x1024x1024 .f32) (b : Fin 2) (h : Fin 4) (i : Fin 1024) :
    rowMax s (ix3 b h i) = Finset.univ.sup fun j : Fin 1024 => s (ix4 b h i j) := by
  pointwise [rowMax]
  rw [Cert.Online.neg_inf]
  rfl

theorem expo_at (m : FVec Ideal S2x4x1024 .f32) (s : FVec Ideal S2x4x1024x1024 .f32) (b : Fin 2) (h : Fin 4) (i j : Fin 1024) :
    expo m s (ix4 b h i j) = Ideal.exp (s (ix4 b h i j) - m (ix3 b h i)) := by
  pointwise [expo]

/-- A row's weights, where the row is kept. -/
theorem weights_at (k : IVec S1024 1) (e : FVec Ideal S2x4x1024x1024 .f32) (b : Fin 2) (h : Fin 4) (i j : Fin 1024) (hk : k (ix1 i) = 1#1) :
    weights k e (ix4 b h i j) = Ideal.div (e (ix4 b h i j)) (∑ x : Fin 1024, e (ix4 b h i x)) := by
  pointwise [weights]
  rw [hk]
  rfl

theorem result_at (p : FVec Ideal S2x4x1024x1024 .f32) (v : FVec Ideal S2x1024x4x64 .f32) (wo : FVec Ideal S256x512 .f32)
    (b : Fin 2) (i : Fin 1024) (e : Fin 512) :
    result p v wo (ix3 b i e) = ∑ x : Fin 256, (∑ j : Fin 1024, v (ix4 b j (⟨x.val / 64, by omega⟩ : Fin 4) (⟨x.val % 64, by omega⟩ : Fin 64))
      * p (ix4 b (⟨x.val / 64, by omega⟩ : Fin 4) i j)) * wo (ix2 x e) := by
  pointwise [result]

end Cert.RefProof
-- ==== Proof.Mask.lean ====
/-
# The mask

Both programs decide which keys a query may look at by integer arithmetic on the blocks of 64 positions the two lie in. Here
both come out as one condition on the numbers of the two blocks.
-/
module

public import proofs.«01_k».proof.Proof.FoldAt
public import proofs.«01_k».proof.Proof.RefFold

@[expose] public section

noncomputable section

namespace Cert.Mask

open Idealize.ShloMosaic

/-- Whether a query of block `q` may look at a key of block `k`. -/
def keep (q k : Nat) : Bool := decide (q = k) || decide (k = 0) || decide ((q + k) % 3 = 0)

theorem select_ofBool {α : Type} (p : Bool) (a b : α) : Scalar.select (BitVec.ofBool p) a b = if p then a else b := by
  cases p <;> rfl

/-- The kernel's floor division of a position by 64. -/
theorem floor_div : ∀ r : Fin 128, Scalar.select
      (IntOp.andi
        (IntOp.cmpi .ne
          (IntOp.subi (BitVec.setWidth 32 (IntOp.cmpi .sgt (BitVec.ofNat 32 r.val) 0#32))
            (BitVec.setWidth 32 (IntOp.cmpi .slt (BitVec.ofNat 32 r.val) 0#32)))
          (Scalar.subi (Scalar.extui (Scalar.cmpi .sgt 64#32 0#32)) (Scalar.extui (Scalar.cmpi .slt 64#32 0#32))))
        (IntOp.cmpi .ne (IntOp.remsi .vector (BitVec.ofNat 32 r.val) 64#32) 0#32))
      (IntOp.subi (IntOp.divsi .vector (BitVec.ofNat 32 r.val) 64#32) 1#32)
      (IntOp.divsi .vector (BitVec.ofNat 32 r.val) 64#32) = BitVec.ofNat 32 (r.val / 64) := by
  decide

theorem blockIx_row (w : BitVec 32) (r j : Fin 128) :
    KProof.blockIx w (iota .tc Cert.KernelIdeal.S128x128 32 [0] Cert.KernelIdeal.Gen.iota_S128x128_d0_w32) (ix2 r j) = IntOp.addi (Scalar.muli w 2#32) (BitVec.ofNat 32 (r.val / 64)) := by
  pointwise [KProof.blockIx]
  exact congrArg _ (floor_div r)

theorem blockIx_col (w : BitVec 32) (r j : Fin 128) :
    KProof.blockIx w (iota .tc Cert.KernelIdeal.S128x128 32 [1] Cert.KernelIdeal.Gen.iota_S128x128_d1_w32) (ix2 r j) = IntOp.addi (Scalar.muli w 2#32) (BitVec.ofNat 32 (j.val / 64)) := by
  pointwise [KProof.blockIx]
  exact congrArg _ (floor_div j)

/-- The kernel's condition on the words of two devices and the halves of their blocks. -/
theorem kernel_keep : ∀ (c o : Fin 8) (x y : Fin 2),
    IntOp.ori (IntOp.ori
        (IntOp.cmpi .eq (IntOp.addi (Scalar.muli (BitVec.ofNat 32 c.val) 2#32) (BitVec.ofNat 32 x.val)) (IntOp.addi (Scalar.muli (BitVec.ofNat 32 o.val) 2#32) (BitVec.ofNat 32 y.val)))
        (IntOp.cmpi .eq (IntOp.addi (Scalar.muli (BitVec.ofNat 32 o.val) 2#32) (BitVec.ofNat 32 y.val)) 0#32))
      (IntOp.cmpi .eq (IntOp.remsi .vector (IntOp.addi (IntOp.addi (Scalar.muli (BitVec.ofNat 32 c.val) 2#32) (BitVec.ofNat 32 x.val))
        (IntOp.addi (Scalar.muli (BitVec.ofNat 32 o.val) 2#32) (BitVec.ofNat 32 y.val))) 3#32) 0#32)
    = BitVec.ofBool (keep (2 * c.val + x.val) (2 * o.val + y.val)) := by
  decide

/-- The kernel's mask between a query of device `c` and a key of device `o`. -/
theorem maskOf_at (c o : Fin 8) (r j : Fin 128) :
    KProof.maskOf (BitVec.ofNat 32 c.val) (BitVec.ofNat 32 o.val) (ix2 r j)
      = BitVec.ofBool (keep ((c.val * 128 + r.val) / 64) ((o.val * 128 + j.val) / 64)) := by
  refine (congrArg₂ (fun q k : BitVec 32 => IntOp.ori (IntOp.ori (IntOp.cmpi .eq q k) (IntOp.cmpi .eq k 0#32))
    (IntOp.cmpi .eq (IntOp.remsi .vector (IntOp.addi q k) 3#32) 0#32))
    (blockIx_row (BitVec.ofNat 32 c.val) r j) (blockIx_col (BitVec.ofNat 32 o.val) r j)).trans ?_
  refine (kernel_keep c o ⟨r.val / 64, by omega⟩ ⟨j.val / 64, by omega⟩).trans ?_
  rw [show (c.val * 128 + r.val) / 64 = 2 * c.val + r.val / 64 by omega, show (o.val * 128 + j.val) / 64 = 2 * o.val + j.val / 64 by omega]

/-- The reference's condition on the numbers of two blocks. -/
theorem reference_keep : ∀ (q k : Fin 16),
    IntOp.ori
      (IntOp.ori (IntOp.cmpi .eq (BitVec.ofNat 32 q.val) (BitVec.ofNat 32 k.val)) (IntOp.cmpi .eq (BitVec.ofNat 32 k.val) 0#32))
      (IntOp.cmpi .eq
        (Scalar.select
          (IntOp.andi
            (IntOp.cmpi .ne
              (IntOp.cmpi .slt (IntOp.remsi .host (IntOp.addi (BitVec.ofNat 32 q.val) (BitVec.ofNat 32 k.val))
                (Scalar.select (IntOp.cmpi .eq 3#32 0#32) 1#32 3#32)) 0#32)
              (IntOp.cmpi .slt (Scalar.select (IntOp.cmpi .eq 3#32 0#32) 1#32 3#32) 0#32))
            (IntOp.cmpi .ne (IntOp.remsi .host (IntOp.addi (BitVec.ofNat 32 q.val) (BitVec.ofNat 32 k.val))
                (Scalar.select (IntOp.cmpi .eq 3#32 0#32) 1#32 3#32)) 0#32))
          (IntOp.addi (IntOp.remsi .host (IntOp.addi (BitVec.ofNat 32 q.val) (BitVec.ofNat 32 k.val))
                (Scalar.select (IntOp.cmpi .eq 3#32 0#32) 1#32 3#32)) (Scalar.select (IntOp.cmpi .eq 3#32 0#32) 1#32 3#32))
          (IntOp.remsi .host (IntOp.addi (BitVec.ofNat 32 q.val) (BitVec.ofNat 32 k.val))
                (Scalar.select (IntOp.cmpi .eq 3#32 0#32) 1#32 3#32)))
        0#32) = BitVec.ofBool (keep q.val k.val) := by
  decide

/-- The reference's mask. -/
theorem mask_at (i j : Fin 1024) : RefProof.maskFrom RefProof.blk (ix2 i j) = BitVec.ofBool (keep (i.val / 64) (j.val / 64)) := by
  pointwise [RefProof.maskFrom]
  rw [RefProof.blk_at, RefProof.blk_at]
  exact reference_keep ⟨i.val / 64, by omega⟩ ⟨j.val / 64, by omega⟩

/-- Every query may look at the keys of the first block, so every row is kept. -/
theorem keep_at (i : Fin 1024) : RefProof.keepFrom (RefProof.maskFrom RefProof.blk) (ix1 i) = 1#1 := by
  pointwise [RefProof.keepFrom]
  rw [← Finset.insert_erase (Finset.mem_univ (0 : Fin 1024)), Finset.fold_insert (Finset.notMem_erase _ _), mask_at]
  have h : keep (i.val / 64) ((0 : Fin 1024).val / 64) = true := by simp [keep]
  rw [h]
  exact (by decide : ∀ z : BitVec 1, IntOp.ori (BitVec.ofBool true) z = 1#1) _

end Cert.Mask
-- ==== Proof.Loads.lean ====
/-
# What the kernel loads

Each load of keys or values is a block of the device it came from; each word the kernel computes for that device is its number.
-/
module

public import proofs.«01_k».proof.Proof.Mask

@[expose] public section

noncomputable section

namespace Cert.KProof

open Cert.KernelIdeal Cert.KernelIdeal.Gen
open Idealize.ShloMosaic Idealize.ShloMosaic.TcCoe

variable {F : FTy → Type} [FloatOps F]

theorem inb_block (b kv : Fin 2) : ∀ a, (![b.val, kv.val, 0, 0, 0] : Fin 5 → Nat) a + S1x1x4x128x64.size a ≤ S2x2x4x128x64.size a := by
  revert b kv; decide
theorem inb_landed (j : Fin 7) (kv : Fin 2) : ∀ a, (![j.val, kv.val, 0, 0, 0] : Fin 5 → Nat) a + S1x1x4x128x64.size a ≤ S7x2x4x128x64.size a := by
  revert j kv; decide

theorem emb_block (b kv : Fin 2) (h : Fin 4) (j : Fin 128) (d : Fin 64) :
    (Rect.unit (s := S2x2x4x128x64) ![b.val, kv.val, 0, 0, 0] S1x1x4x128x64.size (inb_block b kv)).emb (ix5 (0 : Fin 1) (0 : Fin 1) h j d : S1x1x4x128x64.Idx)
      = (ix5 b kv h j d : S2x2x4x128x64.Idx) := by
  funext a
  refine Fin.ext ?_
  rw [Rect.emb_apply]
  fin_cases a
  · show b.val + 1 * 0 = b.val; omega
  · show kv.val + 1 * 0 = kv.val; omega
  · show 0 + 1 * h.val = h.val; omega
  · show 0 + 1 * j.val = j.val; omega
  · show 0 + 1 * d.val = d.val; omega

theorem emb_landed (b : Fin 7) (kv : Fin 2) (h : Fin 4) (j : Fin 128) (d : Fin 64) :
    (Rect.unit (s := S7x2x4x128x64) ![b.val, kv.val, 0, 0, 0] S1x1x4x128x64.size (inb_landed b kv)).emb (ix5 (0 : Fin 1) (0 : Fin 1) h j d : S1x1x4x128x64.Idx)
      = (ix5 b kv h j d : S7x2x4x128x64.Idx) := by
  funext a
  refine Fin.ext ?_
  rw [Rect.emb_apply]
  fin_cases a
  · show b.val + 1 * 0 = b.val; omega
  · show kv.val + 1 * 0 = kv.val; omega
  · show 0 + 1 * h.val = h.val; omega
  · show 0 + 1 * j.val = j.val; omega
  · show 0 + 1 * d.val = d.val; omega

theorem emb_rows (b : Fin 2) (r : Fin 128) (e : Fin 512) (hb : ∀ a, (![b.val, 0, 0] : Fin 3 → Nat) a + S1x128x512.size a ≤ S2x128x512.size a) :
    (Rect.unit (s := S2x128x512) ![b.val, 0, 0] S1x128x512.size hb).emb (ix3 (0 : Fin 1) r e : S1x128x512.Idx) = (ix3 b r e : S2x128x512.Idx) := by
  funext a
  refine Fin.ext ?_
  rw [Rect.emb_apply]
  fin_cases a
  · show b.val + 1 * 0 = b.val; omega
  · show 0 + 1 * r.val = r.val; omega
  · show 0 + 1 * e.val = e.val; omega

theorem emb_wq (e : Fin 512) (d : Fin 256) (hb : ∀ a, (![0, 0] : Fin 2 → Nat) a + S512x256.size a ≤ S512x256.size a) :
    (Rect.unit (s := S512x256) ![0, 0] S512x256.size hb).emb (ix2 e d : S512x256.Idx) = (ix2 e d : S512x256.Idx) := by
  funext a
  refine Fin.ext ?_
  rw [Rect.emb_apply]
  fin_cases a
  · show 0 + 1 * e.val = e.val; omega
  · show 0 + 1 * d.val = d.val; omega

theorem emb_wo (e : Fin 256) (d : Fin 512) (hb : ∀ a, (![0, 0] : Fin 2 → Nat) a + S256x512.size a ≤ S256x512.size a) :
    (Rect.unit (s := S256x512) ![0, 0] S256x512.size hb).emb (ix2 e d : S256x512.Idx) = (ix2 e d : S256x512.Idx) := by
  funext a
  refine Fin.ext ?_
  rw [Rect.emb_apply]
  fin_cases a
  · show 0 + 1 * e.val = e.val; omega
  · show 0 + 1 * d.val = d.val; omega

namespace V

/-! ## The operands of the projections -/

theorem x0_at (A : Inp F) (c : Dev nD) (r : Fin 128) (e : Fin 512) : V.v171 A c (ix3 (0 : Fin 1) r e) = A.x c (ix3 (0 : Fin 2) r e : S2x128x512.Idx) :=
  congrArg (A.x c) (emb_rows 0 r e _)
theorem x1_at (A : Inp F) (c : Dev nD) (r : Fin 128) (e : Fin 512) : V.v178 A c (ix3 (0 : Fin 1) r e) = A.x c (ix3 (1 : Fin 2) r e : S2x128x512.Idx) :=
  congrArg (A.x c) (emb_rows 1 r e _)
theorem wq0_at (A : Inp F) (c : Dev nD) (e : Fin 512) (d : Fin 256) : V.v173 A c (ix2 e d) = A.wq c (ix2 e d : S512x256.Idx) :=
  congrArg (A.wq c) (emb_wq e d _)
theorem wq1_at (A : Inp F) (c : Dev nD) (e : Fin 512) (d : Fin 256) : V.v180 A c (ix2 e d) = A.wq c (ix2 e d : S512x256.Idx) :=
  congrArg (A.wq c) (emb_wq e d _)
theorem wo_at (A : Inp F) (c : Dev nD) (e : Fin 256) (d : Fin 512) : V.v1900 A c (ix2 e d) = A.wo c (ix2 e d : S256x512.Idx) :=
  congrArg (A.wo c) (emb_wo e d _)

/-! ## The keys and the values -/

/-- The device whose block is the `i`-th that batch 0 meets on device `c`. -/
def from0 (c : Dev nD) : Fin 8 → Dev nD := ![c, org 0 0 c, org 0 1 c, org 0 3 c, org 0 2 c, org 0 4 c, org 0 5 c, org 0 6 c]
theorem from0_inj (c : Dev nD) : Function.Injective (from0 c) := by revert c; decide

/-- The device whose block is the `i`-th that batch 1 meets on device `c`. -/
def from1 (c : Dev nD) : Fin 8 → Dev nD := ![c, org 1 0 c, org 1 1 c, org 1 3 c, org 1 2 c, org 1 4 c, org 1 5 c, org 1 6 c]
theorem from1_inj (c : Dev nD) : Function.Injective (from1 c) := by revert c; decide

theorem key0_0 (A : Inp F) (c : Dev nD) (h : Fin 4) (j : Fin 128) (d : Fin 64) :
    V.v282 A c (ix5 (0 : Fin 1) (0 : Fin 1) h j d) = A.k (from0 c 0) (ix4 (0 : Fin 2) j h d : S2x128x4x64.Idx) :=
  congrArg (mineC A.k A.v c) (emb_block 0 0 h j d)
theorem val0_0 (A : Inp F) (c : Dev nD) (h : Fin 4) (j : Fin 128) (d : Fin 64) :
    V.v365 A c (ix5 (0 : Fin 1) (0 : Fin 1) h j d) = A.v (from0 c 0) (ix4 (0 : Fin 2) j h d : S2x128x4x64.Idx) :=
  congrArg (mineC A.k A.v c) (emb_block 0 1 h j d)
theorem key0_1 (A : Inp F) (c : Dev nD) (h : Fin 4) (j : Fin 128) (d : Fin 64) :
    V.v458 A c (ix5 (0 : Fin 1) (0 : Fin 1) h j d) = A.k (from0 c 1) (ix4 (0 : Fin 2) j h d : S2x128x4x64.Idx) :=
  congrArg (recvC A.k A.v 0 c) (emb_landed 0 0 h j d)
theorem val0_1 (A : Inp F) (c : Dev nD) (h : Fin 4) (j : Fin 128) (d : Fin 64) :
    V.v548 A c (ix5 (0 : Fin 1) (0 : Fin 1) h j d) = A.v (from0 c 1) (ix4 (0 : Fin 2) j h d : S2x128x4x64.Idx) :=
  congrArg (recvC A.k A.v 0 c) (emb_landed 0 1 h j d)
theorem key0_2 (A : Inp F) (c : Dev nD) (h : Fin 4) (j : Fin 128) (d : Fin 64) :
    V.v650 A c (ix5 (0 : Fin 1) (0 : Fin 1) h j d) = A.k (from0 c 2) (ix4 (0 : Fin 2) j h d : S2x128x4x64.Idx) :=
  congrArg (recvC A.k A.v 0 c) (emb_landed 1 0 h j d)
theorem val0_2 (A : Inp F) (c : Dev nD) (h : Fin 4) (j : Fin 128) (d : Fin 64) :
    V.v740 A c (ix5 (0 : Fin 1) (0 : Fin 1) h j d) = A.v (from0 c 2) (ix4 (0 : Fin 2) j h d : S2x128x4x64.Idx) :=
  congrArg (recvC A.k A.v 0 c) (emb_landed 1 1 h j d)
theorem key0_3 (A : Inp F) (c : Dev nD) (h : Fin 4) (j : Fin 128) (d : Fin 64) :
    V.v850 A c (ix5 (0 : Fin 1) (0 : Fin 1) h j d) = A.k (from0 c 3) (ix4 (0 : Fin 2) j h d : S2x128x4x64.Idx) :=
  congrArg (recvC A.k A.v 0 c) (emb_landed 3 0 h j d)
theorem val0_3 (A : Inp F) (c : Dev nD) (h : Fin 4) (j : Fin 128) (d : Fin 64) :
    V.v940 A c (ix5 (0 : Fin 1) (0 : Fin 1) h j d) = A.v (from0 c 3) (ix4 (0 : Fin 2) j h d : S2x128x4x64.Idx) :=
  congrArg (recvC A.k A.v 0 c) (emb_landed 3 1 h j d)
theorem key0_4 (A : Inp F) (c : Dev nD) (h : Fin 4) (j : Fin 128) (d : Fin 64) :
    V.v1068 A c (ix5 (0 : Fin 1) (0 : Fin 1) h j d) = A.k (from0 c 4) (ix4 (0 : Fin 2) j h d : S2x128x4x64.Idx) :=
  congrArg (recvC A.k A.v 0 c) (emb_landed 2 0 h j d)
theorem val0_4 (A : Inp F) (c : Dev nD) (h : Fin 4) (j : Fin 128) (d : Fin 64) :
    V.v1158 A c (ix5 (0 : Fin 1) (0 : Fin 1) h j d) = A.v (from0 c 4) (ix4 (0 : Fin 2) j h d : S2x128x4x64.Idx) :=
  congrArg (recvC A.k A.v 0 c) (emb_landed 2 1 h j d)
theorem key0_5 (A : Inp F) (c : Dev nD) (h : Fin 4) (j : Fin 128) (d : Fin 64) :
    V.v1286 A c (ix5 (0 : Fin 1) (0 : Fin 1) h j d) = A.k (from0 c 5) (ix4 (0 : Fin 2) j h d : S2x128x4x64.Idx) :=
  congrArg (recvC A.k A.v 0 c) (emb_landed 4 0 h j d)
theorem val0_5 (A : Inp F) (c : Dev nD) (h : Fin 4) (j : Fin 128) (d : Fin 64) :
    V.v1376 A c (ix5 (0 : Fin 1) (0 : Fin 1) h j d) = A.v (from0 c 5) (ix4 (0 : Fin 2) j h d : S2x128x4x64.Idx) :=
  congrArg (recvC A.k A.v 0 c) (emb_landed 4 1 h j d)
theorem key0_6 (A : Inp F) (c : Dev nD) (h : Fin 4) (j : Fin 128) (d : Fin 64) :
    V.v1494 A c (ix5 (0 : Fin 1) (0 : Fin 1) h j d) = A.k (from0 c 6) (ix4 (0 : Fin 2) j h d : S2x128x4x64.Idx) :=
  congrArg (recvC A.k A.v 0 c) (emb_landed 5 0 h j d)
theorem val0_6 (A : Inp F) (c : Dev nD) (h : Fin 4) (j : Fin 128) (d : Fin 64) :
    V.v1584 A c (ix5 (0 : Fin 1) (0 : Fin 1) h j d) = A.v (from0 c 6) (ix4 (0 : Fin 2) j h d : S2x128x4x64.Idx) :=
  congrArg (recvC A.k A.v 0 c) (emb_landed 5 1 h j d)
theorem key0_7 (A : Inp F) (c : Dev nD) (h : Fin 4) (j : Fin 128) (d : Fin 64) :
    V.v1702 A c (ix5 (0 : Fin 1) (0 : Fin 1) h j d) = A.k (from0 c 7) (ix4 (0 : Fin 2) j h d : S2x128x4x64.Idx) :=
  congrArg (recvC A.k A.v 0 c) (emb_landed 6 0 h j d)
theorem val0_7 (A : Inp F) (c : Dev nD) (h : Fin 4) (j : Fin 128) (d : Fin 64) :
    V.v1792 A c (ix5 (0 : Fin 1) (0 : Fin 1) h j d) = A.v (from0 c 7) (ix4 (0 : Fin 2) j h d : S2x128x4x64.Idx) :=
  congrArg (recvC A.k A.v 0 c) (emb_landed 6 1 h j d)
theorem key1_0 (A : Inp F) (c : Dev nD) (h : Fin 4) (j : Fin 128) (d : Fin 64) :
    V.v370 A c (ix5 (0 : Fin 1) (0 : Fin 1) h j d) = A.k (from1 c 0) (ix4 (1 : Fin 2) j h d : S2x128x4x64.Idx) :=
  congrArg (mineC A.k A.v c) (emb_block 1 0 h j d)
theorem val1_0 (A : Inp F) (c : Dev nD) (h : Fin 4) (j : Fin 128) (d : Fin 64) :
    V.v453 A c (ix5 (0 : Fin 1) (0 : Fin 1) h j d) = A.v (from1 c 0) (ix4 (1 : Fin 2) j h d : S2x128x4x64.Idx) :=
  congrArg (mineC A.k A.v c) (emb_block 1 1 h j d)
theorem key1_1 (A : Inp F) (c : Dev nD) (h : Fin 4) (j : Fin 128) (d : Fin 64) :
    V.v554 A c (ix5 (0 : Fin 1) (0 : Fin 1) h j d) = A.k (from1 c 1) (ix4 (1 : Fin 2) j h d : S2x128x4x64.Idx) :=
  congrArg (recvC A.k A.v 1 c) (emb_landed 0 0 h j d)
theorem val1_1 (A : Inp F) (c : Dev nD) (h : Fin 4) (j : Fin 128) (d : Fin 64) :
    V.v644 A c (ix5 (0 : Fin 1) (0 : Fin 1) h j d) = A.v (from1 c 1) (ix4 (1 : Fin 2) j h d : S2x128x4x64.Idx) :=
  congrArg (recvC A.k A.v 1 c) (emb_landed 0 1 h j d)
theorem key1_2 (A : Inp F) (c : Dev nD) (h : Fin 4) (j : Fin 128) (d : Fin 64) :
    V.v746 A c (ix5 (0 : Fin 1) (0 : Fin 1) h j d) = A.k (from1 c 2) (ix4 (1 : Fin 2) j h d : S2x128x4x64.Idx) :=
  congrArg (recvC A.k A.v 1 c) (emb_landed 1 0 h j d)
theorem val1_2 (A : Inp F) (c : Dev nD) (h : Fin 4) (j : Fin 128) (d : Fin 64) :
    V.v836 A c (ix5 (0 : Fin 1) (0 : Fin 1) h j d) = A.v (from1 c 2) (ix4 (1 : Fin 2) j h d : S2x128x4x64.Idx) :=
  congrArg (recvC A.k A.v 1 c) (emb_landed 1 1 h j d)
theorem key1_3 (A : Inp F) (c : Dev nD) (h : Fin 4) (j : Fin 128) (d : Fin 64) :
    V.v954 A c (ix5 (0 : Fin 1) (0 : Fin 1) h j d) = A.k (from1 c 3) (ix4 (1 : Fin 2) j h d : S2x128x4x64.Idx) :=
  congrArg (recvC A.k A.v 1 c) (emb_landed 3 0 h j d)
theorem val1_3 (A : Inp F) (c : Dev nD) (h : Fin 4) (j : Fin 128) (d : Fin 64) :
    V.v1044 A c (ix5 (0 : Fin 1) (0 : Fin 1) h j d) = A.v (from1 c 3) (ix4 (1 : Fin 2) j h d : S2x128x4x64.Idx) :=
  congrArg (recvC A.k A.v 1 c) (emb_landed 3 1 h j d)
theorem key1_4 (A : Inp F) (c : Dev nD) (h : Fin 4) (j : Fin 128) (d : Fin 64) :
    V.v1182 A c (ix5 (0 : Fin 1) (0 : Fin 1) h j d) = A.k (from1 c 4) (ix4 (1 : Fin 2) j h d : S2x128x4x64.Idx) :=
  congrArg (recvC A.k A.v 1 c) (emb_landed 2 0 h j d)
theorem val1_4 (A : Inp F) (c : Dev nD) (h : Fin 4) (j : Fin 128) (d : Fin 64) :
    V.v1272 A c (ix5 (0 : Fin 1) (0 : Fin 1) h j d) = A.v (from1 c 4) (ix4 (1 : Fin 2) j h d : S2x128x4x64.Idx) :=
  congrArg (recvC A.k A.v 1 c) (emb_landed 2 1 h j d)
theorem key1_5 (A : Inp F) (c : Dev nD) (h : Fin 4) (j : Fin 128) (d : Fin 64) :
    V.v1390 A c (ix5 (0 : Fin 1) (0 : Fin 1) h j d) = A.k (from1 c 5) (ix4 (1 : Fin 2) j h d : S2x128x4x64.Idx) :=
  congrArg (recvC A.k A.v 1 c) (emb_landed 4 0 h j d)
theorem val1_5 (A : Inp F) (c : Dev nD) (h : Fin 4) (j : Fin 128) (d : Fin 64) :
    V.v1480 A c (ix5 (0 : Fin 1) (0 : Fin 1) h j d) = A.v (from1 c 5) (ix4 (1 : Fin 2) j h d : S2x128x4x64.Idx) :=
  congrArg (recvC A.k A.v 1 c) (emb_landed 4 1 h j d)
theorem key1_6 (A : Inp F) (c : Dev nD) (h : Fin 4) (j : Fin 128) (d : Fin 64) :
    V.v1598 A c (ix5 (0 : Fin 1) (0 : Fin 1) h j d) = A.k (from1 c 6) (ix4 (1 : Fin 2) j h d : S2x128x4x64.Idx) :=
  congrArg (recvC A.k A.v 1 c) (emb_landed 5 0 h j d)
theorem val1_6 (A : Inp F) (c : Dev nD) (h : Fin 4) (j : Fin 128) (d : Fin 64) :
    V.v1688 A c (ix5 (0 : Fin 1) (0 : Fin 1) h j d) = A.v (from1 c 6) (ix4 (1 : Fin 2) j h d : S2x128x4x64.Idx) :=
  congrArg (recvC A.k A.v 1 c) (emb_landed 5 1 h j d)
theorem key1_7 (A : Inp F) (c : Dev nD) (h : Fin 4) (j : Fin 128) (d : Fin 64) :
    V.v1806 A c (ix5 (0 : Fin 1) (0 : Fin 1) h j d) = A.k (from1 c 7) (ix4 (1 : Fin 2) j h d : S2x128x4x64.Idx) :=
  congrArg (recvC A.k A.v 1 c) (emb_landed 6 0 h j d)
theorem val1_7 (A : Inp F) (c : Dev nD) (h : Fin 4) (j : Fin 128) (d : Fin 64) :
    V.v1896 A c (ix5 (0 : Fin 1) (0 : Fin 1) h j d) = A.v (from1 c 7) (ix4 (1 : Fin 2) j h d : S2x128x4x64.Idx) :=
  congrArg (recvC A.k A.v 1 c) (emb_landed 6 1 h j d)

/-! ## The numbers of the devices -/

theorem word0_0 (A : Inp F) (c : Dev nD) : V.v2 A c = BitVec.ofNat 32 (from0 c 0).val := by
  simp only [V.v0, V.v1, V.v2, V.v3, V.v4, V.v5, V.v6, V.v7, V.v8, V.v9, V.v10, V.v11, V.v12, V.v17, V.v18, V.v19, V.v20, V.v21, V.v22, V.v23]
  revert c
  decide
theorem word0_1 (A : Inp F) (c : Dev nD) : V.v17 A c = BitVec.ofNat 32 (from0 c 1).val := by
  simp only [V.v0, V.v1, V.v2, V.v3, V.v4, V.v5, V.v6, V.v7, V.v8, V.v9, V.v10, V.v11, V.v12, V.v17, V.v18, V.v19, V.v20, V.v21, V.v22, V.v23]
  revert c
  decide
theorem word0_2 (A : Inp F) (c : Dev nD) : V.v18 A c = BitVec.ofNat 32 (from0 c 2).val := by
  simp only [V.v0, V.v1, V.v2, V.v3, V.v4, V.v5, V.v6, V.v7, V.v8, V.v9, V.v10, V.v11, V.v12, V.v17, V.v18, V.v19, V.v20, V.v21, V.v22, V.v23]
  revert c
  decide
theorem word0_3 (A : Inp F) (c : Dev nD) : V.v20 A c = BitVec.ofNat 32 (from0 c 3).val := by
  simp only [V.v0, V.v1, V.v2, V.v3, V.v4, V.v5, V.v6, V.v7, V.v8, V.v9, V.v10, V.v11, V.v12, V.v17, V.v18, V.v19, V.v20, V.v21, V.v22, V.v23]
  revert c
  decide
theorem word0_4 (A : Inp F) (c : Dev nD) : V.v19 A c = BitVec.ofNat 32 (from0 c 4).val := by
  simp only [V.v0, V.v1, V.v2, V.v3, V.v4, V.v5, V.v6, V.v7, V.v8, V.v9, V.v10, V.v11, V.v12, V.v17, V.v18, V.v19, V.v20, V.v21, V.v22, V.v23]
  revert c
  decide
theorem word0_5 (A : Inp F) (c : Dev nD) : V.v21 A c = BitVec.ofNat 32 (from0 c 5).val := by
  simp only [V.v0, V.v1, V.v2, V.v3, V.v4, V.v5, V.v6, V.v7, V.v8, V.v9, V.v10, V.v11, V.v12, V.v17, V.v18, V.v19, V.v20, V.v21, V.v22, V.v23]
  revert c
  decide
theorem word0_6 (A : Inp F) (c : Dev nD) : V.v22 A c = BitVec.ofNat 32 (from0 c 6).val := by
  simp only [V.v0, V.v1, V.v2, V.v3, V.v4, V.v5, V.v6, V.v7, V.v8, V.v9, V.v10, V.v11, V.v12, V.v17, V.v18, V.v19, V.v20, V.v21, V.v22, V.v23]
  revert c
  decide
theorem word0_7 (A : Inp F) (c : Dev nD) : V.v23 A c = BitVec.ofNat 32 (from0 c 7).val := by
  simp only [V.v0, V.v1, V.v2, V.v3, V.v4, V.v5, V.v6, V.v7, V.v8, V.v9, V.v10, V.v11, V.v12, V.v17, V.v18, V.v19, V.v20, V.v21, V.v22, V.v23]
  revert c
  decide
theorem word1_0 (A : Inp F) (c : Dev nD) : V.v2 A c = BitVec.ofNat 32 (from1 c 0).val := by
  simp only [V.v0, V.v1, V.v2, V.v3, V.v4, V.v5, V.v6, V.v7, V.v8, V.v9, V.v10, V.v11, V.v12, V.v17, V.v18, V.v19, V.v20, V.v21, V.v22, V.v23]
  revert c
  decide
theorem word1_1 (A : Inp F) (c : Dev nD) : V.v20 A c = BitVec.ofNat 32 (from1 c 1).val := by
  simp only [V.v0, V.v1, V.v2, V.v3, V.v4, V.v5, V.v6, V.v7, V.v8, V.v9, V.v10, V.v11, V.v12, V.v17, V.v18, V.v19, V.v20, V.v21, V.v22, V.v23]
  revert c
  decide
theorem word1_2 (A : Inp F) (c : Dev nD) : V.v18 A c = BitVec.ofNat 32 (from1 c 2).val := by
  simp only [V.v0, V.v1, V.v2, V.v3, V.v4, V.v5, V.v6, V.v7, V.v8, V.v9, V.v10, V.v11, V.v12, V.v17, V.v18, V.v19, V.v20, V.v21, V.v22, V.v23]
  revert c
  decide
theorem word1_3 (A : Inp F) (c : Dev nD) : V.v17 A c = BitVec.ofNat 32 (from1 c 3).val := by
  simp only [V.v0, V.v1, V.v2, V.v3, V.v4, V.v5, V.v6, V.v7, V.v8, V.v9, V.v10, V.v11, V.v12, V.v17, V.v18, V.v19, V.v20, V.v21, V.v22, V.v23]
  revert c
  decide
theorem word1_4 (A : Inp F) (c : Dev nD) : V.v22 A c = BitVec.ofNat 32 (from1 c 4).val := by
  simp only [V.v0, V.v1, V.v2, V.v3, V.v4, V.v5, V.v6, V.v7, V.v8, V.v9, V.v10, V.v11, V.v12, V.v17, V.v18, V.v19, V.v20, V.v21, V.v22, V.v23]
  revert c
  decide
theorem word1_5 (A : Inp F) (c : Dev nD) : V.v21 A c = BitVec.ofNat 32 (from1 c 5).val := by
  simp only [V.v0, V.v1, V.v2, V.v3, V.v4, V.v5, V.v6, V.v7, V.v8, V.v9, V.v10, V.v11, V.v12, V.v17, V.v18, V.v19, V.v20, V.v21, V.v22, V.v23]
  revert c
  decide
theorem word1_6 (A : Inp F) (c : Dev nD) : V.v19 A c = BitVec.ofNat 32 (from1 c 6).val := by
  simp only [V.v0, V.v1, V.v2, V.v3, V.v4, V.v5, V.v6, V.v7, V.v8, V.v9, V.v10, V.v11, V.v12, V.v17, V.v18, V.v19, V.v20, V.v21, V.v22, V.v23]
  revert c
  decide
theorem word1_7 (A : Inp F) (c : Dev nD) : V.v23 A c = BitVec.ofNat 32 (from1 c 7).val := by
  simp only [V.v0, V.v1, V.v2, V.v3, V.v4, V.v5, V.v6, V.v7, V.v8, V.v9, V.v10, V.v11, V.v12, V.v17, V.v18, V.v19, V.v20, V.v21, V.v22, V.v23]
  revert c
  decide

end V

end Cert.KProof
-- ==== Proof.Spec.lean ====
/-
# The value both programs compute

The scores, the softmax over all keys and the projected result, as sums over the extended reals; and the reference's result is
that value wherever the queries' inputs, their weights and the keys are finite.
-/
module

public import proofs.«01_k».proof.Proof.Mask

@[expose] public section

noncomputable section

namespace Cert.Spec

open Idealize.ShloMosaic Cert.Online Cert.Mask

/-- Row `r` of device `c`'s block, among all rows. -/
def glob (c : Fin 8) (r : Fin 128) : Fin 1024 := ⟨c.val * 128 + r.val, by omega⟩

/-- A sum over all rows is one over the devices and their rows. -/
theorem sum_glob (f : Fin 1024 → EReal) : ∑ j, f j = ∑ o : Fin 8, ∑ r : Fin 128, f (glob o r) := by
  rw [← Fintype.sum_prod_type']
  exact (Fintype.sum_equiv (finProdFinEquiv (m := 8) (n := 128)) _ _ fun p =>
    congrArg f (Fin.ext (by show p.1.val * 128 + p.2.val = _; rw [finProdFinEquiv_apply_val]; omega))).symm

theorem exists_glob (i : Fin 1024) : ∃ c r, i = glob c r :=
  ⟨⟨i.val / 128, by omega⟩, ⟨i.val % 128, by omega⟩, Fin.ext (by show i.val = i.val / 128 * 128 + i.val % 128; omega)⟩

variable (X : Fin 2 → Fin 1024 → Fin 512 → EReal) (Wq : Fin 512 → Fin 256 → EReal) (K V : Fin 2 → Fin 1024 → Fin 4 → Fin 64 → EReal)
  (Wo : Fin 256 → Fin 512 → EReal)

/-- A query's column, projected. -/
def proj (b : Fin 2) (h : Fin 4) (i : Fin 1024) (d : Fin 64) : EReal := ∑ e : Fin 512, X b i e * Wq e ⟨h.val * 64 + d.val, by omega⟩

/-- The masked score of a query and a key. -/
def score (b : Fin 2) (h : Fin 4) (i j : Fin 1024) : EReal :=
  if keep (i.val / 64) (j.val / 64) then (∑ d : Fin 64, proj X Wq b h i d * K b j h d) * Ideal.ofBits .f32 0x3E000000#32
  else Ideal.ofBits .f32 0xCE6E6B28#32

/-- The same as a real number, the key by its device and row. -/
def sc (b : Fin 2) (h : Fin 4) (i : Fin 1024) (o : Fin 8) (j : Fin 128) : ℝ := (score X Wq K b h i (glob o j)).toReal

/-- The result. -/
def out (b : Fin 2) (i : Fin 1024) (e : Fin 512) : EReal :=
  ∑ x : Fin 256, (∑ o : Fin 8, ∑ j : Fin 128,
    (weight (sc X Wq K b ⟨x.val / 64, by omega⟩ i) o j : EReal) * V b (glob o j) ⟨x.val / 64, by omega⟩ ⟨x.val % 64, by omega⟩) * Wo x e

/-- The queries' inputs, their weights and the keys are real numbers. -/
structure Finite : Prop where
  x : ∀ b i e, ∃ r : ℝ, X b i e = (r : EReal)
  wq : ∀ e d, ∃ r : ℝ, Wq e d = (r : EReal)
  k : ∀ b j h d, ∃ r : ℝ, K b j h d = (r : EReal)

theorem sum_real {α : Type} (D : Finset α) (f : α → EReal) (hf : ∀ j, ∃ r : ℝ, f j = (r : EReal)) : ∃ r : ℝ, ∑ j ∈ D, f j = (r : EReal) := by
  choose g hg using hf
  exact ⟨∑ j ∈ D, g j, by rw [coe_sum]; exact Finset.sum_congr rfl fun j _ => hg j⟩

theorem mul_real {a b : EReal} (ha : ∃ r : ℝ, a = (r : EReal)) (hb : ∃ r : ℝ, b = (r : EReal)) : ∃ r : ℝ, a * b = (r : EReal) := by
  obtain ⟨x, rfl⟩ := ha
  obtain ⟨y, rfl⟩ := hb
  exact ⟨x * y, (EReal.coe_mul x y).symm⟩

variable {X Wq K}

/-- Every score is a real number. -/
theorem score_eq (hf : Finite X Wq K) (b : Fin 2) (h : Fin 4) (i : Fin 1024) (o : Fin 8) (j : Fin 128) :
    score X Wq K b h i (glob o j) = (sc X Wq K b h i o j : EReal) := by
  have hr : ∃ r : ℝ, score X Wq K b h i (glob o j) = (r : EReal) := by
    unfold score
    split
    · exact mul_real (sum_real _ _ fun d => mul_real (sum_real _ _ fun e => mul_real (hf.x _ _ _) (hf.wq _ _)) (hf.k _ _ _ _)) scale_real
    · exact fill_real
  obtain ⟨r, e⟩ := hr
  rw [sc, e, EReal.toReal_coe]

/-- The largest of a row's scores is a real number. -/
theorem sup_glob (f : Fin 1024 → EReal) (s : Fin 8 → Fin 128 → ℝ) (hs : ∀ o j, f (glob o j) = (s o j : EReal)) :
    ∃ μ : ℝ, Finset.univ.sup f = (μ : EReal) := by
  obtain ⟨i, -, h⟩ := Finset.exists_mem_eq_sup (Finset.univ : Finset (Fin 1024)) Finset.univ_nonempty f
  obtain ⟨o, j, rfl⟩ := exists_glob i
  exact ⟨s o j, h.trans (hs o j)⟩

/-- A row's softmax, over all rows, is the average under the softmax's weights. -/
theorem softmax_row (f v : Fin 1024 → EReal) (s : Fin 8 → Fin 128 → ℝ) (hs : ∀ o j, f (glob o j) = (s o j : EReal)) (m : EReal)
    (hm : m = Finset.univ.sup f) :
    ∑ j, v j * Ideal.div (Ideal.exp (f j - m)) (∑ j, Ideal.exp (f j - m)) = ∑ o, ∑ j, (weight s o j : EReal) * v (glob o j) := by
  obtain ⟨μ, hμ⟩ := sup_glob f s hs
  rw [hm, hμ, sum_glob, sum_glob]
  refine Finset.sum_congr rfl fun o _ => Finset.sum_congr rfl fun j _ => ?_
  rw [mul_comm]
  refine congrArg (· * v (glob o j)) ?_
  simp only [hs]
  exact weight_from s μ o j

open Cert.ReferenceIdeal in
/-- The reference's result. -/
theorem reference_value (x : FVec Ideal S2x1024x512 .f32) (wq : FVec Ideal S512x256 .f32) (k v : FVec Ideal S2x1024x4x64 .f32) (wo : FVec Ideal S256x512 .f32)
    (X : Fin 2 → Fin 1024 → Fin 512 → EReal) (Wq : Fin 512 → Fin 256 → EReal) (K V : Fin 2 → Fin 1024 → Fin 4 → Fin 64 → EReal) (Wo : Fin 256 → Fin 512 → EReal)
    (hx : ∀ b i e, x (ix3 b i e) = X b i e) (hw : ∀ e d, wq (ix2 e d) = Wq e d) (hk : ∀ b j h d, k (ix4 b j h d) = K b j h d)
    (hv : ∀ b j h d, v (ix4 b j h d) = V b j h d) (ho : ∀ e d, wo (ix2 e d) = Wo e d)
    (hf : Finite X Wq K) (b : Fin 2) (i : Fin 1024) (e : Fin 512) :
    RefProof.value x wq k v wo (ix3 b i e) = out X Wq K V Wo b i e := by
  unfold RefProof.value
  have hs : ∀ h j, RefProof.scores (RefProof.maskFrom RefProof.blk) x wq k (ix4 b h i j) = score X Wq K b h i j := fun h j => by
    rw [RefProof.scores_at, mask_at, select_ofBool]
    simp only [hx, hw, hk]
    rfl
  generalize hS : RefProof.scores (RefProof.maskFrom RefProof.blk) x wq k = S at hs
  rw [RefProof.result_at]
  refine Finset.sum_congr rfl fun y _ => ?_
  rw [ho]
  refine congrArg (· * Wo y e) ?_
  have hmax := RefProof.rowMax_at S b (⟨y.val / 64, by omega⟩ : Fin 4) i
  refine Eq.trans ?_ (softmax_row (fun j => S (ix4 b (⟨y.val / 64, by omega⟩ : Fin 4) i j)) (fun j => V b j (⟨y.val / 64, by omega⟩ : Fin 4) (⟨y.val % 64, by omega⟩ : Fin 64))
    (sc X Wq K b ⟨y.val / 64, by omega⟩ i) (fun o j => (hs _ _).trans (score_eq hf _ _ _ _ _)) _ hmax)
  refine Finset.sum_congr rfl fun j _ => ?_
  rw [hv, RefProof.weights_at _ _ _ _ _ _ (keep_at i)]
  simp only [RefProof.expo_at]

end Cert.Spec
-- ==== Proof.KernelValue.lean ====
/-
# The kernel's value

The kernel's fold, over the blocks in the order it meets them, leaves the softmax's running values over all keys; so what it
stores is the value of the specification, at the rows of its own device.
-/
module

public import proofs.«01_k».proof.Proof.Loads
public import proofs.«01_k».proof.Proof.Spec

@[expose] public section

set_option maxRecDepth 8000

noncomputable section

namespace Cert.KProof

open Cert.KernelIdeal Cert.KernelIdeal.Gen
open Idealize.ShloMosaic Idealize.ShloMosaic.TcCoe

open Cert.Online Cert.Spec Cert.Mask

/-! ## One block -/

/-- The running values are those of the keys of the devices in `D`. -/
def Good (S : Fin 4 → Fin 128 → Fin 8 → Fin 128 → ℝ) (W : Fin 4 → Fin 8 → Fin 128 → Fin 64 → EReal) (D : Finset (Fin 8)) (R : Run Ideal) : Prop :=
  ∀ (h : Fin 4) (r : Fin 128), Holds (S h r) (W h) D (R.m (ix3 h r (0 : Fin 1))) (R.l (ix3 h r (0 : Fin 1))) (fun d => R.a (ix3 h r d))

variable {S : Fin 4 → Fin 128 → Fin 8 → Fin 128 → ℝ} {W : Fin 4 → Fin 8 → Fin 128 → Fin 64 → EReal}

theorem rowMax_real {s : FVec Ideal S4x128x128 .f32} {o : Fin 8} (hs : ∀ h r j, s (ix3 h r j) = (S h r o j : EReal)) (h : Fin 4) (r : Fin 128) :
    ∃ μ : ℝ, rowMax s (ix3 h r (0 : Fin 1)) = (μ : EReal) := by
  obtain ⟨μ, e⟩ := sup_real (S h r o)
  exact ⟨μ, by rw [rowMax_at, ← e]; exact congrArg _ (funext fun j => hs h r j)⟩

/-- After the first block. -/
theorem good_first (o : Fin 8) {s : FVec Ideal S4x128x128 .f32} {v : Vec Ideal S1x1x4x128x64 .f32} (hs : ∀ h r j, s (ix3 h r j) = (S h r o j : EReal))
    (hv : ∀ h j d, v (ix5 (0 : Fin 1) (0 : Fin 1) h j d) = W h o j d) : Good S W {o} (first s v) := by
  intro h r
  obtain ⟨μ, e⟩ := rowMax_real hs h r
  simp only [first]
  refine holds_first o μ e ?_ fun d => ?_
  · rw [rowSum_at]
    simp only [wts_at, hs]
  · rw [wsum_at]
    simp only [wts_at, hs, hv]

/-- After one more block. -/
theorem good_next {D : Finset (Fin 8)} {R : Run Ideal} (hR : Good S W D R) (o : Fin 8) (ho : o ∉ D) {s : FVec Ideal S4x128x128 .f32} {v : Vec Ideal S1x1x4x128x64 .f32}
    (hs : ∀ h r j, s (ix3 h r j) = (S h r o j : EReal)) (hv : ∀ h j d, v (ix5 (0 : Fin 1) (0 : Fin 1) h j d) = W h o j d) :
    Good S W (insert o D) (next R s v) := by
  intro h r
  refine holds_next (hR h r) o ho (fun μ e => ?_) ?_ fun d => ?_
  · obtain ⟨μ', e'⟩ := rowMax_real hs h r
    obtain ⟨μ'', e''⟩ := max_real μ μ'
    refine ⟨μ'', ?_⟩
    rw [← e'', ← e, ← e']
    rfl
  · refine (next_l_at R s v _).trans (congrArg _ ?_)
    refine (rowSum_at _ h r).trans (Finset.sum_congr rfl fun j _ => ?_)
    rw [wts_at, hs]
  · refine (next_a_at R s v h r d).trans (congrArg _ ?_)
    refine (wsum_at _ v h r d).trans (Finset.sum_congr rfl fun j _ => ?_)
    rw [wts_at, hs, hv]

variable {X : Fin 2 → Fin 1024 → Fin 512 → EReal} {Wq : Fin 512 → Fin 256 → EReal} {K V' : Fin 2 → Fin 1024 → Fin 4 → Fin 64 → EReal}
  {Wo : Fin 256 → Fin 512 → EReal}

/-- A block's masked scores. -/
theorem masked_eq (hf : Spec.Finite X Wq K) (b : Fin 2) (c o : Fin 8) {w w' : BitVec 32} (hw : w = BitVec.ofNat 32 c.val) (hw' : w' = BitVec.ofNat 32 o.val)
    {q : FVec Ideal S4x128x64 .f32} {k : Vec Ideal S1x1x4x128x64 .f32} (hq : ∀ h r d, q (ix3 h r d) = proj X Wq b h (glob c r) d)
    (hk : ∀ h j d, k (ix5 (0 : Fin 1) (0 : Fin 1) h j d) = K b (glob o j) h d) (h : Fin 4) (r j : Fin 128) :
    masked w w' (rawOf q k) (ix3 h r j) = (sc X Wq K b h (glob c r) o j : EReal) := by
  rw [masked_at, rawOf_at, hw, hw', maskOf_at, select_ofBool, ← score_eq hf]
  simp only [hq, hk]
  rfl

/-! ## The kernel's blocks -/

/-- Each device's arguments are its blocks of the whole arrays. -/
structure Fits (A : Inp Ideal) (X : Fin 2 → Fin 1024 → Fin 512 → EReal) (Wq : Fin 512 → Fin 256 → EReal) (K V' : Fin 2 → Fin 1024 → Fin 4 → Fin 64 → EReal)
    (Wo : Fin 256 → Fin 512 → EReal) : Prop where
  x : ∀ (c : Fin 8) b r e, A.x c (ix3 b r e : S2x128x512.Idx) = X b (glob c r) e
  wq : ∀ (c : Fin 8) e d, A.wq c (ix2 e d : S512x256.Idx) = Wq e d
  k : ∀ (c : Fin 8) b j h d, A.k c (ix4 b j h d : S2x128x4x64.Idx) = K b (glob c j) h d
  v : ∀ (c : Fin 8) b j h d, A.v c (ix4 b j h d : S2x128x4x64.Idx) = V' b (glob c j) h d
  wo : ∀ (c : Fin 8) e d, A.wo c (ix2 e d : S256x512.Idx) = Wo e d

variable {A : Inp Ideal}

theorem query_zero (hA : Fits A X Wq K V' Wo) (c : Fin 8) (h : Fin 4) (r : Fin 128) (d : Fin 64) :
    query 0 (V.v187 A c) (ix3 h r d) = proj X Wq 0 h (glob c r) d := by
  rw [query0_at]
  refine (pay17_at_zero _ _ _ _ h r d).trans (Finset.sum_congr rfl fun e _ => ?_)
  rw [V.x0_at, V.wq0_at, hA.x, hA.wq]

theorem query_one (hA : Fits A X Wq K V' Wo) (c : Fin 8) (h : Fin 4) (r : Fin 128) (d : Fin 64) :
    query 1 (V.v187 A c) (ix3 h r d) = proj X Wq 1 h (glob c r) d := by
  rw [query1_at]
  refine (pay17_at_one _ _ _ _ h r d).trans (Finset.sum_congr rfl fun e _ => ?_)
  rw [V.x1_at, V.wq1_at, hA.x, hA.wq]

/-- The devices met so far. -/
def met (f : Fin 8 → Fin 8) (n : Nat) : Finset (Fin 8) := (Finset.univ.filter fun i : Fin 8 => i.val ≤ n).image f

theorem met_zero (f : Fin 8 → Fin 8) : met f 0 = {f 0} := by
  have h : (Finset.univ.filter fun i : Fin 8 => i.val ≤ 0) = {0} := by decide
  rw [met, h, Finset.image_singleton]

theorem met_succ (f : Fin 8 → Fin 8) (i : Fin 8) (hi : 0 < i.val) : met f i.val = insert (f i) (met f (i.val - 1)) := by
  have h : ∀ i : Fin 8, 0 < i.val → (Finset.univ.filter fun j : Fin 8 => j.val ≤ i.val) = insert i (Finset.univ.filter fun j : Fin 8 => j.val ≤ i.val - 1) := by decide
  rw [met, h i hi, Finset.image_insert, met]

theorem not_met {f : Fin 8 → Fin 8} (hf : Function.Injective f) (i : Fin 8) (hi : 0 < i.val) : f i ∉ met f (i.val - 1) := by
  intro h
  obtain ⟨j, hj, e⟩ := Finset.mem_image.1 h
  have := (Finset.mem_filter.1 hj).2
  rw [hf e] at this
  omega

theorem met_all {f : Fin 8 → Fin 8} (hf : Function.Injective f) : met f 7 = Finset.univ := by
  have h : (Finset.univ.filter fun i : Fin 8 => i.val ≤ 7) = Finset.univ := by decide
  rw [met, h, Finset.image_univ_of_surjective (_root_.Finite.surjective_of_injective hf)]

/-! ## Batch 0, block by block -/

theorem good0_0 (hf : Spec.Finite X Wq K) (hA : Fits A X Wq K V' Wo) (c : Fin 8) :
    Good (fun h r => sc X Wq K 0 h (glob c r)) (fun h o j d => V' 0 (glob o j) h d) (met (V.from0 c) 0) (V.run0_0 A c) := by
  rw [met_zero]
  exact good_first (V.from0 c 0) (masked_eq hf 0 c (V.from0 c 0) (V.word0_0 A c) (V.word0_0 A c) (query_zero hA c) (fun h j d => (V.key0_0 A c h j d).trans (hA.k _ _ _ _ _))) (fun h j d => (V.val0_0 A c h j d).trans (hA.v _ _ _ _ _))
theorem good0_1 (hf : Spec.Finite X Wq K) (hA : Fits A X Wq K V' Wo) (c : Fin 8) :
    Good (fun h r => sc X Wq K 0 h (glob c r)) (fun h o j d => V' 0 (glob o j) h d) (met (V.from0 c) 1) (V.run0_1 A c) := by
  rw [show met (V.from0 c) 1 = _ from met_succ (V.from0 c) 1 (by decide)]
  exact good_next (good0_0 hf hA c) (V.from0 c 1) (not_met (V.from0_inj c) 1 (by decide))
    (masked_eq hf 0 c (V.from0 c 1) (V.word0_0 A c) (V.word0_1 A c) (query_zero hA c) (fun h j d => (V.key0_1 A c h j d).trans (hA.k _ _ _ _ _))) (fun h j d => (V.val0_1 A c h j d).trans (hA.v _ _ _ _ _))
theorem good0_2 (hf : Spec.Finite X Wq K) (hA : Fits A X Wq K V' Wo) (c : Fin 8) :
    Good (fun h r => sc X Wq K 0 h (glob c r)) (fun h o j d => V' 0 (glob o j) h d) (met (V.from0 c) 2) (V.run0_2 A c) := by
  rw [show met (V.from0 c) 2 = _ from met_succ (V.from0 c) 2 (by decide)]
  exact good_next (good0_1 hf hA c) (V.from0 c 2) (not_met (V.from0_inj c) 2 (by decide))
    (masked_eq hf 0 c (V.from0 c 2) (V.word0_0 A c) (V.word0_2 A c) (query_zero hA c) (fun h j d => (V.key0_2 A c h j d).trans (hA.k _ _ _ _ _))) (fun h j d => (V.val0_2 A c h j d).trans (hA.v _ _ _ _ _))
theorem good0_3 (hf : Spec.Finite X Wq K) (hA : Fits A X Wq K V' Wo) (c : Fin 8) :
    Good (fun h r => sc X Wq K 0 h (glob c r)) (fun h o j d => V' 0 (glob o j) h d) (met (V.from0 c) 3) (V.run0_3 A c) := by
  rw [show met (V.from0 c) 3 = _ from met_succ (V.from0 c) 3 (by decide)]
  exact good_next (good0_2 hf hA c) (V.from0 c 3) (not_met (V.from0_inj c) 3 (by decide))
    (masked_eq hf 0 c (V.from0 c 3) (V.word0_0 A c) (V.word0_3 A c) (query_zero hA c) (fun h j d => (V.key0_3 A c h j d).trans (hA.k _ _ _ _ _))) (fun h j d => (V.val0_3 A c h j d).trans (hA.v _ _ _ _ _))
theorem good0_4 (hf : Spec.Finite X Wq K) (hA : Fits A X Wq K V' Wo) (c : Fin 8) :
    Good (fun h r => sc X Wq K 0 h (glob c r)) (fun h o j d => V' 0 (glob o j) h d) (met (V.from0 c) 4) (V.run0_4 A c) := by
  rw [show met (V.from0 c) 4 = _ from met_succ (V.from0 c) 4 (by decide)]
  exact good_next (good0_3 hf hA c) (V.from0 c 4) (not_met (V.from0_inj c) 4 (by decide))
    (masked_eq hf 0 c (V.from0 c 4) (V.word0_0 A c) (V.word0_4 A c) (query_zero hA c) (fun h j d => (V.key0_4 A c h j d).trans (hA.k _ _ _ _ _))) (fun h j d => (V.val0_4 A c h j d).trans (hA.v _ _ _ _ _))
theorem good0_5 (hf : Spec.Finite X Wq K) (hA : Fits A X Wq K V' Wo) (c : Fin 8) :
    Good (fun h r => sc X Wq K 0 h (glob c r)) (fun h o j d => V' 0 (glob o j) h d) (met (V.from0 c) 5) (V.run0_5 A c) := by
  rw [show met (V.from0 c) 5 = _ from met_succ (V.from0 c) 5 (by decide)]
  exact good_next (good0_4 hf hA c) (V.from0 c 5) (not_met (V.from0_inj c) 5 (by decide))
    (masked_eq hf 0 c (V.from0 c 5) (V.word0_0 A c) (V.word0_5 A c) (query_zero hA c) (fun h j d => (V.key0_5 A c h j d).trans (hA.k _ _ _ _ _))) (fun h j d => (V.val0_5 A c h j d).trans (hA.v _ _ _ _ _))
theorem good0_6 (hf : Spec.Finite X Wq K) (hA : Fits A X Wq K V' Wo) (c : Fin 8) :
    Good (fun h r => sc X Wq K 0 h (glob c r)) (fun h o j d => V' 0 (glob o j) h d) (met (V.from0 c) 6) (V.run0_6 A c) := by
  rw [show met (V.from0 c) 6 = _ from met_succ (V.from0 c) 6 (by decide)]
  exact good_next (good0_5 hf hA c) (V.from0 c 6) (not_met (V.from0_inj c) 6 (by decide))
    (masked_eq hf 0 c (V.from0 c 6) (V.word0_0 A c) (V.word0_6 A c) (query_zero hA c) (fun h j d => (V.key0_6 A c h j d).trans (hA.k _ _ _ _ _))) (fun h j d => (V.val0_6 A c h j d).trans (hA.v _ _ _ _ _))
theorem good0_7 (hf : Spec.Finite X Wq K) (hA : Fits A X Wq K V' Wo) (c : Fin 8) :
    Good (fun h r => sc X Wq K 0 h (glob c r)) (fun h o j d => V' 0 (glob o j) h d) (met (V.from0 c) 7) (V.run0_7 A c) := by
  rw [show met (V.from0 c) 7 = _ from met_succ (V.from0 c) 7 (by decide)]
  exact good_next (good0_6 hf hA c) (V.from0 c 7) (not_met (V.from0_inj c) 7 (by decide))
    (masked_eq hf 0 c (V.from0 c 7) (V.word0_0 A c) (V.word0_7 A c) (query_zero hA c) (fun h j d => (V.key0_7 A c h j d).trans (hA.k _ _ _ _ _))) (fun h j d => (V.val0_7 A c h j d).trans (hA.v _ _ _ _ _))

/-! ## Batch 1, block by block -/

theorem good1_0 (hf : Spec.Finite X Wq K) (hA : Fits A X Wq K V' Wo) (c : Fin 8) :
    Good (fun h r => sc X Wq K 1 h (glob c r)) (fun h o j d => V' 1 (glob o j) h d) (met (V.from1 c) 0) (V.run1_0 A c) := by
  rw [met_zero]
  exact good_first (V.from1 c 0) (masked_eq hf 1 c (V.from1 c 0) (V.word1_0 A c) (V.word1_0 A c) (query_one hA c) (fun h j d => (V.key1_0 A c h j d).trans (hA.k _ _ _ _ _))) (fun h j d => (V.val1_0 A c h j d).trans (hA.v _ _ _ _ _))
theorem good1_1 (hf : Spec.Finite X Wq K) (hA : Fits A X Wq K V' Wo) (c : Fin 8) :
    Good (fun h r => sc X Wq K 1 h (glob c r)) (fun h o j d => V' 1 (glob o j) h d) (met (V.from1 c) 1) (V.run1_1 A c) := by
  rw [show met (V.from1 c) 1 = _ from met_succ (V.from1 c) 1 (by decide)]
  exact good_next (good1_0 hf hA c) (V.from1 c 1) (not_met (V.from1_inj c) 1 (by decide))
    (masked_eq hf 1 c (V.from1 c 1) (V.word1_0 A c) (V.word1_1 A c) (query_one hA c) (fun h j d => (V.key1_1 A c h j d).trans (hA.k _ _ _ _ _))) (fun h j d => (V.val1_1 A c h j d).trans (hA.v _ _ _ _ _))
theorem good1_2 (hf : Spec.Finite X Wq K) (hA : Fits A X Wq K V' Wo) (c : Fin 8) :
    Good (fun h r => sc X Wq K 1 h (glob c r)) (fun h o j d => V' 1 (glob o j) h d) (met (V.from1 c) 2) (V.run1_2 A c) := by
  rw [show met (V.from1 c) 2 = _ from met_succ (V.from1 c) 2 (by decide)]
  exact good_next (good1_1 hf hA c) (V.from1 c 2) (not_met (V.from1_inj c) 2 (by decide))
    (masked_eq hf 1 c (V.from1 c 2) (V.word1_0 A c) (V.word1_2 A c) (query_one hA c) (fun h j d => (V.key1_2 A c h j d).trans (hA.k _ _ _ _ _))) (fun h j d => (V.val1_2 A c h j d).trans (hA.v _ _ _ _ _))
theorem good1_3 (hf : Spec.Finite X Wq K) (hA : Fits A X Wq K V' Wo) (c : Fin 8) :
    Good (fun h r => sc X Wq K 1 h (glob c r)) (fun h o j d => V' 1 (glob o j) h d) (met (V.from1 c) 3) (V.run1_3 A c) := by
  rw [show met (V.from1 c) 3 = _ from met_succ (V.from1 c) 3 (by decide)]
  exact good_next (good1_2 hf hA c) (V.from1 c 3) (not_met (V.from1_inj c) 3 (by decide))
    (masked_eq hf 1 c (V.from1 c 3) (V.word1_0 A c) (V.word1_3 A c) (query_one hA c) (fun h j d => (V.key1_3 A c h j d).trans (hA.k _ _ _ _ _))) (fun h j d => (V.val1_3 A c h j d).trans (hA.v _ _ _ _ _))
theorem good1_4 (hf : Spec.Finite X Wq K) (hA : Fits A X Wq K V' Wo) (c : Fin 8) :
    Good (fun h r => sc X Wq K 1 h (glob c r)) (fun h o j d => V' 1 (glob o j) h d) (met (V.from1 c) 4) (V.run1_4 A c) := by
  rw [show met (V.from1 c) 4 = _ from met_succ (V.from1 c) 4 (by decide)]
  exact good_next (good1_3 hf hA c) (V.from1 c 4) (not_met (V.from1_inj c) 4 (by decide))
    (masked_eq hf 1 c (V.from1 c 4) (V.word1_0 A c) (V.word1_4 A c) (query_one hA c) (fun h j d => (V.key1_4 A c h j d).trans (hA.k _ _ _ _ _))) (fun h j d => (V.val1_4 A c h j d).trans (hA.v _ _ _ _ _))
theorem good1_5 (hf : Spec.Finite X Wq K) (hA : Fits A X Wq K V' Wo) (c : Fin 8) :
    Good (fun h r => sc X Wq K 1 h (glob c r)) (fun h o j d => V' 1 (glob o j) h d) (met (V.from1 c) 5) (V.run1_5 A c) := by
  rw [show met (V.from1 c) 5 = _ from met_succ (V.from1 c) 5 (by decide)]
  exact good_next (good1_4 hf hA c) (V.from1 c 5) (not_met (V.from1_inj c) 5 (by decide))
    (masked_eq hf 1 c (V.from1 c 5) (V.word1_0 A c) (V.word1_5 A c) (query_one hA c) (fun h j d => (V.key1_5 A c h j d).trans (hA.k _ _ _ _ _))) (fun h j d => (V.val1_5 A c h j d).trans (hA.v _ _ _ _ _))
theorem good1_6 (hf : Spec.Finite X Wq K) (hA : Fits A X Wq K V' Wo) (c : Fin 8) :
    Good (fun h r => sc X Wq K 1 h (glob c r)) (fun h o j d => V' 1 (glob o j) h d) (met (V.from1 c) 6) (V.run1_6 A c) := by
  rw [show met (V.from1 c) 6 = _ from met_succ (V.from1 c) 6 (by decide)]
  exact good_next (good1_5 hf hA c) (V.from1 c 6) (not_met (V.from1_inj c) 6 (by decide))
    (masked_eq hf 1 c (V.from1 c 6) (V.word1_0 A c) (V.word1_6 A c) (query_one hA c) (fun h j d => (V.key1_6 A c h j d).trans (hA.k _ _ _ _ _))) (fun h j d => (V.val1_6 A c h j d).trans (hA.v _ _ _ _ _))
theorem good1_7 (hf : Spec.Finite X Wq K) (hA : Fits A X Wq K V' Wo) (c : Fin 8) :
    Good (fun h r => sc X Wq K 1 h (glob c r)) (fun h o j d => V' 1 (glob o j) h d) (met (V.from1 c) 7) (V.run1_7 A c) := by
  rw [show met (V.from1 c) 7 = _ from met_succ (V.from1 c) 7 (by decide)]
  exact good_next (good1_6 hf hA c) (V.from1 c 7) (not_met (V.from1_inj c) 7 (by decide))
    (masked_eq hf 1 c (V.from1 c 7) (V.word1_0 A c) (V.word1_7 A c) (query_one hA c) (fun h j d => (V.key1_7 A c h j d).trans (hA.k _ _ _ _ _))) (fun h j d => (V.val1_7 A c h j d).trans (hA.v _ _ _ _ _))

/-- What a batch's final running values become in the output. -/
theorem finish_eq (hA : Fits A X Wq K V' Wo) (b : Fin 2) (c : Fin 8) {R : Run Ideal}
    (hR : Good (fun h r => sc X Wq K b h (glob c r)) (fun h o j d => V' b (glob o j) h d) Finset.univ R) (r : Fin 128) (e : Fin 512) :
    finish R.l R.a (V.v1900 A c) (ix3 (0 : Fin 1) r e) = out X Wq K V' Wo b (glob c r) e := by
  rw [finish_at]
  refine Finset.sum_congr rfl fun x _ => ?_
  rw [V.wo_at, hA.wo]
  exact congrArg (· * Wo x e) (holds_all (hR _ r) _)

/-- The kernel's output, at one entry. -/
theorem out_at (hf : Spec.Finite X Wq K) (hA : Fits A X Wq K V' Wo) (c : Fin 8) (b : Fin 2) (r : Fin 128) (e : Fin 512) :
    outAt A c (ix3 b r e : S2x128x512.Idx) = out X Wq K V' Wo b (glob c r) e := by
  have h0 := good0_7 hf hA c
  have h1 := good1_7 hf hA c
  rw [met_all (V.from0_inj c)] at h0
  rw [met_all (V.from1_inj c)] at h1
  unfold outAt
  fin_cases b
  · refine (if_pos rfl).trans ?_
    rw [V.out0]
    exact finish_eq hA 0 c h0 r e
  · refine (if_neg Nat.one_ne_zero).trans ?_
    rw [V.out1]
    exact finish_eq hA 1 c h1 r e

end Cert.KProof
-- ==== Proof.Blocks.lean ====
/-
# The launch's arrays

The kernel takes each argument whole, and writes its result whole; each device's arrays are its blocks of the whole ones.
-/
module

public import proofs.«01_k».proof.Proof.Launch
public import proofs.«01_k».proof.Proof.KernelValue
public import Idealize.ShloMosaic.Lib.Layout

@[expose] public section

noncomputable section

namespace Cert.KProof

open Cert.KernelIdeal Cert.KernelIdeal.Gen
open Idealize.ShloMosaic Idealize.ShloMosaic.TcCoe

open Cert.Spec

variable (m : (ℓ : Loc nD τ sig) → Buf (Elt Ideal) ℓ) (ρ : Dev nD → PrngReg)

/-! ## The windows are whole -/

theorem inp_x (c : Dev nD) : (inp m).x c = m ((c.tc : Thread nD τ).loc main_arg0) := by
  have hz : (fun a => (win0_0.index (0 : Fin 1)) a * main_arg0.ty.shape.size a) = fun _ => 0 := funext fun a => by fin_cases a <;> decide
  show (win0_0.blk (0 : Fin 1)).view.read (Elt Ideal) (m ((c : Thread nD τ).loc main_arg0)) = _
  exact Memref.read_access_unit_zero (Elt Ideal) main_arg0 hz (fun a => by fin_cases a <;> decide) _

theorem inp_wq (c : Dev nD) : (inp m).wq c = m ((c.tc : Thread nD τ).loc main_arg1) := by
  have hz : (fun a => (win0_1.index (0 : Fin 1)) a * main_arg1.ty.shape.size a) = fun _ => 0 := funext fun a => by fin_cases a <;> decide
  show (win0_1.blk (0 : Fin 1)).view.read (Elt Ideal) (m ((c : Thread nD τ).loc main_arg1)) = _
  exact Memref.read_access_unit_zero (Elt Ideal) main_arg1 hz (fun a => by fin_cases a <;> decide) _

theorem inp_k (c : Dev nD) : (inp m).k c = m ((c.tc : Thread nD τ).loc main_arg2) := by
  have hz : (fun a => (win0_2.index (0 : Fin 1)) a * main_arg2.ty.shape.size a) = fun _ => 0 := funext fun a => by fin_cases a <;> decide
  show (win0_2.blk (0 : Fin 1)).view.read (Elt Ideal) (m ((c : Thread nD τ).loc main_arg2)) = _
  exact Memref.read_access_unit_zero (Elt Ideal) main_arg2 hz (fun a => by fin_cases a <;> decide) _

theorem inp_v (c : Dev nD) : (inp m).v c = m ((c.tc : Thread nD τ).loc main_arg3) := by
  have hz : (fun a => (win0_3.index (0 : Fin 1)) a * main_arg3.ty.shape.size a) = fun _ => 0 := funext fun a => by fin_cases a <;> decide
  show (win0_3.blk (0 : Fin 1)).view.read (Elt Ideal) (m ((c : Thread nD τ).loc main_arg3)) = _
  exact Memref.read_access_unit_zero (Elt Ideal) main_arg3 hz (fun a => by fin_cases a <;> decide) _

theorem inp_wo (c : Dev nD) : (inp m).wo c = m ((c.tc : Thread nD τ).loc main_arg4) := by
  have hz : (fun a => (win0_4.index (0 : Fin 1)) a * main_arg4.ty.shape.size a) = fun _ => 0 := funext fun a => by fin_cases a <;> decide
  show (win0_4.blk (0 : Fin 1)).view.read (Elt Ideal) (m ((c : Thread nD τ).loc main_arg4)) = _
  exact Memref.read_access_unit_zero (Elt Ideal) main_arg4 hz (fun a => by fin_cases a <;> decide) _

/-- The window's block of the result, after the launch. -/
theorem finalA_block (c : Dev nD) : (win0_5.blk (0 : Fin 1)).view.read (Elt Ideal) (finalA m ρ c (5 : Fin 6)) = outAt (inp m) c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

/-- The result, after the launch. -/
theorem finalA_out (c : Dev nD) : finalA m ρ c (5 : Fin 6) = outAt (inp m) c := by
  have hz : (fun a => (win0_5.index (0 : Fin 1)) a * main_v1.ty.shape.size a) = fun _ => 0 := funext fun a => by fin_cases a <;> decide
  exact (Memref.read_access_unit_zero (Elt Ideal) main_v1 hz (fun a => by fin_cases a <;> decide) _).symm.trans (finalA_block m ρ c)

/-! ## Blocks of the whole arrays -/

theorem block_three (c : Fin 8) (x : FVec Ideal ⟨3, ![2, 1024, 512]⟩ .f32) (b : Fin 2) (r : Fin 128) (e : Fin 512) :
    Layout.block ⟨3, ![2, 128, 512]⟩ ⟨3, ![2, 1024, 512]⟩ 1 8 c x (by decide) (ix3 b r e) = x (ix3 b (Spec.glob c r) e) :=
  congrArg x (funext fun a => by fin_cases a <;> rfl)

theorem block_four (c : Fin 8) (x : FVec Ideal ⟨4, ![2, 1024, 4, 64]⟩ .f32) (b : Fin 2) (r : Fin 128) (h : Fin 4) (d : Fin 64) :
    Layout.block ⟨4, ![2, 128, 4, 64]⟩ ⟨4, ![2, 1024, 4, 64]⟩ 1 8 c x (by decide) (ix4 b r h d) = x (ix4 b (Spec.glob c r) h d) :=
  congrArg x (funext fun a => by fin_cases a <;> rfl)

end Cert.KProof
-- ==== Proof.Precondition.lean ====
/-
# What the precondition says

No entry of a device's block of the inputs, of the query weights or of its block of the keys is infinite.
-/
module

public import proofs.«01_k».proof.Defs
public import proofs.«01_k».proof.Proof.Online
public import Idealize.ShloMosaic.Lib.ReduceAll

@[expose] public section

noncomputable section

namespace Cert.Precondition

open Idealize.ShloMosaic

instance kernel_facts : Cert.Pre_finite_KernelIdeal.Facts where
  bcast_S_S2x128x512 := by decide
  reducesTo_S2x128x512_S_d0_1_2 := by decide
  h_S_ := by decide
  bcast_S_S512x256 := by decide
  reducesTo_S512x256_S_d0_1 := by decide
  bcast_S_S2x128x4x64 := by decide
  reducesTo_S2x128x4x64_S_d0_1_2_3 := by decide

instance reference_facts : Cert.Pre_finite_ReferenceIdeal.Facts where
  bcast_S_S2x1024x512 := by decide
  reducesTo_S2x1024x512_S_d0_1_2 := by decide
  h_S_ := by decide
  bcast_S_S512x256 := by decide
  reducesTo_S512x256_S_d0_1 := by decide
  bcast_S_S2x1024x4x64 := by decide
  reducesTo_S2x1024x4x64_S_d0_1_2_3 := by decide

open Cert.Pre_finite_KernelIdeal in
/-- Each entry of the three blocks is a real number. -/
theorem real_of_pre (x : FVec Ideal S2x128x512 .f32) (wq : FVec Ideal S512x256 .f32) (k v : FVec Ideal S2x128x4x64 .f32) (wo : FVec Ideal S256x512 .f32)
    (h : fn (F := Ideal) x wq k v wo = fun _ => 1#1) :
    (∀ i, ∃ r : ℝ, x i = (r : EReal)) ∧ (∀ i, ∃ r : ℝ, wq i = (r : EReal)) ∧ (∀ i, ∃ r : ℝ, k i = (r : EReal)) := by
  haveI : Subsingleton S_.Idx := ⟨fun a b => funext fun i => i.elim0⟩
  have e := congrFun h (fun i => i.elim0)
  dsimp only [fn] at e
  obtain ⟨e, h3⟩ := IntOp.andi_eq_one.1 e
  obtain ⟨h1, h2⟩ := IntOp.andi_eq_one.1 e
  exact ⟨fun i => Online.real_of_lt Online.pos_inf (Host.reduce_andi_all _ _ _ _ _ h1 i),
    fun i => Online.real_of_lt Online.pos_inf (Host.reduce_andi_all _ _ _ _ _ h2 i),
    fun i => Online.real_of_lt Online.pos_inf (Host.reduce_andi_all _ _ _ _ _ h3 i)⟩

end Cert.Precondition
-- ==== Proof.Algebraic.lean ====
/-
# The kernel computes the reference

Each device's result is its block of the reference's.
-/
module

public import proofs.«01_k».proof.Proof.Blocks
public import proofs.«01_k».proof.Proof.Precondition

@[expose] public section

noncomputable section

namespace Cert.KProof

open Cert.KernelIdeal Cert.KernelIdeal.Gen
open Idealize.ShloMosaic Idealize.ShloMosaic.TcCoe

/-- What the precondition and the claim's layout say of the whole arrays: they are real numbers. -/
theorem finite_whole {m : (ℓ : Loc nD τ sig) → Buf (Elt Ideal) ℓ} (hp : Cert.Pre_KernelIdeal_finite_KernelIdeal m)
    (x : FVec Ideal ⟨3, ![2, 1024, 512]⟩ .f32) (wq : FVec Ideal ⟨2, ![512, 256]⟩ .f32) (k : FVec Ideal ⟨4, ![2, 1024, 4, 64]⟩ .f32)
    (hx : ∀ c : Dev nD, m ((c.tc : Thread nD τ).loc main_arg0) = Layout.block ⟨3, ![2, 128, 512]⟩ ⟨3, ![2, 1024, 512]⟩ 1 8 c x (by decide))
    (hw : ∀ c : Dev nD, m ((c.tc : Thread nD τ).loc main_arg1) = wq)
    (hk : ∀ c : Dev nD, m ((c.tc : Thread nD τ).loc main_arg2) = Layout.block ⟨4, ![2, 128, 4, 64]⟩ ⟨4, ![2, 1024, 4, 64]⟩ 1 8 c k (by decide)) :
    Spec.Finite (fun b i e => x (ix3 b i e)) (fun e d => wq (ix2 e d)) (fun b j h d => k (ix4 b j h d)) where
  x b i e := by
    obtain ⟨c, r, rfl⟩ := Spec.exists_glob i
    obtain ⟨y, hy⟩ := (Precondition.real_of_pre _ _ _ _ _ (hp c)).1 (ix3 b r e)
    refine ⟨y, hy ▸ ?_⟩
    exact (block_three c x b r e).symm.trans (congrFun (hx c).symm _)
  wq e d := by
    obtain ⟨y, hy⟩ := (Precondition.real_of_pre _ _ _ _ _ (hp 0)).2.1 (ix2 e d)
    exact ⟨y, hy ▸ congrFun (hw 0).symm _⟩
  k b j h d := by
    obtain ⟨c, r, rfl⟩ := Spec.exists_glob j
    obtain ⟨y, hy⟩ := (Precondition.real_of_pre _ _ _ _ _ (hp c)).2.2 (ix4 b r h d)
    refine ⟨y, hy ▸ ?_⟩
    exact (block_four c k b r h d).symm.trans (congrFun (hk c).symm _)

/-- The devices' arguments are the blocks of the whole arrays. -/
theorem fits_whole {m : (ℓ : Loc nD τ sig) → Buf (Elt Ideal) ℓ}
    (x : FVec Ideal ⟨3, ![2, 1024, 512]⟩ .f32) (wq : FVec Ideal ⟨2, ![512, 256]⟩ .f32) (k v : FVec Ideal ⟨4, ![2, 1024, 4, 64]⟩ .f32)
    (wo : FVec Ideal ⟨2, ![256, 512]⟩ .f32)
    (hx : ∀ c : Dev nD, m ((c.tc : Thread nD τ).loc main_arg0) = Layout.block ⟨3, ![2, 128, 512]⟩ ⟨3, ![2, 1024, 512]⟩ 1 8 c x (by decide))
    (hw : ∀ c : Dev nD, m ((c.tc : Thread nD τ).loc main_arg1) = wq)
    (hk : ∀ c : Dev nD, m ((c.tc : Thread nD τ).loc main_arg2) = Layout.block ⟨4, ![2, 128, 4, 64]⟩ ⟨4, ![2, 1024, 4, 64]⟩ 1 8 c k (by decide))
    (hv : ∀ c : Dev nD, m ((c.tc : Thread nD τ).loc main_arg3) = Layout.block ⟨4, ![2, 128, 4, 64]⟩ ⟨4, ![2, 1024, 4, 64]⟩ 1 8 c v (by decide))
    (ho : ∀ c : Dev nD, m ((c.tc : Thread nD τ).loc main_arg4) = wo) :
    Fits (inp m) (fun b i e => x (ix3 b i e)) (fun e d => wq (ix2 e d)) (fun b j h d => k (ix4 b j h d)) (fun b j h d => v (ix4 b j h d))
      (fun e d => wo (ix2 e d)) where
  x c b r e := (congrFun ((inp_x m c).trans (hx c)) _).trans (block_three c x b r e)
  wq c e d := congrFun ((inp_wq m c).trans (hw c)) _
  k c b j h d := (congrFun ((inp_k m c).trans (hk c)) _).trans (block_four c k b j h d)
  v c b j h d := (congrFun ((inp_v m c).trans (hv c)) _).trans (block_four c v b j h d)
  wo c e d := congrFun ((inp_wo m c).trans (ho c)) _

/-- An index of a device's result, by its coordinates. -/
theorem eq_ix_three (i : S2x128x512.Idx) : ∃ b r e, i = ix3 b r e :=
  ⟨i 0, i 1, i 2, funext fun a => by fin_cases a <;> rfl⟩

/-- Each device's result is its block of the reference's value. -/
theorem out_block {m : (ℓ : Loc nD τ sig) → Buf (Elt Ideal) ℓ} (hp : Cert.Pre_KernelIdeal_finite_KernelIdeal m)
    (x : FVec Ideal ⟨3, ![2, 1024, 512]⟩ .f32) (wq : FVec Ideal ⟨2, ![512, 256]⟩ .f32) (k v : FVec Ideal ⟨4, ![2, 1024, 4, 64]⟩ .f32)
    (wo : FVec Ideal ⟨2, ![256, 512]⟩ .f32)
    (hx : ∀ c : Dev nD, m ((c.tc : Thread nD τ).loc main_arg0) = Layout.block ⟨3, ![2, 128, 512]⟩ ⟨3, ![2, 1024, 512]⟩ 1 8 c x (by decide))
    (hw : ∀ c : Dev nD, m ((c.tc : Thread nD τ).loc main_arg1) = wq)
    (hk : ∀ c : Dev nD, m ((c.tc : Thread nD τ).loc main_arg2) = Layout.block ⟨4, ![2, 128, 4, 64]⟩ ⟨4, ![2, 1024, 4, 64]⟩ 1 8 c k (by decide))
    (hv : ∀ c : Dev nD, m ((c.tc : Thread nD τ).loc main_arg3) = Layout.block ⟨4, ![2, 128, 4, 64]⟩ ⟨4, ![2, 1024, 4, 64]⟩ 1 8 c v (by decide))
    (ho : ∀ c : Dev nD, m ((c.tc : Thread nD τ).loc main_arg4) = wo) (c : Dev nD) :
    outAt (inp m) c = Layout.block ⟨3, ![2, 128, 512]⟩ ⟨3, ![2, 1024, 512]⟩ 1 8 c (RefProof.value x wq k v wo) (by decide) := by
  have hf := finite_whole hp x wq k hx hw hk
  have hA := fits_whole x wq k v wo hx hw hk hv ho
  funext i
  obtain ⟨b, r, e, rfl⟩ := eq_ix_three i
  exact (out_at hf hA c b r e).trans ((Spec.reference_value x wq k v wo _ _ _ _ _ (fun _ _ _ => rfl) (fun _ _ => rfl) (fun _ _ _ _ => rfl)
    (fun _ _ _ _ => rfl) (fun _ _ => rfl) hf b (Spec.glob c r) e).symm.trans (block_three c _ b r e).symm)

/-- From memories that hold the same arrays, the kernel's devices end with their blocks of what the reference ends with. -/
theorem algebraic : Cert.algebraic_KernelIdeal_ReferenceIdeal_pre_finite_KernelIdeal := fun m g m' g' hp hm => by
  refine ⟨RefProof.value (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  · refine (θ_run defs _ _).mono (fun r h c => ⟨?_, args_kept m g r h.1 c⟩) (run_main (F := Ideal) m g)
    exact (h.1 c (5 : Fin 6)).trans ((finalA_out m g c).trans
      (out_block hp _ _ _ _ _ (fun c => (hm c).1) (fun c => (hm c).2.1) (fun c => (hm c).2.2.1) (fun c => (hm c).2.2.2.1) (fun c => (hm c).2.2.2.2) c))
  · exact (θ_run Cert.ReferenceIdeal.defs _ _).mono (fun r h => ⟨(h 0).1.trans (RefProof.res_eq m' 0), (h 0).2⟩)
      (Cert.ReferenceIdeal.Value.run (F := Ideal) m' g')

end Cert.KProof
-- ==== Proof.lean ====
/-
# The claims

The kernel and the reference run to their end from every memory; each device's result is its block of the reference's when the
inputs, the query weights and the keys have no infinite entry.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.SameText
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The kernel runs to its end on every device from every memory: its arguments unchanged, every counter zero again. The
    two printed texts of the kernel are one text, so its run at the floats of the machine is the run at any floats. -/
theorem frame_kernel : Cert.quiescent_Kernel := fun m ρ _ => by
  rw [Cert.SameText.defs_eq]
  exact Cert.KProof.frame (F := Bits) (m := m) (ρ := ρ)

/-- The same at the extended reals. -/
theorem frame_ideal : Cert.quiescent_KernelIdeal := fun m ρ _ => Cert.KProof.frame (F := Ideal) (m := m) (ρ := ρ)

/-- The reference runs to its end with its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The five claims; the frames under the precondition follow from those without it. -/
theorem claim : Cert.Claim := ⟨Cert.Kernel.Gen.facts, Cert.KernelIdeal.Gen.facts, Cert.ReferenceIdeal.Gen.facts,
  Cert.Precondition.kernel_facts, Cert.Precondition.reference_facts,
  frame_kernel, frame_ideal, fun m ρ _ => frame_ideal m ρ trivial, frame_reference, fun m ρ _ => frame_reference m ρ trivial,
  trivial, Cert.KProof.algebraic⟩

end Cert.Proof

end
